-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11)
      ∧ r.2.mem ((c.tc : Thread Cert.Kernel9.nD Cert.Kernel9.τ).loc Cert.Kernel9.main_arg12) = m ((c.tc : Thread Cert.Kernel9.nD Cert.Kernel9.τ).loc Cert.Kernel9.main_arg12)
      ∧ r.2.mem ((c.tc : Thread Cert.Kernel9.nD Cert.Kernel9.τ).loc Cert.Kernel9.main_arg13) = m ((c.tc : Thread Cert.Kernel9.nD Cert.Kernel9.τ).loc Cert.Kernel9.main_arg13)
      ∧ r.2.mem ((c.tc : Thread Cert.Kernel9.nD Cert.Kernel9.τ).loc Cert.Kernel9.main_arg14) = m ((c.tc : Thread Cert.Kernel9.nD Cert.Kernel9.τ).loc Cert.Kernel9.main_arg14)
      ∧ r.2.mem ((c.tc : Thread Cert.Kernel9.nD Cert.Kernel9.τ).loc Cert.Kernel9.main_arg15) = m ((c.tc : Thread Cert.Kernel9.nD Cert.Kernel9.τ).loc Cert.Kernel9.main_arg15))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
      ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
      ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
      ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14)
      ∧ r.2.mem ((c.tc : Thread Cert.Kernel9Ideal.nD Cert.Kernel9Ideal.τ).loc Cert.Kernel9Ideal.main_arg15) = m ((c.tc : Thread Cert.Kernel9Ideal.nD Cert.Kernel9Ideal.τ).loc Cert.Kernel9Ideal.main_arg15))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11)
      ∧ r.2.mem ((c.tc : Thread Cert.Reference9Ideal.nD Cert.Reference9Ideal.τ).loc Cert.Reference9Ideal.main_arg12) = m ((c.tc : Thread Cert.Reference9Ideal.nD Cert.Reference9Ideal.τ).loc Cert.Reference9Ideal.main_arg12)
      ∧ r.2.mem ((c.tc : Thread Cert.Reference9Ideal.nD Cert.Reference9Ideal.τ).loc Cert.Reference9Ideal.main_arg13) = m ((c.tc : Thread Cert.Reference9Ideal.nD Cert.Reference9Ideal.τ).loc Cert.Reference9Ideal.main_arg13)
      ∧ r.2.mem ((c.tc : Thread Cert.Reference9Ideal.nD Cert.Reference9Ideal.τ).loc Cert.Reference9Ideal.main_arg14) = m ((c.tc : Thread Cert.Reference9Ideal.nD Cert.Reference9Ideal.τ).loc Cert.Reference9Ideal.main_arg14)
      ∧ r.2.mem ((c.tc : Thread Cert.Reference9Ideal.nD Cert.Reference9Ideal.τ).loc Cert.Reference9Ideal.main_arg15) = m ((c.tc : Thread Cert.Reference9Ideal.nD Cert.Reference9Ideal.τ).loc Cert.Reference9Ideal.main_arg15))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10)
      ∧ r.2.mem ((c.tc : Thread Cert.Kernel10.nD Cert.Kernel10.τ).loc Cert.Kernel10.main_arg11) = m ((c.tc : Thread Cert.Kernel10.nD Cert.Kernel10.τ).loc Cert.Kernel10.main_arg11))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
      ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10)
      ∧ r.2.mem ((c.tc : Thread Cert.Reference10Ideal.nD Cert.Reference10Ideal.τ).loc Cert.Reference10Ideal.main_arg11) = m ((c.tc : Thread Cert.Reference10Ideal.nD Cert.Reference10Ideal.τ).loc Cert.Reference10Ideal.main_arg11))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10)
      ∧ r.2.mem ((c.tc : Thread Cert.Kernel11.nD Cert.Kernel11.τ).loc Cert.Kernel11.main_arg11) = m ((c.tc : Thread Cert.Kernel11.nD Cert.Kernel11.τ).loc Cert.Kernel11.main_arg11)
      ∧ r.2.mem ((c.tc : Thread Cert.Kernel11.nD Cert.Kernel11.τ).loc Cert.Kernel11.main_arg12) = m ((c.tc : Thread Cert.Kernel11.nD Cert.Kernel11.τ).loc Cert.Kernel11.main_arg12))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
      ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11)
      ∧ r.2.mem ((c.tc : Thread Cert.Kernel11Ideal.nD Cert.Kernel11Ideal.τ).loc Cert.Kernel11Ideal.main_arg12) = m ((c.tc : Thread Cert.Kernel11Ideal.nD Cert.Kernel11Ideal.τ).loc Cert.Kernel11Ideal.main_arg12))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10)
      ∧ r.2.mem ((c.tc : Thread Cert.Reference11Ideal.nD Cert.Reference11Ideal.τ).loc Cert.Reference11Ideal.main_arg11) = m ((c.tc : Thread Cert.Reference11Ideal.nD Cert.Reference11Ideal.τ).loc Cert.Reference11Ideal.main_arg11)
      ∧ r.2.mem ((c.tc : Thread Cert.Reference11Ideal.nD Cert.Reference11Ideal.τ).loc Cert.Reference11Ideal.main_arg12) = m ((c.tc : Thread Cert.Reference11Ideal.nD Cert.Reference11Ideal.τ).loc Cert.Reference11Ideal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)) (v5 : (c : Dev Cert.KernelIdeal.nD) → Buf (Elt Ideal) ((c.tc : Thread Cert.KernelIdeal.nD Cert.KernelIdeal.τ).loc Cert.KernelIdeal.main_v9_5)) (v6 : (c : Dev Cert.KernelIdeal.nD) → Buf (Elt Ideal) ((c.tc : Thread Cert.KernelIdeal.nD Cert.KernelIdeal.τ).loc Cert.KernelIdeal.main_v9_6)) (v7 : (c : Dev Cert.KernelIdeal.nD) → Buf (Elt Ideal) ((c.tc : Thread Cert.KernelIdeal.nD Cert.KernelIdeal.τ).loc Cert.KernelIdeal.main_v9_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v9_4) = v4 c
          ∧ r.2.mem ((c.tc : Thread Cert.KernelIdeal.nD Cert.KernelIdeal.τ).loc Cert.KernelIdeal.main_v9_5) = v5 c
          ∧ r.2.mem ((c.tc : Thread Cert.KernelIdeal.nD Cert.KernelIdeal.τ).loc Cert.KernelIdeal.main_v9_6) = v6 c
          ∧ r.2.mem ((c.tc : Thread Cert.KernelIdeal.nD Cert.KernelIdeal.τ).loc Cert.KernelIdeal.main_v9_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v153) = v1 c
          ∧ r.2.mem ((c.tc : Thread Cert.ReferenceIdeal.nD Cert.ReferenceIdeal.τ).loc Cert.ReferenceIdeal.main_v154) = v2 c
          ∧ r.2.mem ((c.tc : Thread Cert.ReferenceIdeal.nD Cert.ReferenceIdeal.τ).loc Cert.ReferenceIdeal.main_v155) = v3 c
          ∧ r.2.mem ((c.tc : Thread Cert.ReferenceIdeal.nD Cert.ReferenceIdeal.τ).loc Cert.ReferenceIdeal.main_v156) = v4 c
          ∧ r.2.mem ((c.tc : Thread Cert.ReferenceIdeal.nD Cert.ReferenceIdeal.τ).loc Cert.ReferenceIdeal.main_v144) = v5 c
          ∧ r.2.mem ((c.tc : Thread Cert.ReferenceIdeal.nD Cert.ReferenceIdeal.τ).loc Cert.ReferenceIdeal.main_v152) = v6 c
          ∧ r.2.mem ((c.tc : Thread Cert.ReferenceIdeal.nD Cert.ReferenceIdeal.τ).loc Cert.ReferenceIdeal.main_v157) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)) (v2 : (c : Dev Cert.Kernel4Ideal.nD) → Buf (Elt Ideal) ((c.tc : Thread Cert.Kernel4Ideal.nD Cert.Kernel4Ideal.τ).loc Cert.Kernel4Ideal.main_v9_2)) (v3 : (c : Dev Cert.Kernel4Ideal.nD) → Buf (Elt Ideal) ((c.tc : Thread Cert.Kernel4Ideal.nD Cert.Kernel4Ideal.τ).loc Cert.Kernel4Ideal.main_v9_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_v9_2) = v2 c
          ∧ r.2.mem ((c.tc : Thread Cert.Kernel4Ideal.nD Cert.Kernel4Ideal.τ).loc Cert.Kernel4Ideal.main_v9_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_v31) = v1 c
          ∧ r.2.mem ((c.tc : Thread Cert.Reference4Ideal.nD Cert.Reference4Ideal.τ).loc Cert.Reference4Ideal.main_v12) = v2 c
          ∧ r.2.mem ((c.tc : Thread Cert.Reference4Ideal.nD Cert.Reference4Ideal.τ).loc Cert.Reference4Ideal.main_v18) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)) (v2 : (c : Dev Cert.Kernel5Ideal.nD) → Buf (Elt Ideal) ((c.tc : Thread Cert.Kernel5Ideal.nD Cert.Kernel5Ideal.τ).loc Cert.Kernel5Ideal.main_v6_2)) (v3 : (c : Dev Cert.Kernel5Ideal.nD) → Buf (Elt Ideal) ((c.tc : Thread Cert.Kernel5Ideal.nD Cert.Kernel5Ideal.τ).loc Cert.Kernel5Ideal.main_v6_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_v6_2) = v2 c
          ∧ r.2.mem ((c.tc : Thread Cert.Kernel5Ideal.nD Cert.Kernel5Ideal.τ).loc Cert.Kernel5Ideal.main_v6_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_v31) = v1 c
          ∧ r.2.mem ((c.tc : Thread Cert.Reference5Ideal.nD Cert.Reference5Ideal.τ).loc Cert.Reference5Ideal.main_v32) = v2 c
          ∧ r.2.mem ((c.tc : Thread Cert.Reference5Ideal.nD Cert.Reference5Ideal.τ).loc Cert.Reference5Ideal.main_v33) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)) (v3 : (c : Dev Cert.Kernel6Ideal.nD) → Buf (Elt Ideal) ((c.tc : Thread Cert.Kernel6Ideal.nD Cert.Kernel6Ideal.τ).loc Cert.Kernel6Ideal.main_v3_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_v3_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v28) = v1 c
          ∧ r.2.mem ((c.tc : Thread Cert.Reference6Ideal.nD Cert.Reference6Ideal.τ).loc Cert.Reference6Ideal.main_v9) = v2 c
          ∧ r.2.mem ((c.tc : Thread Cert.Reference6Ideal.nD Cert.Reference6Ideal.τ).loc Cert.Reference6Ideal.main_v15) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)) (v2 : (c : Dev Cert.Kernel7Ideal.nD) → Buf (Elt Ideal) ((c.tc : Thread Cert.Kernel7Ideal.nD Cert.Kernel7Ideal.τ).loc Cert.Kernel7Ideal.main_v3_2)) (v3 : (c : Dev Cert.Kernel7Ideal.nD) → Buf (Elt Ideal) ((c.tc : Thread Cert.Kernel7Ideal.nD Cert.Kernel7Ideal.τ).loc Cert.Kernel7Ideal.main_v3_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_v3_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_v29) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_v16) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)) (v2 : (c : Dev Cert.Kernel8Ideal.nD) → Buf (Elt Ideal) ((c.tc : Thread Cert.Kernel8Ideal.nD Cert.Kernel8Ideal.τ).loc Cert.Kernel8Ideal.main_v3_2)) (v3 : (c : Dev Cert.Kernel8Ideal.nD) → Buf (Elt Ideal) ((c.tc : Thread Cert.Kernel8Ideal.nD Cert.Kernel8Ideal.τ).loc Cert.Kernel8Ideal.main_v3_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_v3_2) = v2 c
          ∧ r.2.mem ((c.tc : Thread Cert.Kernel8Ideal.nD Cert.Kernel8Ideal.τ).loc Cert.Kernel8Ideal.main_v3_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_v28) = v1 c
          ∧ r.2.mem ((c.tc : Thread Cert.Reference8Ideal.nD Cert.Reference8Ideal.τ).loc Cert.Reference8Ideal.main_v9) = v2 c
          ∧ r.2.mem ((c.tc : Thread Cert.Reference8Ideal.nD Cert.Reference8Ideal.τ).loc Cert.Reference8Ideal.main_v15) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)
      ∧ m' ((c.tc : Thread Cert.Reference9Ideal.nD Cert.Reference9Ideal.τ).loc Cert.Reference9Ideal.main_arg12) = m ((c.tc : Thread Cert.Kernel9Ideal.nD Cert.Kernel9Ideal.τ).loc Cert.Kernel9Ideal.main_arg12)
      ∧ m' ((c.tc : Thread Cert.Reference9Ideal.nD Cert.Reference9Ideal.τ).loc Cert.Reference9Ideal.main_arg13) = m ((c.tc : Thread Cert.Kernel9Ideal.nD Cert.Kernel9Ideal.τ).loc Cert.Kernel9Ideal.main_arg13)
      ∧ m' ((c.tc : Thread Cert.Reference9Ideal.nD Cert.Reference9Ideal.τ).loc Cert.Reference9Ideal.main_arg14) = m ((c.tc : Thread Cert.Kernel9Ideal.nD Cert.Kernel9Ideal.τ).loc Cert.Kernel9Ideal.main_arg14)
      ∧ m' ((c.tc : Thread Cert.Reference9Ideal.nD Cert.Reference9Ideal.τ).loc Cert.Reference9Ideal.main_arg15) = m ((c.tc : Thread Cert.Kernel9Ideal.nD Cert.Kernel9Ideal.τ).loc Cert.Kernel9Ideal.main_arg15)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)) (v2 : (c : Dev Cert.Kernel9Ideal.nD) → Buf (Elt Ideal) ((c.tc : Thread Cert.Kernel9Ideal.nD Cert.Kernel9Ideal.τ).loc Cert.Kernel9Ideal.main_v4_2)) (v3 : (c : Dev Cert.Kernel9Ideal.nD) → Buf (Elt Ideal) ((c.tc : Thread Cert.Kernel9Ideal.nD Cert.Kernel9Ideal.τ).loc Cert.Kernel9Ideal.main_v4_3)) (v4 : (c : Dev Cert.Kernel9Ideal.nD) → Buf (Elt Ideal) ((c.tc : Thread Cert.Kernel9Ideal.nD Cert.Kernel9Ideal.τ).loc Cert.Kernel9Ideal.main_v4_4)) (v5 : (c : Dev Cert.Kernel9Ideal.nD) → Buf (Elt Ideal) ((c.tc : Thread Cert.Kernel9Ideal.nD Cert.Kernel9Ideal.τ).loc Cert.Kernel9Ideal.main_v4_5)) (v6 : (c : Dev Cert.Kernel9Ideal.nD) → Buf (Elt Ideal) ((c.tc : Thread Cert.Kernel9Ideal.nD Cert.Kernel9Ideal.τ).loc Cert.Kernel9Ideal.main_v4_6)) (v7 : (c : Dev Cert.Kernel9Ideal.nD) → Buf (Elt Ideal) ((c.tc : Thread Cert.Kernel9Ideal.nD Cert.Kernel9Ideal.τ).loc Cert.Kernel9Ideal.main_v4_7)) (v8 : (c : Dev Cert.Kernel9Ideal.nD) → Buf (Elt Ideal) ((c.tc : Thread Cert.Kernel9Ideal.nD Cert.Kernel9Ideal.τ).loc Cert.Kernel9Ideal.main_v4_8)) (v9 : (c : Dev Cert.Kernel9Ideal.nD) → Buf (Elt Ideal) ((c.tc : Thread Cert.Kernel9Ideal.nD Cert.Kernel9Ideal.τ).loc Cert.Kernel9Ideal.main_v4_9)) (v10 : (c : Dev Cert.Kernel9Ideal.nD) → Buf (Elt Ideal) ((c.tc : Thread Cert.Kernel9Ideal.nD Cert.Kernel9Ideal.τ).loc Cert.Kernel9Ideal.main_v4_10)) (v11 : (c : Dev Cert.Kernel9Ideal.nD) → Buf (Elt Ideal) ((c.tc : Thread Cert.Kernel9Ideal.nD Cert.Kernel9Ideal.τ).loc Cert.Kernel9Ideal.main_v4_11)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_v4_2) = v2 c
          ∧ r.2.mem ((c.tc : Thread Cert.Kernel9Ideal.nD Cert.Kernel9Ideal.τ).loc Cert.Kernel9Ideal.main_v4_3) = v3 c
          ∧ r.2.mem ((c.tc : Thread Cert.Kernel9Ideal.nD Cert.Kernel9Ideal.τ).loc Cert.Kernel9Ideal.main_v4_4) = v4 c
          ∧ r.2.mem ((c.tc : Thread Cert.Kernel9Ideal.nD Cert.Kernel9Ideal.τ).loc Cert.Kernel9Ideal.main_v4_5) = v5 c
          ∧ r.2.mem ((c.tc : Thread Cert.Kernel9Ideal.nD Cert.Kernel9Ideal.τ).loc Cert.Kernel9Ideal.main_v4_6) = v6 c
          ∧ r.2.mem ((c.tc : Thread Cert.Kernel9Ideal.nD Cert.Kernel9Ideal.τ).loc Cert.Kernel9Ideal.main_v4_7) = v7 c
          ∧ r.2.mem ((c.tc : Thread Cert.Kernel9Ideal.nD Cert.Kernel9Ideal.τ).loc Cert.Kernel9Ideal.main_v4_8) = v8 c
          ∧ r.2.mem ((c.tc : Thread Cert.Kernel9Ideal.nD Cert.Kernel9Ideal.τ).loc Cert.Kernel9Ideal.main_v4_9) = v9 c
          ∧ r.2.mem ((c.tc : Thread Cert.Kernel9Ideal.nD Cert.Kernel9Ideal.τ).loc Cert.Kernel9Ideal.main_v4_10) = v10 c
          ∧ r.2.mem ((c.tc : Thread Cert.Kernel9Ideal.nD Cert.Kernel9Ideal.τ).loc Cert.Kernel9Ideal.main_v4_11) = v11 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
          ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
          ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
          ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14)
          ∧ r.2.mem ((c.tc : Thread Cert.Kernel9Ideal.nD Cert.Kernel9Ideal.τ).loc Cert.Kernel9Ideal.main_arg15) = m ((c.tc : Thread Cert.Kernel9Ideal.nD Cert.Kernel9Ideal.τ).loc Cert.Kernel9Ideal.main_arg15))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v27) = v0 c
          ∧ r.2.mem ((c.tc : Thread Cert.Reference9Ideal.nD Cert.Reference9Ideal.τ).loc Cert.Reference9Ideal.main_v51) = v1 c
          ∧ r.2.mem ((c.tc : Thread Cert.Reference9Ideal.nD Cert.Reference9Ideal.τ).loc Cert.Reference9Ideal.main_v75) = v2 c
          ∧ r.2.mem ((c.tc : Thread Cert.Reference9Ideal.nD Cert.Reference9Ideal.τ).loc Cert.Reference9Ideal.main_v99) = v3 c
          ∧ r.2.mem ((c.tc : Thread Cert.Reference9Ideal.nD Cert.Reference9Ideal.τ).loc Cert.Reference9Ideal.main_v8) = v4 c
          ∧ r.2.mem ((c.tc : Thread Cert.Reference9Ideal.nD Cert.Reference9Ideal.τ).loc Cert.Reference9Ideal.main_v32) = v5 c
          ∧ r.2.mem ((c.tc : Thread Cert.Reference9Ideal.nD Cert.Reference9Ideal.τ).loc Cert.Reference9Ideal.main_v56) = v6 c
          ∧ r.2.mem ((c.tc : Thread Cert.Reference9Ideal.nD Cert.Reference9Ideal.τ).loc Cert.Reference9Ideal.main_v80) = v7 c
          ∧ r.2.mem ((c.tc : Thread Cert.Reference9Ideal.nD Cert.Reference9Ideal.τ).loc Cert.Reference9Ideal.main_v14) = v8 c
          ∧ r.2.mem ((c.tc : Thread Cert.Reference9Ideal.nD Cert.Reference9Ideal.τ).loc Cert.Reference9Ideal.main_v38) = v9 c
          ∧ r.2.mem ((c.tc : Thread Cert.Reference9Ideal.nD Cert.Reference9Ideal.τ).loc Cert.Reference9Ideal.main_v62) = v10 c
          ∧ r.2.mem ((c.tc : Thread Cert.Reference9Ideal.nD Cert.Reference9Ideal.τ).loc Cert.Reference9Ideal.main_v86) = v11 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11)
          ∧ r.2.mem ((c.tc : Thread Cert.Reference9Ideal.nD Cert.Reference9Ideal.τ).loc Cert.Reference9Ideal.main_arg12) = m' ((c.tc : Thread Cert.Reference9Ideal.nD Cert.Reference9Ideal.τ).loc Cert.Reference9Ideal.main_arg12)
          ∧ r.2.mem ((c.tc : Thread Cert.Reference9Ideal.nD Cert.Reference9Ideal.τ).loc Cert.Reference9Ideal.main_arg13) = m' ((c.tc : Thread Cert.Reference9Ideal.nD Cert.Reference9Ideal.τ).loc Cert.Reference9Ideal.main_arg13)
          ∧ r.2.mem ((c.tc : Thread Cert.Reference9Ideal.nD Cert.Reference9Ideal.τ).loc Cert.Reference9Ideal.main_arg14) = m' ((c.tc : Thread Cert.Reference9Ideal.nD Cert.Reference9Ideal.τ).loc Cert.Reference9Ideal.main_arg14)
          ∧ r.2.mem ((c.tc : Thread Cert.Reference9Ideal.nD Cert.Reference9Ideal.τ).loc Cert.Reference9Ideal.main_arg15) = m' ((c.tc : Thread Cert.Reference9Ideal.nD Cert.Reference9Ideal.τ).loc Cert.Reference9Ideal.main_arg15))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)
      ∧ m' ((c.tc : Thread Cert.Reference10Ideal.nD Cert.Reference10Ideal.τ).loc Cert.Reference10Ideal.main_arg11) = m ((c.tc : Thread Cert.Kernel10Ideal.nD Cert.Kernel10Ideal.τ).loc Cert.Kernel10Ideal.main_arg11)) →
    ∃ (v0 : (c : Dev Cert.Kernel10Ideal.nD) → Buf (Elt Ideal) ((c.tc : Thread Cert.Kernel10Ideal.nD Cert.Kernel10Ideal.τ).loc Cert.Kernel10Ideal.main_v8_0)) (v1 : (c : Dev Cert.Kernel10Ideal.nD) → Buf (Elt Ideal) ((c.tc : Thread Cert.Kernel10Ideal.nD Cert.Kernel10Ideal.τ).loc Cert.Kernel10Ideal.main_v8_1)) (v2 : (c : Dev Cert.Kernel10Ideal.nD) → Buf (Elt Ideal) ((c.tc : Thread Cert.Kernel10Ideal.nD Cert.Kernel10Ideal.τ).loc Cert.Kernel10Ideal.main_v8_2)) (v3 : (c : Dev Cert.Kernel10Ideal.nD) → Buf (Elt Ideal) ((c.tc : Thread Cert.Kernel10Ideal.nD Cert.Kernel10Ideal.τ).loc Cert.Kernel10Ideal.main_v8_3)) (v4 : (c : Dev Cert.Kernel10Ideal.nD) → Buf (Elt Ideal) ((c.tc : Thread Cert.Kernel10Ideal.nD Cert.Kernel10Ideal.τ).loc Cert.Kernel10Ideal.main_v8_4)) (v5 : (c : Dev Cert.Kernel10Ideal.nD) → Buf (Elt Ideal) ((c.tc : Thread Cert.Kernel10Ideal.nD Cert.Kernel10Ideal.τ).loc Cert.Kernel10Ideal.main_v8_5)) (v6 : (c : Dev Cert.Kernel10Ideal.nD) → Buf (Elt Ideal) ((c.tc : Thread Cert.Kernel10Ideal.nD Cert.Kernel10Ideal.τ).loc Cert.Kernel10Ideal.main_v8_6)) (v7 : (c : Dev Cert.Kernel10Ideal.nD) → Buf (Elt Ideal) ((c.tc : Thread Cert.Kernel10Ideal.nD Cert.Kernel10Ideal.τ).loc Cert.Kernel10Ideal.main_v8_7)) (v8 : (c : Dev Cert.Kernel10Ideal.nD) → Buf (Elt Ideal) ((c.tc : Thread Cert.Kernel10Ideal.nD Cert.Kernel10Ideal.τ).loc Cert.Kernel10Ideal.main_v8_8)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8_0) = v0 c
          ∧ r.2.mem ((c.tc : Thread Cert.Kernel10Ideal.nD Cert.Kernel10Ideal.τ).loc Cert.Kernel10Ideal.main_v8_1) = v1 c
          ∧ r.2.mem ((c.tc : Thread Cert.Kernel10Ideal.nD Cert.Kernel10Ideal.τ).loc Cert.Kernel10Ideal.main_v8_2) = v2 c
          ∧ r.2.mem ((c.tc : Thread Cert.Kernel10Ideal.nD Cert.Kernel10Ideal.τ).loc Cert.Kernel10Ideal.main_v8_3) = v3 c
          ∧ r.2.mem ((c.tc : Thread Cert.Kernel10Ideal.nD Cert.Kernel10Ideal.τ).loc Cert.Kernel10Ideal.main_v8_4) = v4 c
          ∧ r.2.mem ((c.tc : Thread Cert.Kernel10Ideal.nD Cert.Kernel10Ideal.τ).loc Cert.Kernel10Ideal.main_v8_5) = v5 c
          ∧ r.2.mem ((c.tc : Thread Cert.Kernel10Ideal.nD Cert.Kernel10Ideal.τ).loc Cert.Kernel10Ideal.main_v8_6) = v6 c
          ∧ r.2.mem ((c.tc : Thread Cert.Kernel10Ideal.nD Cert.Kernel10Ideal.τ).loc Cert.Kernel10Ideal.main_v8_7) = v7 c
          ∧ r.2.mem ((c.tc : Thread Cert.Kernel10Ideal.nD Cert.Kernel10Ideal.τ).loc Cert.Kernel10Ideal.main_v8_8) = v8 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
          ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v31) = v0 c
          ∧ r.2.mem ((c.tc : Thread Cert.Reference10Ideal.nD Cert.Reference10Ideal.τ).loc Cert.Reference10Ideal.main_v55) = v1 c
          ∧ r.2.mem ((c.tc : Thread Cert.Reference10Ideal.nD Cert.Reference10Ideal.τ).loc Cert.Reference10Ideal.main_v79) = v2 c
          ∧ r.2.mem ((c.tc : Thread Cert.Reference10Ideal.nD Cert.Reference10Ideal.τ).loc Cert.Reference10Ideal.main_v12) = v3 c
          ∧ r.2.mem ((c.tc : Thread Cert.Reference10Ideal.nD Cert.Reference10Ideal.τ).loc Cert.Reference10Ideal.main_v36) = v4 c
          ∧ r.2.mem ((c.tc : Thread Cert.Reference10Ideal.nD Cert.Reference10Ideal.τ).loc Cert.Reference10Ideal.main_v60) = v5 c
          ∧ r.2.mem ((c.tc : Thread Cert.Reference10Ideal.nD Cert.Reference10Ideal.τ).loc Cert.Reference10Ideal.main_v18) = v6 c
          ∧ r.2.mem ((c.tc : Thread Cert.Reference10Ideal.nD Cert.Reference10Ideal.τ).loc Cert.Reference10Ideal.main_v42) = v7 c
          ∧ r.2.mem ((c.tc : Thread Cert.Reference10Ideal.nD Cert.Reference10Ideal.τ).loc Cert.Reference10Ideal.main_v66) = v8 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10)
          ∧ r.2.mem ((c.tc : Thread Cert.Reference10Ideal.nD Cert.Reference10Ideal.τ).loc Cert.Reference10Ideal.main_arg11) = m' ((c.tc : Thread Cert.Reference10Ideal.nD Cert.Reference10Ideal.τ).loc Cert.Reference10Ideal.main_arg11))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)
      ∧ m' ((c.tc : Thread Cert.Reference11Ideal.nD Cert.Reference11Ideal.τ).loc Cert.Reference11Ideal.main_arg11) = m ((c.tc : Thread Cert.Kernel11Ideal.nD Cert.Kernel11Ideal.τ).loc Cert.Kernel11Ideal.main_arg11)
      ∧ m' ((c.tc : Thread Cert.Reference11Ideal.nD Cert.Reference11Ideal.τ).loc Cert.Reference11Ideal.main_arg12) = m ((c.tc : Thread Cert.Kernel11Ideal.nD Cert.Kernel11Ideal.τ).loc Cert.Kernel11Ideal.main_arg12)) →
    ∃ (v0 : (c : Dev Cert.Kernel11Ideal.nD) → Buf (Elt Ideal) ((c.tc : Thread Cert.Kernel11Ideal.nD Cert.Kernel11Ideal.τ).loc Cert.Kernel11Ideal.main_v13_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v13_2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
          ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11)
          ∧ r.2.mem ((c.tc : Thread Cert.Kernel11Ideal.nD Cert.Kernel11Ideal.τ).loc Cert.Kernel11Ideal.main_arg12) = m ((c.tc : Thread Cert.Kernel11Ideal.nD Cert.Kernel11Ideal.τ).loc Cert.Kernel11Ideal.main_arg12))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v24) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10)
          ∧ r.2.mem ((c.tc : Thread Cert.Reference11Ideal.nD Cert.Reference11Ideal.τ).loc Cert.Reference11Ideal.main_arg11) = m' ((c.tc : Thread Cert.Reference11Ideal.nD Cert.Reference11Ideal.τ).loc Cert.Reference11Ideal.main_arg11)
          ∧ r.2.mem ((c.tc : Thread Cert.Reference11Ideal.nD Cert.Reference11Ideal.τ).loc Cert.Reference11Ideal.main_arg12) = m' ((c.tc : Thread Cert.Reference11Ideal.nD Cert.Reference11Ideal.τ).loc Cert.Reference11Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Kernel.lean ====
abbrev S2x4096x1024 : Shape := ⟨3, ![2, 4096, 1024]⟩
abbrev S2x6144 : Shape := ⟨2, ![2, 6144]⟩
abbrev S1x1024x4096 : Shape := ⟨3, ![1, 1024, 4096]⟩
abbrev S1x4096x1024 : Shape := ⟨3, ![1, 4096, 1024]⟩
abbrev S1024 : Shape := ⟨1, ![1024]⟩
abbrev S1024x4096 : Shape := ⟨2, ![1024, 4096]⟩
abbrev S4096x1024 : Shape := ⟨2, ![4096, 1024]⟩
abbrev S8x512x1024 : Shape := ⟨3, ![8, 512, 1024]⟩
abbrev S2x6x1024 : Shape := ⟨3, ![2, 6, 1024]⟩
abbrev S1x1024 : Shape := ⟨2, ![1, 1024]⟩
abbrev S2x4096x4096 : Shape := ⟨3, ![2, 4096, 4096]⟩
abbrev S2x8x1024 : Shape := ⟨3, ![2, 8, 1024]⟩
abbrev S8x1024 : Shape := ⟨2, ![8, 1024]⟩
abbrev S1x256x1024 : Shape := ⟨3, ![1, 256, 1024]⟩
abbrev S1x6x1024 : Shape := ⟨3, ![1, 6, 1024]⟩
abbrev S1x256x4096 : Shape := ⟨3, ![1, 256, 4096]⟩
abbrev S1x8x1024 : Shape := ⟨3, ![1, 8, 1024]⟩
abbrev S256x4096 : Shape := ⟨2, ![256, 4096]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1x512x1024 : Shape := ⟨3, ![1, 512, 1024]⟩
abbrev S512x1024 : Shape := ⟨2, ![512, 1024]⟩
abbrev S256x512 : Shape := ⟨2, ![256, 512]⟩
abbrev S1x256x512 : Shape := ⟨3, ![1, 256, 512]⟩

abbrev nBuf : Space → Nat
  | .hbm => 24
  | .vmem => 27
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x6144, .f32⟩
  | .hbm, ⟨3, _⟩ => ⟨S1x1024x4096, .f32⟩
  | .hbm, ⟨4, _⟩ => ⟨S1x4096x1024, .f32⟩
  | .hbm, ⟨5, _⟩ => ⟨S1024, .f32⟩
  | .hbm, ⟨6, _⟩ => ⟨S2x4096x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | .hbm, ⟨10, _⟩ => ⟨S8x512x1024, .bf16⟩
  | .hbm, ⟨11, _⟩ => ⟨S4096x1024, .f32⟩
  | .hbm, ⟨12, _⟩ => ⟨S4096x1024, .bf16⟩
  | .hbm, ⟨13, _⟩ => ⟨S8x512x1024, .bf16⟩
  | .hbm, ⟨14, _⟩ => ⟨S2x6x1024, .f32⟩
  | .hbm, ⟨15, _⟩ => ⟨S1x1024, .f32⟩
  | .hbm, ⟨16, _⟩ => ⟨S2x4096x1024, .f32⟩
  | .hbm, ⟨17, _⟩ => ⟨S2x4096x1024, .bf16⟩
  | .hbm, ⟨18, _⟩ => ⟨S2x4096x1024, .bf16⟩
  | .hbm, ⟨19, _⟩ => ⟨S2x4096x4096, .bf16⟩
  | .hbm, ⟨20, _⟩ => ⟨S2x4096x4096, .bf16⟩
  | .hbm, ⟨21, _⟩ => ⟨S2x8x1024, .f32⟩
  | .hbm, ⟨22, _⟩ => ⟨S8x1024, .f32⟩
  | .hbm, ⟨23, _⟩ => ⟨S2x4096x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x6x1024, .f32⟩
  | .local _ .vmem, ⟨7, _⟩ => ⟨S1x6x1024, .f32⟩
  | .local _ .vmem, ⟨8, _⟩ => ⟨S8x512x1024, .bf16⟩
  | .local _ .vmem, ⟨9, _⟩ => ⟨S8x512x1024, .bf16⟩
  | .local _ .vmem, ⟨10, _⟩ => ⟨S1x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x4096, .bf16⟩
  | .local _ .vmem, ⟨18, _⟩ => ⟨S1x256x4096, .bf16⟩
  | .local _ .vmem, ⟨19, _⟩ => ⟨S1x256x4096, .bf16⟩
  | .local _ .vmem, ⟨20, _⟩ => ⟨S1x256x4096, .bf16⟩
  | .local _ .vmem, ⟨21, _⟩ => ⟨S1x8x1024, .f32⟩
  | .local _ .vmem, ⟨22, _⟩ => ⟨S1x8x1024, .f32⟩
  | .local _ .vmem, ⟨23, _⟩ => ⟨S8x1024, .f32⟩
  | .local _ .vmem, ⟨24, _⟩ => ⟨S1x256x1024, .bf16⟩
  | .local _ .vmem, ⟨25, _⟩ => ⟨S1x256x1024, .bf16⟩
  | .local _ .vmem, ⟨26, _⟩ => ⟨S256x4096, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev main_v9_6 : Ref sig .tc := ⟨.hbm, 22, rfl⟩
abbrev main_v9_7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S8x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S2x4096x1024 : Shape := ⟨3, ![2, 4096, 1024]⟩
abbrev S2x6144 : Shape := ⟨2, ![2, 6144]⟩
abbrev S1x1024x4096 : Shape := ⟨3, ![1, 1024, 4096]⟩
abbrev S1x4096x1024 : Shape := ⟨3, ![1, 4096, 1024]⟩
abbrev S1024 : Shape := ⟨1, ![1024]⟩
abbrev S2x1024 : Shape := ⟨2, ![2, 1024]⟩
abbrev S2x1x1024 : Shape := ⟨3, ![2, 1, 1024]⟩
abbrev S_ : Shape := ⟨0, ![]⟩
abbrev S2x4096 : Shape := ⟨2, ![2, 4096]⟩
abbrev S2x4096x1 : Shape := ⟨3, ![2, 4096, 1]⟩
abbrev S1024x4096 : Shape := ⟨2, ![1024, 4096]⟩
abbrev S2x4096x4096 : Shape := ⟨3, ![2, 4096, 4096]⟩
abbrev S4096x1024 : Shape := ⟨2, ![4096, 1024]⟩
abbrev S1x1x1024 : Shape := ⟨3, ![1, 1, 1024]⟩
abbrev S2x4x1024 : Shape := ⟨3, ![2, 4, 1024]⟩
abbrev S2x8x1024 : Shape := ⟨3, ![2, 8, 1024]⟩
abbrev S1x1024 : Shape := ⟨2, ![1, 1024]⟩
abbrev S6x1024 : Shape := ⟨2, ![6, 1024]⟩
abbrev S8x1024 : Shape := ⟨2, ![8, 1024]⟩

abbrev nBuf : Space → Nat
  | .hbm => 207
  | .vmem => 0
  | .smem => 0
  | _ => 0

abbrev hbmTy0_0 (i : Nat) : BufTy := match i % 128 with
  | 0 => ⟨S2x4096x1024, .f32⟩
  | 1 => ⟨S2x4096x1024, .f32⟩
  | 2 => ⟨S2x6144, .f32⟩
  | 3 => ⟨S1x1024x4096, .f32⟩
  | 4 => ⟨S1x4096x1024, .f32⟩
  | 5 => ⟨S1024, .f32⟩
  | 6 => ⟨S2x4096x1024, .f32⟩
  | 7 => ⟨S2x1024, .f32⟩
  | 8 => ⟨S2x1024, .f32⟩
  | 9 => ⟨S2x1024, .f32⟩
  | 10 => ⟨S2x1024, .f32⟩
  | 11 => ⟨S2x1024, .f32⟩
  | 12 => ⟨S2x1024, .f32⟩
  | 13 => ⟨S2x1x1024, .f32⟩
  | 14 => ⟨S2x4096x1024, .f32⟩
  | 15 => ⟨S2x4096x1024, .f32⟩
  | 16 => ⟨S2x4096x1024, .f32⟩
  | 17 => ⟨S2x4096x1024, .f32⟩
  | 18 => ⟨S_, .f32⟩
  | 19 => ⟨S2x4096, .f32⟩
  | 20 => ⟨S2x4096x1, .f32⟩
  | 21 => ⟨S_, .f32⟩
  | 22 => ⟨S2x4096x1, .f32⟩
  | 23 => ⟨S2x4096x1, .f32⟩
  | 24 => ⟨S_, .f32⟩
  | 25 => ⟨S2x4096x1, .f32⟩
  | 26 => ⟨S2x4096x1, .f32⟩
  | 27 => ⟨S2x4096x1, .f32⟩
  | 28 => ⟨S2x4096x1, .f32⟩
  | 29 => ⟨S_, .f32⟩
  | 30 => ⟨S2x4096x1, .f32⟩
  | 31 => ⟨S2x4096x1, .f32⟩
  | 32 => ⟨S2x4096x1024, .f32⟩
  | 33 => ⟨S2x4096x1024, .f32⟩
  | 34 => ⟨S2x1x1024, .f32⟩
  | 35 => ⟨S_, .f32⟩
  | 36 => ⟨S2x1x1024, .f32⟩
  | 37 => ⟨S2x1x1024, .f32⟩
  | 38 => ⟨S2x4096x1024, .f32⟩
  | 39 => ⟨S2x4096x1024, .f32⟩
  | 40 => ⟨S2x1x1024, .f32⟩
  | 41 => ⟨S2x4096x1024, .f32⟩
  | 42 => ⟨S2x4096x1024, .f32⟩
  | 43 => ⟨S1024x4096, .f32⟩
  | 44 => ⟨S2x4096x4096, .f32⟩
  | 45 => ⟨S_, .f32⟩
  | 46 => ⟨S2x4096x4096, .f32⟩
  | 47 => ⟨S2x4096x4096, .f32⟩
  | 48 => ⟨S_, .f32⟩
  | 49 => ⟨S2x4096x4096, .f32⟩
  | 50 => ⟨S2x4096x4096, .i1⟩
  | 51 => ⟨S_, .f32⟩
  | 52 => ⟨S2x4096x4096, .f32⟩
  | 53 => ⟨S2x4096x4096, .f32⟩
  | 54 => ⟨S_, .f32⟩
  | 55 => ⟨S2x4096x4096, .f32⟩
  | 56 => ⟨S2x4096x4096, .f32⟩
  | 57 => ⟨S4096x1024, .f32⟩
  | 58 => ⟨S2x4096x1024, .f32⟩
  | 59 => ⟨S2x1x1024, .f32⟩
  | 60 => ⟨S2x4096x1024, .f32⟩
  | 61 => ⟨S2x4096x1024, .f32⟩
  | 62 => ⟨S2x4096x1024, .f32⟩
  | 63 => ⟨S2x4096x1024, .f32⟩
  | 64 => ⟨S_, .f32⟩
  | 65 => ⟨S2x4096, .f32⟩
  | 66 => ⟨S2x4096x1, .f32⟩
  | 67 => ⟨S_, .f32⟩
  | 68 => ⟨S2x4096x1, .f32⟩
  | 69 => ⟨S2x4096x1, .f32⟩
  | 70 => ⟨S_, .f32⟩
  | 71 => ⟨S2x4096x1, .f32⟩
  | 72 => ⟨S2x4096x1, .f32⟩
  | 73 => ⟨S2x4096x1, .f32⟩
  | 74 => ⟨S2x4096x1, .f32⟩
  | 75 => ⟨S_, .f32⟩
  | 76 => ⟨S2x4096x1, .f32⟩
  | 77 => ⟨S2x4096x1, .f32⟩
  | 78 => ⟨S2x4096x1024, .f32⟩
  | 79 => ⟨S2x4096x1024, .f32⟩
  | 80 => ⟨S1x1x1024, .f32⟩
  | 81 => ⟨S2x4096x1024, .f32⟩
  | 82 => ⟨S2x4096x1024, .f32⟩
  | 83 => ⟨S2x4096x1024, .f32⟩
  | 84 => ⟨S2x4096x1024, .f32⟩
  | 85 => ⟨S_, .f32⟩
  | 86 => ⟨S2x4096x1024, .f32⟩
  | 87 => ⟨S2x4096x1024, .f32⟩
  | 88 => ⟨S_, .f32⟩
  | 89 => ⟨S2x4096, .f32⟩
  | 90 => ⟨S_, .f32⟩
  | 91 => ⟨S2x4096, .f32⟩
  | 92 => ⟨S2x4096, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S2x4096, .f32⟩
  | 101 => ⟨S_, .f32⟩
  | 102 => ⟨S2x4096, .f32⟩
  | 103 => ⟨S2x4096, .f32⟩
  | 104 => ⟨S2x4096x1024, .f32⟩
  | 105 => ⟨S2x4096x1024, .f32⟩
  | 106 => ⟨S2x4096x1024, .f32⟩
  | 107 => ⟨S_, .f32⟩
  | 108 => ⟨S1024, .f32⟩
  | 109 => ⟨S1x1x1024, .f32⟩
  | 110 => ⟨S2x4096x1024, .f32⟩
  | 111 => ⟨S2x4096x1024, .f32⟩
  | 112 => ⟨S_, .f32⟩
  | 113 => ⟨S1024, .f32⟩
  | 114 => ⟨S2x4096x1024, .f32⟩
  | 115 => ⟨S_, .f32⟩
  | 116 => ⟨S2x4096, .f32⟩
  | 117 => ⟨S2x4096x1, .f32⟩
  | 118 => ⟨S2x4096x1024, .f32⟩
  | 119 => ⟨S2x4096x1024, .f32⟩
  | 120 => ⟨S2x4096x1, .f32⟩
  | 121 => ⟨S_, .f32⟩
  | 122 => ⟨S2x4096x1, .f32⟩
  | 123 => ⟨S2x4096x1, .f32⟩
  | 124 => ⟨S_, .f32⟩
  | 125 => ⟨S2x4096, .f32⟩
  | 126 => ⟨S2x4096x1024, .f32⟩
  | 127 => ⟨S2x4096x1024, .f32⟩
  | _ => ⟨S2x4096x1024, .f32⟩

abbrev hbmTy0_1 (i : Nat) : BufTy := match i % 128 with
  | 0 => ⟨S2x4096x1024, .f32⟩
  | 1 => ⟨S2x4096x1024, .f32⟩
  | 2 => ⟨S2x4096x1024, .f32⟩
  | 3 => ⟨S2x4096x1024, .f32⟩
  | 4 => ⟨S2x4096x1024, .f32⟩
  | 5 => ⟨S2x4096x1024, .f32⟩
  | 6 => ⟨S_, .f32⟩
  | 7 => ⟨S2x1024, .f32⟩
  | 8 => ⟨S2x1x1024, .f32⟩
  | 9 => ⟨S_, .f32⟩
  | 10 => ⟨S2x1024, .f32⟩
  | 11 => ⟨S2x4096x4096, .f32⟩
  | 12 => ⟨S2x4096x4096, .f32⟩
  | 13 => ⟨S_, .f32⟩
  | 14 => ⟨S2x4096x4096, .f32⟩
  | 15 => ⟨S2x4096x4096, .f32⟩
  | 16 => ⟨S2x4096x1024, .f32⟩
  | 17 => ⟨S_, .f32⟩
  | 18 => ⟨S2x1024, .f32⟩
  | 19 => ⟨S2x1x1024, .f32⟩
  | 20 => ⟨S_, .f32⟩
  | 21 => ⟨S2x1024, .f32⟩
  | 22 => ⟨S2x4096x1024, .f32⟩
  | 23 => ⟨S_, .f32⟩
  | 24 => ⟨S2x1024, .f32⟩
  | 25 => ⟨S2x1x1024, .f32⟩
  | 26 => ⟨S2x4096x1024, .f32⟩
  | 27 => ⟨S2x4096x1024, .f32⟩
  | 28 => ⟨S_, .f32⟩
  | 29 => ⟨S2x1024, .f32⟩
  | 30 => ⟨S2x4096x1024, .f32⟩
  | 31 => ⟨S_, .f32⟩
  | 32 => ⟨S2x4096, .f32⟩
  | 33 => ⟨S2x4096x1, .f32⟩
  | 34 => ⟨S2x4096x1024, .f32⟩
  | 35 => ⟨S2x4096x1024, .f32⟩
  | 36 => ⟨S2x4096x1, .f32⟩
  | 37 => ⟨S_, .f32⟩
  | 38 => ⟨S2x4096x1, .f32⟩
  | 39 => ⟨S2x4096x1, .f32⟩
  | 40 => ⟨S_, .f32⟩
  | 41 => ⟨S2x4096, .f32⟩
  | 42 => ⟨S2x4096x1024, .f32⟩
  | 43 => ⟨S2x4096x1024, .f32⟩
  | 44 => ⟨S2x4096x1024, .f32⟩
  | 45 => ⟨S2x4096x1024, .f32⟩
  | 46 => ⟨S2x4096x1024, .f32⟩
  | 47 => ⟨S2x4096x1024, .f32⟩
  | 48 => ⟨S2x4096x1024, .f32⟩
  | 49 => ⟨S2x4096x1024, .f32⟩
  | 50 => ⟨S2x4096x1024, .f32⟩
  | 51 => ⟨S_, .f32⟩
  | 52 => ⟨S2x1024, .f32⟩
  | 53 => ⟨S2x1x1024, .f32⟩
  | 54 => ⟨S_, .f32⟩
  | 55 => ⟨S2x1024, .f32⟩
  | 56 => ⟨S2x1x1024, .f32⟩
  | 57 => ⟨S2x1x1024, .f32⟩
  | 58 => ⟨S2x1x1024, .f32⟩
  | 59 => ⟨S2x1x1024, .f32⟩
  | 60 => ⟨S2x4x1024, .f32⟩
  | 61 => ⟨S_, .f32⟩
  | 62 => ⟨S2x4x1024, .f32⟩
  | 63 => ⟨S2x8x1024, .f32⟩
  | 64 => ⟨S2x4096x1024, .f32⟩
  | 65 => ⟨S2x4096x1024, .f32⟩
  | 66 => ⟨S_, .f32⟩
  | 67 => ⟨S1024, .f32⟩
  | 68 => ⟨S1x1024, .f32⟩
  | 69 => ⟨S1x1024, .f32⟩
  | 70 => ⟨S2x1024, .f32⟩
  | 71 => ⟨S_, .f32⟩
  | 72 => ⟨S6x1024, .f32⟩
  | 73 => ⟨S8x1024, .f32⟩
  | 74 => ⟨S2x4096x1024, .bf16⟩
  | 75 => ⟨S2x4096x1024, .bf16⟩
  | 76 => ⟨S2x4096x4096, .bf16⟩
  | 77 => ⟨S2x4096x4096, .bf16⟩
  | 78 => ⟨S2x4096x1024, .bf16⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call0_cst : Ref sig .tc := ⟨.hbm, 45, rfl⟩
abbrev main_call0_v0 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_11 : Ref sig .tc := ⟨.hbm, 85, rfl⟩
abbrev main_v64 : Ref sig .tc := ⟨.hbm, 86, rfl⟩
abbrev main_v65 : Ref sig .tc := ⟨.hbm, 87, rfl⟩
abbrev main_cst_12 : Ref sig .tc := ⟨.hbm, 88, rfl⟩
abbrev main_v66 : Ref sig .tc := ⟨.hbm, 89, rfl⟩
abbrev main_cst_13 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_cst_15 : Ref sig .tc := ⟨.hbm, 95, rfl⟩
abbrev main_v70 : Ref sig .tc := ⟨.hbm, 96, rfl⟩
abbrev main_cst_16 : Ref sig .tc := ⟨.hbm, 97, rfl⟩
abbrev main_cst_17 : Ref sig .tc := ⟨.hbm, 98, rfl⟩
abbrev main_v71 : Ref sig .tc := ⟨.hbm, 99, rfl⟩
abbrev main_v72 : Ref sig .tc := ⟨.hbm, 100, rfl⟩
abbrev main_cst_18 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_19 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_20 : Ref sig .tc := ⟨.hbm, 112, rfl⟩
abbrev main_v82 : Ref sig .tc := ⟨.hbm, 113, rfl⟩
abbrev main_v83 : Ref sig .tc := ⟨.hbm, 114, rfl⟩
abbrev main_cst_21 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_22 : Ref sig .tc := ⟨.hbm, 121, rfl⟩
abbrev main_v89 : Ref sig .tc := ⟨.hbm, 122, rfl⟩
abbrev main_v90 : Ref sig .tc := ⟨.hbm, 123, rfl⟩
abbrev main_cst_23 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_24 : Ref sig .tc := ⟨.hbm, 134, rfl⟩
abbrev main_v100 : Ref sig .tc := ⟨.hbm, 135, rfl⟩
abbrev main_v101 : Ref sig .tc := ⟨.hbm, 136, rfl⟩
abbrev main_cst_25 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_26 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_27 : Ref sig .tc := ⟨.hbm, 145, rfl⟩
abbrev main_v108 : Ref sig .tc := ⟨.hbm, 146, rfl⟩
abbrev main_v109 : Ref sig .tc := ⟨.hbm, 147, rfl⟩
abbrev main_cst_28 : Ref sig .tc := ⟨.hbm, 148, rfl⟩
abbrev main_v110 : Ref sig .tc := ⟨.hbm, 149, rfl⟩
abbrev main_v111 : Ref sig .tc := ⟨.hbm, 150, rfl⟩
abbrev main_cst_29 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_cst_30 : Ref sig .tc := ⟨.hbm, 156, rfl⟩
abbrev main_v116 : Ref sig .tc := ⟨.hbm, 157, rfl⟩
abbrev main_v117 : Ref sig .tc := ⟨.hbm, 158, rfl⟩
abbrev main_cst_31 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_cst_32 : Ref sig .tc := ⟨.hbm, 165, rfl⟩
abbrev main_v123 : Ref sig .tc := ⟨.hbm, 166, rfl⟩
abbrev main_v124 : Ref sig .tc := ⟨.hbm, 167, rfl⟩
abbrev main_cst_33 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_cst_34 : Ref sig .tc := ⟨.hbm, 179, rfl⟩
abbrev main_v135 : Ref sig .tc := ⟨.hbm, 180, rfl⟩
abbrev main_v136 : Ref sig .tc := ⟨.hbm, 181, rfl⟩
abbrev main_cst_35 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_cst_36 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_cst_37 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_cst_38 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩

abbrev nD : Nat := 1
abbrev τ : Topo := Topo.v7x

variable {F : FTy → Type} [FloatOps F]
-- ==== Kernel2.lean ====
abbrev S2x4096x1024 : Shape := ⟨3, ![2, 4096, 1024]⟩
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x1024, .bf16⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference2Ideal.lean ====
abbrev S2x4096x1024 : Shape := ⟨3, ![2, 4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x1024, .bf16⟩
  | .hbm, ⟨2, _⟩ => ⟨S2x4096x1024, .f32⟩
  | .hbm, ⟨3, _⟩ => ⟨S2x4096x1024, .f32⟩
  | .hbm, ⟨4, _⟩ => ⟨S_, .f32⟩
  | .hbm, ⟨5, _⟩ => ⟨S1024x1024, .f32⟩
  | .hbm, ⟨6, _⟩ => ⟨S2x4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S2x4096x4096 : Shape := ⟨3, ![2, 4096, 4096]⟩
abbrev S2x4096x1024 : Shape := ⟨3, ![2, 4096, 1024]⟩
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2x4096x4096, .bf16⟩
  | .hbm, ⟨1, _⟩ => ⟨S2x4096x1024, .bf16⟩
  | .hbm, ⟨2, _⟩ => ⟨S8192x4096, .bf16⟩
  | .hbm, ⟨3, _⟩ => ⟨S8192x1024, .bf16⟩
  | .hbm, ⟨4, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2x4096x4096 : Shape := ⟨3, ![2, 4096, 4096]⟩
abbrev S2x4096x1024 : Shape := ⟨3, ![2, 4096, 1024]⟩
abbrev S_ : Shape := ⟨0, ![]⟩
abbrev S1024x4096 : Shape := ⟨2, ![1024, 4096]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2x4096x4096, .bf16⟩
  | .hbm, ⟨1, _⟩ => ⟨S2x4096x1024, .bf16⟩
  | .hbm, ⟨2, _⟩ => ⟨S2x4096x1024, .f32⟩
  | .hbm, ⟨3, _⟩ => ⟨S2x4096x4096, .f32⟩
  | .hbm, ⟨4, _⟩ => ⟨S_, .f32⟩
  | .hbm, ⟨5, _⟩ => ⟨S1024x4096, .f32⟩
  | .hbm, ⟨6, _⟩ => ⟨S2x4096x4096, .f32⟩
  | .hbm, ⟨7, _⟩ => ⟨S4096x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | _, _ => ⟨S2x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S16x1024 : Shape := ⟨2, ![16, 1024]⟩
abbrev S16x768 : Shape := ⟨2, ![16, 768]⟩
abbrev S1x1024x768 : Shape := ⟨3, ![1, 1024, 768]⟩
abbrev S8x2x1024 : Shape := ⟨3, ![8, 2, 1024]⟩
abbrev S_ : Shape := ⟨0, ![]⟩
abbrev S8x8x1024 : Shape := ⟨3, ![8, 8, 1024]⟩
abbrev S64x1024 : Shape := ⟨2, ![64, 1024]⟩
abbrev S8x2x768 : Shape := ⟨3, ![8, 2, 768]⟩
abbrev S8x8x768 : Shape := ⟨3, ![8, 8, 768]⟩
abbrev S64x768 : Shape := ⟨2, ![64, 768]⟩
abbrev S1024x768 : Shape := ⟨2, ![1024, 768]⟩
abbrev S64x256 : Shape := ⟨2, ![64, 256]⟩
abbrev S256x768 : Shape := ⟨2, ![256, 768]⟩

abbrev nBuf : Space → Nat
  | .hbm => 22
  | .vmem => 17
  | .smem => 0
  | _ => 0

abbrev bufTy : (tb : Table) → Fin (tcTables nBuf tb) → BufTy
  | .hbm, ⟨0, _⟩ => ⟨S16x1024, .f32⟩
  | .hbm, ⟨1, _⟩ => ⟨S16x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S8x2x1024, .f32⟩
  | .hbm, ⟨6, _⟩ => ⟨S_, .i32⟩
  | .hbm, ⟨7, _⟩ => ⟨S_, .f32⟩
  | .hbm, ⟨8, _⟩ => ⟨S8x8x1024, .f32⟩
  | .hbm, ⟨9, _⟩ => ⟨S64x1024, .f32⟩
  | .hbm, ⟨10, _⟩ => ⟨S8x2x768, .f32⟩
  | .hbm, ⟨11, _⟩ => ⟨S_, .i32⟩
  | .hbm, ⟨12, _⟩ => ⟨S_, .f32⟩
  | .hbm, ⟨13, _⟩ => ⟨S8x8x768, .f32⟩
  | .hbm, ⟨14, _⟩ => ⟨S64x768, .f32⟩
  | .hbm, ⟨15, _⟩ => ⟨S1024x768, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S1024x768, .f32⟩
  | .hbm, ⟨20, _⟩ => ⟨S1024x768, .f32⟩
  | .hbm, ⟨21, _⟩ => ⟨S1024x768, .f32⟩
  | .local _ .vmem, ⟨0, _⟩ => ⟨S64x256, .f32⟩
  | .local _ .vmem, ⟨1, _⟩ => ⟨S64x256, .f32⟩
  | .local _ .vmem, ⟨2, _⟩ => ⟨S64x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S16x1024 : Shape := ⟨2, ![16, 1024]⟩
abbrev S16x768 : Shape := ⟨2, ![16, 768]⟩
abbrev S1x1024x768 : Shape := ⟨3, ![1, 1024, 768]⟩
abbrev S1024x768 : Shape := ⟨2, ![1024, 768]⟩
abbrev S_ : Shape := ⟨0, ![]⟩
abbrev S768x1024 : Shape := ⟨2, ![768, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1024x768, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S16x768, .f32⟩
  | .hbm, ⟨16, _⟩ => ⟨S768x1024, .f32⟩
  | .hbm, ⟨17, _⟩ => ⟨S1024x768, .f32⟩
  | .hbm, ⟨18, _⟩ => ⟨S1024x768, .f32⟩
  | .hbm, ⟨19, _⟩ => ⟨S1024x768, .f32⟩
  | .hbm, ⟨20, _⟩ => ⟨S1024x768, .f32⟩
  | .hbm, ⟨21, _⟩ => ⟨S_, .f32⟩
  | .hbm, ⟨22, _⟩ => ⟨S1024x768, .f32⟩
  | .hbm, ⟨23, _⟩ => ⟨S1024x768, .f32⟩
  | .hbm, ⟨24, _⟩ => ⟨S_, .f32⟩
  | .hbm, ⟨25, _⟩ => ⟨S1024x768, .f32⟩
  | .hbm, ⟨26, _⟩ => ⟨S1024x768, .f32⟩
  | .hbm, ⟨27, _⟩ => ⟨S1024x768, .f32⟩
  | .hbm, ⟨28, _⟩ => ⟨S_, .f32⟩
  | .hbm, ⟨29, _⟩ => ⟨S1024x768, .f32⟩
  | .hbm, ⟨30, _⟩ => ⟨S1024x768, .f32⟩
  | .hbm, ⟨31, _⟩ => ⟨S1024x768, .f32⟩
  | .hbm, ⟨32, _⟩ => ⟨S_, .f32⟩
  | .hbm, ⟨33, _⟩ => ⟨S1024x768, .f32⟩
  | .hbm, ⟨34, _⟩ => ⟨S1024x768, .f32⟩
  | .hbm, ⟨35, _⟩ => ⟨S1024x768, .f32⟩
  | .hbm, ⟨36, _⟩ => ⟨S_, .f32⟩
  | .hbm, ⟨37, _⟩ => ⟨S1024x768, .f32⟩
  | .hbm, ⟨38, _⟩ => ⟨S1024x768, .f32⟩
  | .hbm, ⟨39, _⟩ => ⟨S_, .f32⟩
  | .hbm, ⟨40, _⟩ => ⟨S1024x768, .f32⟩
  | .hbm, ⟨41, _⟩ => ⟨S1024x768, .f32⟩
  | .hbm, ⟨42, _⟩ => ⟨S1024x768, .f32⟩
  | .hbm, ⟨43, _⟩ => ⟨S_, .f32⟩
  | .hbm, ⟨44, _⟩ => ⟨S1024x768, .f32⟩
  | .hbm, ⟨45, _⟩ => ⟨S1024x768, .f32⟩
  | .hbm, ⟨46, _⟩ => ⟨S1024x768, .f32⟩
  | .hbm, ⟨47, _⟩ => ⟨S_, .f32⟩
  | .hbm, ⟨48, _⟩ => ⟨S1024x768, .f32⟩
  | .hbm, ⟨49, _⟩ => ⟨S1024x768, .f32⟩
  | .hbm, ⟨50, _⟩ => ⟨S1024x768, .f32⟩
  | .hbm, ⟨51, _⟩ => ⟨S_, .f32⟩
  | .hbm, ⟨52, _⟩ => ⟨S1024x768, .f32⟩
  | .hbm, ⟨53, _⟩ => ⟨S1024x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩

abbrev nD : Nat := 1
abbrev τ : Topo := Topo.v7x

variable {F : FTy → Type} [FloatOps F]
-- ==== Kernel5.lean ====
abbrev S4x320x1024 : Shape := ⟨3, ![4, 320, 1024]⟩
abbrev S1x1024x320 : Shape := ⟨3, ![1, 1024, 320]⟩
abbrev S1024x320 : Shape := ⟨2, ![1024, 320]⟩
abbrev S320x1024 : Shape := ⟨2, ![320, 1024]⟩
abbrev S4x160x1024 : Shape := ⟨3, ![4, 160, 1024]⟩
abbrev S160x1024 : Shape := ⟨2, ![160, 1024]⟩
abbrev S1x160x1024 : Shape := ⟨3, ![1, 160, 1024]⟩

abbrev nBuf : Space → Nat
  | .hbm => 14
  | .vmem => 16
  | .smem => 0
  | _ => 0

abbrev bufTy : (tb : Table) → Fin (tcTables nBuf tb) → BufTy
  | .hbm, ⟨0, _⟩ => ⟨S4x320x1024, .bf16⟩
  | .hbm, ⟨1, _⟩ => ⟨S1x1024x320, .f32⟩
  | .hbm, ⟨2, _⟩ => ⟨S1x1024x320, .f32⟩
  | .hbm, ⟨3, _⟩ => ⟨S1x1024x320, .f32⟩
  | .hbm, ⟨4, _⟩ => ⟨S1024x320, .f32⟩
  | .hbm, ⟨5, _⟩ => ⟨S320x1024, .f32⟩
  | .hbm, ⟨6, _⟩ => ⟨S1024x320, .f32⟩
  | .hbm, ⟨7, _⟩ => ⟨S320x1024, .f32⟩
  | .hbm, ⟨8, _⟩ => ⟨S1024x320, .f32⟩
  | .hbm, ⟨9, _⟩ => ⟨S320x1024, .f32⟩
  | .hbm, ⟨10, _⟩ => ⟨S320x1024, .f32⟩
  | .hbm, ⟨11, _⟩ => ⟨S320x1024, .f32⟩
  | .hbm, ⟨12, _⟩ => ⟨S320x1024, .f32⟩
  | .hbm, ⟨13, _⟩ => ⟨S320x1024, .f32⟩
  | .local _ .vmem, ⟨0, _⟩ => ⟨S4x160x1024, .bf16⟩
  | .local _ .vmem, ⟨1, _⟩ => ⟨S4x160x1024, .bf16⟩
  | .local _ .vmem, ⟨2, _⟩ => ⟨S160x1024, .f32⟩
  | .local _ .vmem, ⟨3, _⟩ => ⟨S160x1024, .f32⟩
  | .local _ .vmem, ⟨4, _⟩ => ⟨S160x1024, .f32⟩
  | .local _ .vmem, ⟨5, _⟩ => ⟨S160x1024, .f32⟩
  | .local _ .vmem, ⟨6, _⟩ => ⟨S160x1024, .f32⟩
  | .local _ .vmem, ⟨7, _⟩ => ⟨S160x1024, .f32⟩
  | .local _ .vmem, ⟨8, _⟩ => ⟨S160x1024, .f32⟩
  | .local _ .vmem, ⟨9, _⟩ => ⟨S160x1024, .f32⟩
  | .local _ .vmem, ⟨10, _⟩ => ⟨S160x1024, .f32⟩
  | .local _ .vmem, ⟨11, _⟩ => ⟨S160x1024, .f32⟩
  | .local _ .vmem, ⟨12, _⟩ => ⟨S160x1024, .f32⟩
  | .local _ .vmem, ⟨13, _⟩ => ⟨S160x1024, .f32⟩
  | .local _ .vmem, ⟨14, _⟩ => ⟨S160x1024, .f32⟩
  | .local _ .vmem, ⟨15, _⟩ => ⟨S160x1024, .f32⟩
  | _, _ => ⟨S4x320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x160x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S160x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S160x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S160x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S160x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S4x320x1024 : Shape := ⟨3, ![4, 320, 1024]⟩
abbrev S1x1024x320 : Shape := ⟨3, ![1, 1024, 320]⟩
abbrev S_ : Shape := ⟨0, ![]⟩
abbrev S320x1024 : Shape := ⟨2, ![320, 1024]⟩
abbrev S1024x320 : Shape := ⟨2, ![1024, 320]⟩

abbrev nBuf : Space → Nat
  | .hbm => 48
  | .vmem => 0
  | .smem => 0
  | _ => 0

abbrev bufTy : (tb : Table) → Fin (tcTables nBuf tb) → BufTy
  | .hbm, ⟨0, _⟩ => ⟨S4x320x1024, .bf16⟩
  | .hbm, ⟨1, _⟩ => ⟨S1x1024x320, .f32⟩
  | .hbm, ⟨2, _⟩ => ⟨S1x1024x320, .f32⟩
  | .hbm, ⟨3, _⟩ => ⟨S1x1024x320, .f32⟩
  | .hbm, ⟨4, _⟩ => ⟨S4x320x1024, .f32⟩
  | .hbm, ⟨5, _⟩ => ⟨S_, .f32⟩
  | .hbm, ⟨6, _⟩ => ⟨S320x1024, .f32⟩
  | .hbm, ⟨7, _⟩ => ⟨S1024x320, .f32⟩
  | .hbm, ⟨8, _⟩ => ⟨S1024x320, .f32⟩
  | .hbm, ⟨9, _⟩ => ⟨S1024x320, .f32⟩
  | .hbm, ⟨10, _⟩ => ⟨S1024x320, .f32⟩
  | .hbm, ⟨11, _⟩ => ⟨S_, .f32⟩
  | .hbm, ⟨12, _⟩ => ⟨S1024x320, .f32⟩
  | .hbm, ⟨13, _⟩ => ⟨S1024x320, .f32⟩
  | .hbm, ⟨14, _⟩ => ⟨S_, .f32⟩
  | .hbm, ⟨15, _⟩ => ⟨S1024x320, .f32⟩
  | .hbm, ⟨16, _⟩ => ⟨S1024x320, .f32⟩
  | .hbm, ⟨17, _⟩ => ⟨S1024x320, .f32⟩
  | .hbm, ⟨18, _⟩ => ⟨S_, .f32⟩
  | .hbm, ⟨19, _⟩ => ⟨S1024x320, .f32⟩
  | .hbm, ⟨20, _⟩ => ⟨S1024x320, .f32⟩
  | .hbm, ⟨21, _⟩ => ⟨S1024x320, .f32⟩
  | .hbm, ⟨22, _⟩ => ⟨S_, .f32⟩
  | .hbm, ⟨23, _⟩ => ⟨S1024x320, .f32⟩
  | .hbm, ⟨24, _⟩ => ⟨S1024x320, .f32⟩
  | .hbm, ⟨25, _⟩ => ⟨S1024x320, .f32⟩
  | .hbm, ⟨26, _⟩ => ⟨S_, .f32⟩
  | .hbm, ⟨27, _⟩ => ⟨S1024x320, .f32⟩
  | .hbm, ⟨28, _⟩ => ⟨S1024x320, .f32⟩
  | .hbm, ⟨29, _⟩ => ⟨S_, .f32⟩
  | .hbm, ⟨30, _⟩ => ⟨S1024x320, .f32⟩
  | .hbm, ⟨31, _⟩ => ⟨S1024x320, .f32⟩
  | .hbm, ⟨32, _⟩ => ⟨S1024x320, .f32⟩
  | .hbm, ⟨33, _⟩ => ⟨S_, .f32⟩
  | .hbm, ⟨34, _⟩ => ⟨S1024x320, .f32⟩
  | .hbm, ⟨35, _⟩ => ⟨S1024x320, .f32⟩
  | .hbm, ⟨36, _⟩ => ⟨S1024x320, .f32⟩
  | .hbm, ⟨37, _⟩ => ⟨S_, .f32⟩
  | .hbm, ⟨38, _⟩ => ⟨S1024x320, .f32⟩
  | .hbm, ⟨39, _⟩ => ⟨S1024x320, .f32⟩
  | .hbm, ⟨40, _⟩ => ⟨S1024x320, .f32⟩
  | .hbm, ⟨41, _⟩ => ⟨S_, .f32⟩
  | .hbm, ⟨42, _⟩ => ⟨S1024x320, .f32⟩
  | .hbm, ⟨43, _⟩ => ⟨S1024x320, .f32⟩
  | .hbm, ⟨44, _⟩ => ⟨S320x1024, .f32⟩
  | .hbm, ⟨45, _⟩ => ⟨S320x1024, .f32⟩
  | .hbm, ⟨46, _⟩ => ⟨S320x1024, .f32⟩
  | .hbm, ⟨47, _⟩ => ⟨S320x1024, .f32⟩
  | _, _ => ⟨S4x320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Kernel6.lean ====
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 11
  | .vmem => 8
  | .smem => 0
  | _ => 0

abbrev bufTy : (tb : Table) → Fin (tcTables nBuf tb) → BufTy
  | .hbm, ⟨0, _⟩ => ⟨S4x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .local _ .vmem, ⟨0, _⟩ => ⟨S4x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference6Ideal.lean ====
abbrev S4x128x1024 : Shape := ⟨3, ![4, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S4x128x1024, .f32⟩
  | .hbm, ⟨5, _⟩ => ⟨S_, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | .hbm, ⟨39, _⟩ => ⟨S128x1024, .f32⟩
  | .hbm, ⟨40, _⟩ => ⟨S_, .f32⟩
  | .hbm, ⟨41, _⟩ => ⟨S128x1024, .f32⟩
  | .hbm, ⟨42, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel7.lean ====
abbrev S4x512x1024 : Shape := ⟨3, ![4, 512, 1024]⟩
abbrev S1x1024x512 : Shape := ⟨3, ![1, 1024, 512]⟩
abbrev S1024x512 : Shape := ⟨2, ![1024, 512]⟩
abbrev S4x256x1024 : Shape := ⟨3, ![4, 256, 1024]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 11
  | .vmem => 16
  | .smem => 0
  | _ => 0

abbrev bufTy : (tb : Table) → Fin (tcTables nBuf tb) → BufTy
  | .hbm, ⟨0, _⟩ => ⟨S4x512x1024, .bf16⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .local _ .vmem, ⟨0, _⟩ => ⟨S4x256x1024, .bf16⟩
  | .local _ .vmem, ⟨1, _⟩ => ⟨S4x256x1024, .bf16⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | _, _ => ⟨S4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S4x512x1024 : Shape := ⟨3, ![4, 512, 1024]⟩
abbrev S1x1024x512 : Shape := ⟨3, ![1, 1024, 512]⟩
abbrev S_ : Shape := ⟨0, ![]⟩
abbrev S512x1024 : Shape := ⟨2, ![512, 1024]⟩
abbrev S1024x512 : Shape := ⟨2, ![1024, 512]⟩

abbrev nBuf : Space → Nat
  | .hbm => 44
  | .vmem => 0
  | .smem => 0
  | _ => 0

abbrev bufTy : (tb : Table) → Fin (tcTables nBuf tb) → BufTy
  | .hbm, ⟨0, _⟩ => ⟨S4x512x1024, .bf16⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S4x512x1024, .f32⟩
  | .hbm, ⟨5, _⟩ => ⟨S_, .f32⟩
  | .hbm, ⟨6, _⟩ => ⟨S512x1024, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | .hbm, ⟨40, _⟩ => ⟨S1024x512, .f32⟩
  | .hbm, ⟨41, _⟩ => ⟨S_, .f32⟩
  | .hbm, ⟨42, _⟩ => ⟨S1024x512, .f32⟩
  | .hbm, ⟨43, _⟩ => ⟨S1024x512, .f32⟩
  | _, _ => ⟨S4x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel8.lean ====
abbrev S4x512x1024 : Shape := ⟨3, ![4, 512, 1024]⟩
abbrev S1x512x1024 : Shape := ⟨3, ![1, 512, 1024]⟩
abbrev S512x1024 : Shape := ⟨2, ![512, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 11
  | .vmem => 16
  | .smem => 0
  | _ => 0

abbrev bufTy : (tb : Table) → Fin (tcTables nBuf tb) → BufTy
  | .hbm, ⟨0, _⟩ => ⟨S4x512x1024, .bf16⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S4x512x1024 : Shape := ⟨3, ![4, 512, 1024]⟩
abbrev S1x512x1024 : Shape := ⟨3, ![1, 512, 1024]⟩
abbrev S_ : Shape := ⟨0, ![]⟩
abbrev S512x1024 : Shape := ⟨2, ![512, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4x512x1024, .bf16⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S4x512x1024, .f32⟩
  | .hbm, ⟨5, _⟩ => ⟨S_, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S_, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S_, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S_, .f32⟩
  | .hbm, ⟨22, _⟩ => ⟨S512x1024, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S_, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512x1024, .f32⟩
  | .hbm, ⟨34, _⟩ => ⟨S512x1024, .f32⟩
  | .hbm, ⟨35, _⟩ => ⟨S512x1024, .f32⟩
  | .hbm, ⟨36, _⟩ => ⟨S_, .f32⟩
  | .hbm, ⟨37, _⟩ => ⟨S512x1024, .f32⟩
  | .hbm, ⟨38, _⟩ => ⟨S512x1024, .f32⟩
  | .hbm, ⟨39, _⟩ => ⟨S512x1024, .f32⟩
  | .hbm, ⟨40, _⟩ => ⟨S_, .f32⟩
  | .hbm, ⟨41, _⟩ => ⟨S512x1024, .f32⟩
  | .hbm, ⟨42, _⟩ => ⟨S512x1024, .f32⟩
  | _, _ => ⟨S4x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel9.lean ====
abbrev S1x6144 : Shape := ⟨2, ![1, 6144]⟩
abbrev S1x31x64 : Shape := ⟨3, ![1, 31, 64]⟩
abbrev S1x512 : Shape := ⟨2, ![1, 512]⟩
abbrev S31x64 : Shape := ⟨2, ![31, 64]⟩

abbrev nBuf : Space → Nat
  | .hbm => 32
  | .vmem => 28
  | .smem => 0
  | _ => 0

abbrev bufTy : (tb : Table) → Fin (tcTables nBuf tb) → BufTy
  | .hbm, ⟨0, _⟩ => ⟨S1x6144, .f32⟩
  | .hbm, ⟨1, _⟩ => ⟨S1x31x64, .f32⟩
  | .hbm, ⟨2, _⟩ => ⟨S1x512, .f32⟩
  | .hbm, ⟨3, _⟩ => ⟨S1x512, .f32⟩
  | .hbm, ⟨4, _⟩ => ⟨S1x6144, .f32⟩
  | .hbm, ⟨5, _⟩ => ⟨S1x31x64, .f32⟩
  | .hbm, ⟨6, _⟩ => ⟨S1x512, .f32⟩
  | .hbm, ⟨7, _⟩ => ⟨S1x512, .f32⟩
  | .hbm, ⟨8, _⟩ => ⟨S1x6144, .f32⟩
  | .hbm, ⟨9, _⟩ => ⟨S1x31x64, .f32⟩
  | .hbm, ⟨10, _⟩ => ⟨S1x512, .f32⟩
  | .hbm, ⟨11, _⟩ => ⟨S1x512, .f32⟩
  | .hbm, ⟨12, _⟩ => ⟨S1x6144, .f32⟩
  | .hbm, ⟨13, _⟩ => ⟨S1x31x64, .f32⟩
  | .hbm, ⟨14, _⟩ => ⟨S1x512, .f32⟩
  | .hbm, ⟨15, _⟩ => ⟨S1x512, .f32⟩
  | .hbm, ⟨16, _⟩ => ⟨S31x64, .f32⟩
  | .hbm, ⟨17, _⟩ => ⟨S31x64, .f32⟩
  | .hbm, ⟨18, _⟩ => ⟨S31x64, .f32⟩
  | .hbm, ⟨19, _⟩ => ⟨S31x64, .f32⟩
  | .hbm, ⟨20, _⟩ => ⟨S1x6144, .f32⟩
  | .hbm, ⟨21, _⟩ => ⟨S31x64, .f32⟩
  | .hbm, ⟨22, _⟩ => ⟨S1x512, .f32⟩
  | .hbm, ⟨23, _⟩ => ⟨S1x512, .f32⟩
  | .hbm, ⟨24, _⟩ => ⟨S1x6144, .f32⟩
  | .hbm, ⟨25, _⟩ => ⟨S31x64, .f32⟩
  | .hbm, ⟨26, _⟩ => ⟨S1x512, .f32⟩
  | .hbm, ⟨27, _⟩ => ⟨S1x512, .f32⟩
  | .hbm, ⟨28, _⟩ => ⟨S1x6144, .f32⟩
  | .hbm, ⟨29, _⟩ => ⟨S31x64, .f32⟩
  | .hbm, ⟨30, _⟩ => ⟨S1x512, .f32⟩
  | .hbm, ⟨31, _⟩ => ⟨S1x512, .f32⟩
  | .local _ .vmem, ⟨0, _⟩ => ⟨S1x6144, .f32⟩
  | .local _ .vmem, ⟨1, _⟩ => ⟨S31x64, .f32⟩
  | .local _ .vmem, ⟨2, _⟩ => ⟨S1x512, .f32⟩
  | .local _ .vmem, ⟨3, _⟩ => ⟨S1x512, .f32⟩
  | .local _ .vmem, ⟨4, _⟩ => ⟨S1x6144, .f32⟩
  | .local _ .vmem, ⟨5, _⟩ => ⟨S31x64, .f32⟩
  | .local _ .vmem, ⟨6, _⟩ => ⟨S1x512, .f32⟩
  | .local _ .vmem, ⟨7, _⟩ => ⟨S1x512, .f32⟩
  | .local _ .vmem, ⟨8, _⟩ => ⟨S1x6144, .f32⟩
  | .local _ .vmem, ⟨9, _⟩ => ⟨S31x64, .f32⟩
  | .local _ .vmem, ⟨10, _⟩ => ⟨S1x512, .f32⟩
  | .local _ .vmem, ⟨11, _⟩ => ⟨S1x512, .f32⟩
  | .local _ .vmem, ⟨12, _⟩ => ⟨S1x6144, .f32⟩
  | .local _ .vmem, ⟨13, _⟩ => ⟨S31x64, .f32⟩
  | .local _ .vmem, ⟨14, _⟩ => ⟨S1x512, .f32⟩
  | .local _ .vmem, ⟨15, _⟩ => ⟨S1x512, .f32⟩
  | .local _ .vmem, ⟨16, _⟩ => ⟨S1x6144, .f32⟩
  | .local _ .vmem, ⟨17, _⟩ => ⟨S31x64, .f32⟩
  | .local _ .vmem, ⟨18, _⟩ => ⟨S1x512, .f32⟩
  | .local _ .vmem, ⟨19, _⟩ => ⟨S1x512, .f32⟩
  | .local _ .vmem, ⟨20, _⟩ => ⟨S1x6144, .f32⟩
  | .local _ .vmem, ⟨21, _⟩ => ⟨S31x64, .f32⟩
  | .local _ .vmem, ⟨22, _⟩ => ⟨S1x512, .f32⟩
  | .local _ .vmem, ⟨23, _⟩ => ⟨S1x512, .f32⟩
  | .local _ .vmem, ⟨24, _⟩ => ⟨S1x6144, .f32⟩
  | .local _ .vmem, ⟨25, _⟩ => ⟨S31x64, .f32⟩
  | .local _ .vmem, ⟨26, _⟩ => ⟨S1x512, .f32⟩
  | .local _ .vmem, ⟨27, _⟩ => ⟨S1x512, .f32⟩
  | _, _ => ⟨S1x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4_0 : Ref sig .tc := ⟨.hbm, 20, rfl⟩
abbrev main_v4_1 : Ref sig .tc := ⟨.hbm, 21, rfl⟩
abbrev main_v4_2 : Ref sig .tc := ⟨.hbm, 22, rfl⟩
abbrev main_v4_3 : Ref sig .tc := ⟨.hbm, 23, rfl⟩
abbrev main_v4_4 : Ref sig .tc := ⟨.hbm, 24, rfl⟩
abbrev main_v4_5 : Ref sig .tc := ⟨.hbm, 25, rfl⟩
abbrev main_v4_6 : Ref sig .tc := ⟨.hbm, 26, rfl⟩
abbrev main_v4_7 : Ref sig .tc := ⟨.hbm, 27, rfl⟩
abbrev main_v4_8 : Ref sig .tc := ⟨.hbm, 28, rfl⟩
abbrev main_v4_9 : Ref sig .tc := ⟨.hbm, 29, rfl⟩
abbrev main_v4_10 : Ref sig .tc := ⟨.hbm, 30, rfl⟩
abbrev main_v4_11 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S31x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S31x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S31x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x6144 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S31x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x6144 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S31x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x6144 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S31x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x6144 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S31x64 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== Reference9Ideal.lean ====
abbrev S1x6144 : Shape := ⟨2, ![1, 6144]⟩
abbrev S1x31x64 : Shape := ⟨3, ![1, 31, 64]⟩
abbrev S1x512 : Shape := ⟨2, ![1, 512]⟩
abbrev S31x64 : Shape := ⟨2, ![31, 64]⟩
abbrev S_ : Shape := ⟨0, ![]⟩

abbrev nBuf : Space → Nat
  | .hbm => 152
  | .vmem => 0
  | .smem => 0
  | _ => 0

abbrev hbmTy0_0 (i : Nat) : BufTy := match i % 128 with
  | 0 => ⟨S1x6144, .f32⟩
  | 1 => ⟨S1x31x64, .f32⟩
  | 2 => ⟨S1x512, .f32⟩
  | 3 => ⟨S1x512, .f32⟩
  | 4 => ⟨S1x6144, .f32⟩
  | 5 => ⟨S1x31x64, .f32⟩
  | 6 => ⟨S1x512, .f32⟩
  | 7 => ⟨S1x512, .f32⟩
  | 8 => ⟨S1x6144, .f32⟩
  | 9 => ⟨S1x31x64, .f32⟩
  | 10 => ⟨S1x512, .f32⟩
  | 11 => ⟨S1x512, .f32⟩
  | 12 => ⟨S1x6144, .f32⟩
  | 13 => ⟨S1x31x64, .f32⟩
  | 14 => ⟨S1x512, .f32⟩
  | 15 => ⟨S1x512, .f32⟩
  | 16 => ⟨S31x64, .f32⟩
  | 17 => ⟨S31x64, .f32⟩
  | 18 => ⟨S31x64, .f32⟩
  | 19 => ⟨S31x64, .f32⟩
  | 20 => ⟨S_, .f32⟩
  | 21 => ⟨S1x6144, .f32⟩
  | 22 => ⟨S1x6144, .f32⟩
  | 23 => ⟨S_, .f32⟩
  | 24 => ⟨S1x6144, .f32⟩
  | 25 => ⟨S1x6144, .f32⟩
  | 26 => ⟨S1x6144, .f32⟩
  | 27 => ⟨S_, .f32⟩
  | 28 => ⟨S1x6144, .f32⟩
  | 29 => ⟨S1x6144, .f32⟩
  | 30 => ⟨S1x6144, .f32⟩
  | 31 => ⟨S_, .f32⟩
  | 32 => ⟨S1x6144, .f32⟩
  | 33 => ⟨S1x6144, .f32⟩
  | 34 => ⟨S1x6144, .f32⟩
  | 35 => ⟨S_, .f32⟩
  | 36 => ⟨S1x6144, .f32⟩
  | 37 => ⟨S1x6144, .f32⟩
  | 38 => ⟨S_, .f32⟩
  | 39 => ⟨S1x6144, .f32⟩
  | 40 => ⟨S1x6144, .f32⟩
  | 41 => ⟨S1x6144, .f32⟩
  | 42 => ⟨S_, .f32⟩
  | 43 => ⟨S1x6144, .f32⟩
  | 44 => ⟨S1x6144, .f32⟩
  | 45 => ⟨S1x6144, .f32⟩
  | 46 => ⟨S_, .f32⟩
  | 47 => ⟨S1x6144, .f32⟩
  | 48 => ⟨S1x6144, .f32⟩
  | 49 => ⟨S1x6144, .f32⟩
  | 50 => ⟨S_, .f32⟩
  | 51 => ⟨S1x6144, .f32⟩
  | 52 => ⟨S1x6144, .f32⟩
  | 53 => ⟨S_, .f32⟩
  | 54 => ⟨S31x64, .f32⟩
  | 55 => ⟨S31x64, .f32⟩
  | 56 => ⟨S_, .f32⟩
  | 57 => ⟨S31x64, .f32⟩
  | 58 => ⟨S31x64, .f32⟩
  | 59 => ⟨S31x64, .f32⟩
  | 60 => ⟨S_, .f32⟩
  | 61 => ⟨S31x64, .f32⟩
  | 62 => ⟨S31x64, .f32⟩
  | 63 => ⟨S31x64, .f32⟩
  | 64 => ⟨S_, .f32⟩
  | 65 => ⟨S31x64, .f32⟩
  | 66 => ⟨S31x64, .f32⟩
  | 67 => ⟨S31x64, .f32⟩
  | 68 => ⟨S_, .f32⟩
  | 69 => ⟨S31x64, .f32⟩
  | 70 => ⟨S31x64, .f32⟩
  | 71 => ⟨S_, .f32⟩
  | 72 => ⟨S31x64, .f32⟩
  | 73 => ⟨S31x64, .f32⟩
  | 74 => ⟨S31x64, .f32⟩
  | 75 => ⟨S_, .f32⟩
  | 76 => ⟨S31x64, .f32⟩
  | 77 => ⟨S31x64, .f32⟩
  | 78 => ⟨S31x64, .f32⟩
  | 79 => ⟨S_, .f32⟩
  | 80 => ⟨S31x64, .f32⟩
  | 81 => ⟨S31x64, .f32⟩
  | 82 => ⟨S31x64, .f32⟩
  | 83 => ⟨S_, .f32⟩
  | 84 => ⟨S31x64, .f32⟩
  | 85 => ⟨S31x64, .f32⟩
  | 86 => ⟨S_, .f32⟩
  | 87 => ⟨S1x512, .f32⟩
  | 88 => ⟨S1x512, .f32⟩
  | 89 => ⟨S_, .f32⟩
  | 90 => ⟨S1x512, .f32⟩
  | 91 => ⟨S1x512, .f32⟩
  | 92 => ⟨S1x512, .f32⟩
  | 93 => ⟨S_, .f32⟩
  | 94 => ⟨S1x512, .f32⟩
  | 95 => ⟨S1x512, .f32⟩
  | 96 => ⟨S1x512, .f32⟩
  | 97 => ⟨S_, .f32⟩
  | 98 => ⟨S1x512, .f32⟩
  | 99 => ⟨S1x512, .f32⟩
  | 100 => ⟨S1x512, .f32⟩
  | 101 => ⟨S_, .f32⟩
  | 102 => ⟨S1x512, .f32⟩
  | 103 => ⟨S1x512, .f32⟩
  | 104 => ⟨S_, .f32⟩
  | 105 => ⟨S1x512, .f32⟩
  | 106 => ⟨S1x512, .f32⟩
  | 107 => ⟨S1x512, .f32⟩
  | 108 => ⟨S_, .f32⟩
  | 109 => ⟨S1x512, .f32⟩
  | 110 => ⟨S1x512, .f32⟩
  | 111 => ⟨S1x512, .f32⟩
  | 112 => ⟨S_, .f32⟩
  | 113 => ⟨S1x512, .f32⟩
  | 114 => ⟨S1x512, .f32⟩
  | 115 => ⟨S1x512, .f32⟩
  | 116 => ⟨S_, .f32⟩
  | 117 => ⟨S1x512, .f32⟩
  | 118 => ⟨S1x512, .f32⟩
  | 119 => ⟨S_, .f32⟩
  | 120 => ⟨S1x512, .f32⟩
  | 121 => ⟨S1x512, .f32⟩
  | 122 => ⟨S_, .f32⟩
  | 123 => ⟨S1x512, .f32⟩
  | 124 => ⟨S1x512, .f32⟩
  | 125 => ⟨S1x512, .f32⟩
  | 126 => ⟨S_, .f32⟩
  | 127 => ⟨S1x512, .f32⟩
  | _ => ⟨S1x6144, .f32⟩

abbrev hbmTy0_1 (i : Nat) : BufTy := match i % 128 with
  | 0 => ⟨S1x512, .f32⟩
  | 1 => ⟨S1x512, .f32⟩
  | 2 => ⟨S_, .f32⟩
  | 3 => ⟨S1x512, .f32⟩
  | 4 => ⟨S1x512, .f32⟩
  | 5 => ⟨S1x512, .f32⟩
  | 6 => ⟨S_, .f32⟩
  | 7 => ⟨S1x512, .f32⟩
  | 8 => ⟨S1x512, .f32⟩
  | 9 => ⟨S_, .f32⟩
  | 10 => ⟨S1x512, .f32⟩
  | 11 => ⟨S1x512, .f32⟩
  | 12 => ⟨S1x512, .f32⟩
  | 13 => ⟨S_, .f32⟩
  | 14 => ⟨S1x512, .f32⟩
  | 15 => ⟨S1x512, .f32⟩
  | 16 => ⟨S1x512, .f32⟩
  | 17 => ⟨S_, .f32⟩
  | 18 => ⟨S1x512, .f32⟩
  | 19 => ⟨S1x512, .f32⟩
  | 20 => ⟨S1x512, .f32⟩
  | 21 => ⟨S_, .f32⟩
  | 22 => ⟨S1x512, .f32⟩
  | 23 => ⟨S1x512, .f32⟩
  | _ => ⟨S1x6144, .f32⟩

abbrev hbmTy (i : Nat) : BufTy := match i / 128 with
  | 0 => hbmTy0_0 i
  | 1 => hbmTy0_1 i
  | _ => ⟨S1x6144, .f32⟩

abbrev bufTy : (tb : Table) → Fin (tcTables nBuf tb) → BufTy
  | .hbm, ⟨i, _⟩ => hbmTy i
  | _, _ => ⟨S1x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_v16 : Ref sig .tc := ⟨.hbm, 37, rfl⟩
abbrev main_cst_4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_5 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_6 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_7 : Ref sig .tc := ⟨.hbm, 50, rfl⟩
abbrev main_v26 : Ref sig .tc := ⟨.hbm, 51, rfl⟩
abbrev main_v27 : Ref sig .tc := ⟨.hbm, 52, rfl⟩
abbrev main_cst_8 : Ref sig .tc := ⟨.hbm, 53, rfl⟩
abbrev main_v28 : Ref sig .tc := ⟨.hbm, 54, rfl⟩
abbrev main_v29 : Ref sig .tc := ⟨.hbm, 55, rfl⟩
abbrev main_cst_9 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_10 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_11 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_12 : Ref sig .tc := ⟨.hbm, 68, rfl⟩
abbrev main_v39 : Ref sig .tc := ⟨.hbm, 69, rfl⟩
abbrev main_v40 : Ref sig .tc := ⟨.hbm, 70, rfl⟩
abbrev main_cst_13 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_14 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_15 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_16 : Ref sig .tc := ⟨.hbm, 83, rfl⟩
abbrev main_v50 : Ref sig .tc := ⟨.hbm, 84, rfl⟩
abbrev main_v51 : Ref sig .tc := ⟨.hbm, 85, rfl⟩
abbrev main_cst_17 : Ref sig .tc := ⟨.hbm, 86, rfl⟩
abbrev main_v52 : Ref sig .tc := ⟨.hbm, 87, rfl⟩
abbrev main_v53 : Ref sig .tc := ⟨.hbm, 88, rfl⟩
abbrev main_cst_18 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_19 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_20 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_21 : Ref sig .tc := ⟨.hbm, 101, rfl⟩
abbrev main_v63 : Ref sig .tc := ⟨.hbm, 102, rfl⟩
abbrev main_v64 : Ref sig .tc := ⟨.hbm, 103, rfl⟩
abbrev main_cst_22 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_23 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_24 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_25 : Ref sig .tc := ⟨.hbm, 116, rfl⟩
abbrev main_v74 : Ref sig .tc := ⟨.hbm, 117, rfl⟩
abbrev main_v75 : Ref sig .tc := ⟨.hbm, 118, rfl⟩
abbrev main_cst_26 : Ref sig .tc := ⟨.hbm, 119, rfl⟩
abbrev main_v76 : Ref sig .tc := ⟨.hbm, 120, rfl⟩
abbrev main_v77 : Ref sig .tc := ⟨.hbm, 121, rfl⟩
abbrev main_cst_27 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_28 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_cst_29 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_cst_30 : Ref sig .tc := ⟨.hbm, 134, rfl⟩
abbrev main_v87 : Ref sig .tc := ⟨.hbm, 135, rfl⟩
abbrev main_v88 : Ref sig .tc := ⟨.hbm, 136, rfl⟩
abbrev main_cst_31 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_32 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_cst_33 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_cst_34 : Ref sig .tc := ⟨.hbm, 149, rfl⟩
abbrev main_v98 : Ref sig .tc := ⟨.hbm, 150, rfl⟩
abbrev main_v99 : Ref sig .tc := ⟨.hbm, 151, rfl⟩

abbrev nD : Nat := 1
abbrev τ : Topo := Topo.v7x

variable {F : FTy → Type} [FloatOps F]
-- ==== Kernel10.lean ====
abbrev S1x512 : Shape := ⟨2, ![1, 512]⟩
abbrev S1x3x64 : Shape := ⟨3, ![1, 3, 64]⟩
abbrev S1024 : Shape := ⟨1, ![1024]⟩
abbrev S3x64 : Shape := ⟨2, ![3, 64]⟩
abbrev S1x1024 : Shape := ⟨2, ![1, 1024]⟩

abbrev nBuf : Space → Nat
  | .hbm => 29
  | .vmem => 21
  | .smem => 0
  | _ => 0

abbrev bufTy : (tb : Table) → Fin (tcTables nBuf tb) → BufTy
  | .hbm, ⟨0, _⟩ => ⟨S1x512, .f32⟩
  | .hbm, ⟨1, _⟩ => ⟨S1x3x64, .f32⟩
  | .hbm, ⟨2, _⟩ => ⟨S1024, .f32⟩
  | .hbm, ⟨3, _⟩ => ⟨S1x512, .f32⟩
  | .hbm, ⟨4, _⟩ => ⟨S1x3x64, .f32⟩
  | .hbm, ⟨5, _⟩ => ⟨S1024, .f32⟩
  | .hbm, ⟨6, _⟩ => ⟨S1x512, .f32⟩
  | .hbm, ⟨7, _⟩ => ⟨S1x3x64, .f32⟩
  | .hbm, ⟨8, _⟩ => ⟨S1024, .f32⟩
  | .hbm, ⟨9, _⟩ => ⟨S1x512, .f32⟩
  | .hbm, ⟨10, _⟩ => ⟨S1x3x64, .f32⟩
  | .hbm, ⟨11, _⟩ => ⟨S1024, .f32⟩
  | .hbm, ⟨12, _⟩ => ⟨S3x64, .f32⟩
  | .hbm, ⟨13, _⟩ => ⟨S1x1024, .f32⟩
  | .hbm, ⟨14, _⟩ => ⟨S3x64, .f32⟩
  | .hbm, ⟨15, _⟩ => ⟨S1x1024, .f32⟩
  | .hbm, ⟨16, _⟩ => ⟨S3x64, .f32⟩
  | .hbm, ⟨17, _⟩ => ⟨S1x1024, .f32⟩
  | .hbm, ⟨18, _⟩ => ⟨S3x64, .f32⟩
  | .hbm, ⟨19, _⟩ => ⟨S1x1024, .f32⟩
  | .hbm, ⟨20, _⟩ => ⟨S1x512, .f32⟩
  | .hbm, ⟨21, _⟩ => ⟨S3x64, .f32⟩
  | .hbm, ⟨22, _⟩ => ⟨S1x1024, .f32⟩
  | .hbm, ⟨23, _⟩ => ⟨S1x512, .f32⟩
  | .hbm, ⟨24, _⟩ => ⟨S3x64, .f32⟩
  | .hbm, ⟨25, _⟩ => ⟨S1x1024, .f32⟩
  | .hbm, ⟨26, _⟩ => ⟨S1x512, .f32⟩
  | .hbm, ⟨27, _⟩ => ⟨S3x64, .f32⟩
  | .hbm, ⟨28, _⟩ => ⟨S1x1024, .f32⟩
  | .local _ .vmem, ⟨0, _⟩ => ⟨S1x512, .f32⟩
  | .local _ .vmem, ⟨1, _⟩ => ⟨S3x64, .f32⟩
  | .local _ .vmem, ⟨2, _⟩ => ⟨S1x1024, .f32⟩
  | .local _ .vmem, ⟨3, _⟩ => ⟨S1x512, .f32⟩
  | .local _ .vmem, ⟨4, _⟩ => ⟨S3x64, .f32⟩
  | .local _ .vmem, ⟨5, _⟩ => ⟨S1x1024, .f32⟩
  | .local _ .vmem, ⟨6, _⟩ => ⟨S1x512, .f32⟩
  | .local _ .vmem, ⟨7, _⟩ => ⟨S3x64, .f32⟩
  | .local _ .vmem, ⟨8, _⟩ => ⟨S1x1024, .f32⟩
  | .local _ .vmem, ⟨9, _⟩ => ⟨S1x512, .f32⟩
  | .local _ .vmem, ⟨10, _⟩ => ⟨S3x64, .f32⟩
  | .local _ .vmem, ⟨11, _⟩ => ⟨S1x1024, .f32⟩
  | .local _ .vmem, ⟨12, _⟩ => ⟨S1x512, .f32⟩
  | .local _ .vmem, ⟨13, _⟩ => ⟨S3x64, .f32⟩
  | .local _ .vmem, ⟨14, _⟩ => ⟨S1x1024, .f32⟩
  | .local _ .vmem, ⟨15, _⟩ => ⟨S1x512, .f32⟩
  | .local _ .vmem, ⟨16, _⟩ => ⟨S3x64, .f32⟩
  | .local _ .vmem, ⟨17, _⟩ => ⟨S1x1024, .f32⟩
  | .local _ .vmem, ⟨18, _⟩ => ⟨S1x512, .f32⟩
  | .local _ .vmem, ⟨19, _⟩ => ⟨S3x64, .f32⟩
  | .local _ .vmem, ⟨20, _⟩ => ⟨S1x1024, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v8_4 : Ref sig .tc := ⟨.hbm, 24, rfl⟩
abbrev main_v8_5 : Ref sig .tc := ⟨.hbm, 25, rfl⟩
abbrev main_v8_6 : Ref sig .tc := ⟨.hbm, 26, rfl⟩
abbrev main_v8_7 : Ref sig .tc := ⟨.hbm, 27, rfl⟩
abbrev main_v8_8 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S3x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S3x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Reference10Ideal.lean ====
abbrev S1x512 : Shape := ⟨2, ![1, 512]⟩
abbrev S1x3x64 : Shape := ⟨3, ![1, 3, 64]⟩
abbrev S1024 : Shape := ⟨1, ![1024]⟩
abbrev S3x64 : Shape := ⟨2, ![3, 64]⟩
abbrev S1x1024 : Shape := ⟨2, ![1, 1024]⟩
abbrev S_ : Shape := ⟨0, ![]⟩

abbrev nBuf : Space → Nat
  | .hbm => 119
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x3x64, .f32⟩
  | .hbm, ⟨2, _⟩ => ⟨S1024, .f32⟩
  | .hbm, ⟨3, _⟩ => ⟨S1x512, .f32⟩
  | .hbm, ⟨4, _⟩ => ⟨S1x3x64, .f32⟩
  | .hbm, ⟨5, _⟩ => ⟨S1024, .f32⟩
  | .hbm, ⟨6, _⟩ => ⟨S1x512, .f32⟩
  | .hbm, ⟨7, _⟩ => ⟨S1x3x64, .f32⟩
  | .hbm, ⟨8, _⟩ => ⟨S1024, .f32⟩
  | .hbm, ⟨9, _⟩ => ⟨S1x512, .f32⟩
  | .hbm, ⟨10, _⟩ => ⟨S1x3x64, .f32⟩
  | .hbm, ⟨11, _⟩ => ⟨S1024, .f32⟩
  | .hbm, ⟨12, _⟩ => ⟨S3x64, .f32⟩
  | .hbm, ⟨13, _⟩ => ⟨S1x1024, .f32⟩
  | .hbm, ⟨14, _⟩ => ⟨S3x64, .f32⟩
  | .hbm, ⟨15, _⟩ => ⟨S1x1024, .f32⟩
  | .hbm, ⟨16, _⟩ => ⟨S3x64, .f32⟩
  | .hbm, ⟨17, _⟩ => ⟨S1x1024, .f32⟩
  | .hbm, ⟨18, _⟩ => ⟨S3x64, .f32⟩
  | .hbm, ⟨19, _⟩ => ⟨S1x1024, .f32⟩
  | .hbm, ⟨20, _⟩ => ⟨S_, .f32⟩
  | .hbm, ⟨21, _⟩ => ⟨S1x512, .f32⟩
  | .hbm, ⟨22, _⟩ => ⟨S1x512, .f32⟩
  | .hbm, ⟨23, _⟩ => ⟨S_, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S_, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S_, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S_, .f32⟩
  | .hbm, ⟨36, _⟩ => ⟨S1x512, .f32⟩
  | .hbm, ⟨37, _⟩ => ⟨S1x512, .f32⟩
  | .hbm, ⟨38, _⟩ => ⟨S_, .f32⟩
  | .hbm, ⟨39, _⟩ => ⟨S1x512, .f32⟩
  | .hbm, ⟨40, _⟩ => ⟨S1x512, .f32⟩
  | .hbm, ⟨41, _⟩ => ⟨S1x512, .f32⟩
  | .hbm, ⟨42, _⟩ => ⟨S_, .f32⟩
  | .hbm, ⟨43, _⟩ => ⟨S1x512, .f32⟩
  | .hbm, ⟨44, _⟩ => ⟨S1x512, .f32⟩
  | .hbm, ⟨45, _⟩ => ⟨S1x512, .f32⟩
  | .hbm, ⟨46, _⟩ => ⟨S_, .f32⟩
  | .hbm, ⟨47, _⟩ => ⟨S1x512, .f32⟩
  | .hbm, ⟨48, _⟩ => ⟨S1x512, .f32⟩
  | .hbm, ⟨49, _⟩ => ⟨S1x512, .f32⟩
  | .hbm, ⟨50, _⟩ => ⟨S_, .f32⟩
  | .hbm, ⟨51, _⟩ => ⟨S1x512, .f32⟩
  | .hbm, ⟨52, _⟩ => ⟨S1x512, .f32⟩
  | .hbm, ⟨53, _⟩ => ⟨S_, .f32⟩
  | .hbm, ⟨54, _⟩ => ⟨S3x64, .f32⟩
  | .hbm, ⟨55, _⟩ => ⟨S3x64, .f32⟩
  | .hbm, ⟨56, _⟩ => ⟨S_, .f32⟩
  | .hbm, ⟨57, _⟩ => ⟨S3x64, .f32⟩
  | .hbm, ⟨58, _⟩ => ⟨S3x64, .f32⟩
  | .hbm, ⟨59, _⟩ => ⟨S3x64, .f32⟩
  | .hbm, ⟨60, _⟩ => ⟨S_, .f32⟩
  | .hbm, ⟨61, _⟩ => ⟨S3x64, .f32⟩
  | .hbm, ⟨62, _⟩ => ⟨S3x64, .f32⟩
  | .hbm, ⟨63, _⟩ => ⟨S3x64, .f32⟩
  | .hbm, ⟨64, _⟩ => ⟨S_, .f32⟩
  | .hbm, ⟨65, _⟩ => ⟨S3x64, .f32⟩
  | .hbm, ⟨66, _⟩ => ⟨S3x64, .f32⟩
  | .hbm, ⟨67, _⟩ => ⟨S3x64, .f32⟩
  | .hbm, ⟨68, _⟩ => ⟨S_, .f32⟩
  | .hbm, ⟨69, _⟩ => ⟨S3x64, .f32⟩
  | .hbm, ⟨70, _⟩ => ⟨S3x64, .f32⟩
  | .hbm, ⟨71, _⟩ => ⟨S_, .f32⟩
  | .hbm, ⟨72, _⟩ => ⟨S3x64, .f32⟩
  | .hbm, ⟨73, _⟩ => ⟨S3x64, .f32⟩
  | .hbm, ⟨74, _⟩ => ⟨S3x64, .f32⟩
  | .hbm, ⟨75, _⟩ => ⟨S_, .f32⟩
  | .hbm, ⟨76, _⟩ => ⟨S3x64, .f32⟩
  | .hbm, ⟨77, _⟩ => ⟨S3x64, .f32⟩
  | .hbm, ⟨78, _⟩ => ⟨S3x64, .f32⟩
  | .hbm, ⟨79, _⟩ => ⟨S_, .f32⟩
  | .hbm, ⟨80, _⟩ => ⟨S3x64, .f32⟩
  | .hbm, ⟨81, _⟩ => ⟨S3x64, .f32⟩
  | .hbm, ⟨82, _⟩ => ⟨S3x64, .f32⟩
  | .hbm, ⟨83, _⟩ => ⟨S_, .f32⟩
  | .hbm, ⟨84, _⟩ => ⟨S3x64, .f32⟩
  | .hbm, ⟨85, _⟩ => ⟨S3x64, .f32⟩
  | .hbm, ⟨86, _⟩ => ⟨S_, .f32⟩
  | .hbm, ⟨87, _⟩ => ⟨S1x1024, .f32⟩
  | .hbm, ⟨88, _⟩ => ⟨S1x1024, .f32⟩
  | .hbm, ⟨89, _⟩ => ⟨S_, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S_, .f32⟩
  | .hbm, ⟨94, _⟩ => ⟨S1x1024, .f32⟩
  | .hbm, ⟨95, _⟩ => ⟨S1x1024, .f32⟩
  | .hbm, ⟨96, _⟩ => ⟨S1x1024, .f32⟩
  | .hbm, ⟨97, _⟩ => ⟨S_, .f32⟩
  | .hbm, ⟨98, _⟩ => ⟨S1x1024, .f32⟩
  | .hbm, ⟨99, _⟩ => ⟨S1x1024, .f32⟩
  | .hbm, ⟨100, _⟩ => ⟨S1x1024, .f32⟩
  | .hbm, ⟨101, _⟩ => ⟨S_, .f32⟩
  | .hbm, ⟨102, _⟩ => ⟨S1x1024, .f32⟩
  | .hbm, ⟨103, _⟩ => ⟨S1x1024, .f32⟩
  | .hbm, ⟨104, _⟩ => ⟨S_, .f32⟩
  | .hbm, ⟨105, _⟩ => ⟨S1x1024, .f32⟩
  | .hbm, ⟨106, _⟩ => ⟨S1x1024, .f32⟩
  | .hbm, ⟨107, _⟩ => ⟨S1x1024, .f32⟩
  | .hbm, ⟨108, _⟩ => ⟨S_, .f32⟩
  | .hbm, ⟨109, _⟩ => ⟨S1x1024, .f32⟩
  | .hbm, ⟨110, _⟩ => ⟨S1x1024, .f32⟩
  | .hbm, ⟨111, _⟩ => ⟨S1x1024, .f32⟩
  | .hbm, ⟨112, _⟩ => ⟨S_, .f32⟩
  | .hbm, ⟨113, _⟩ => ⟨S1x1024, .f32⟩
  | .hbm, ⟨114, _⟩ => ⟨S1x1024, .f32⟩
  | .hbm, ⟨115, _⟩ => ⟨S1x1024, .f32⟩
  | .hbm, ⟨116, _⟩ => ⟨S_, .f32⟩
  | .hbm, ⟨117, _⟩ => ⟨S1x1024, .f32⟩
  | .hbm, ⟨118, _⟩ => ⟨S1x1024, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_cst_9 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_10 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_11 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_12 : Ref sig .tc := ⟨.hbm, 68, rfl⟩
abbrev main_v43 : Ref sig .tc := ⟨.hbm, 69, rfl⟩
abbrev main_v44 : Ref sig .tc := ⟨.hbm, 70, rfl⟩
abbrev main_cst_13 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_14 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_15 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_16 : Ref sig .tc := ⟨.hbm, 83, rfl⟩
abbrev main_v54 : Ref sig .tc := ⟨.hbm, 84, rfl⟩
abbrev main_v55 : Ref sig .tc := ⟨.hbm, 85, rfl⟩
abbrev main_cst_17 : Ref sig .tc := ⟨.hbm, 86, rfl⟩
abbrev main_v56 : Ref sig .tc := ⟨.hbm, 87, rfl⟩
abbrev main_v57 : Ref sig .tc := ⟨.hbm, 88, rfl⟩
abbrev main_cst_18 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_19 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_20 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_21 : Ref sig .tc := ⟨.hbm, 101, rfl⟩
abbrev main_v67 : Ref sig .tc := ⟨.hbm, 102, rfl⟩
abbrev main_v68 : Ref sig .tc := ⟨.hbm, 103, rfl⟩
abbrev main_cst_22 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_23 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_24 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_25 : Ref sig .tc := ⟨.hbm, 116, rfl⟩
abbrev main_v78 : Ref sig .tc := ⟨.hbm, 117, rfl⟩
abbrev main_v79 : Ref sig .tc := ⟨.hbm, 118, rfl⟩

abbrev nD : Nat := 1
abbrev τ : Topo := Topo.v7x

variable {F : FTy → Type} [FloatOps F]
-- ==== Kernel11.lean ====
abbrev S2x4096x1024 : Shape := ⟨3, ![2, 4096, 1024]⟩
abbrev S2x4096x2560 : Shape := ⟨3, ![2, 4096, 2560]⟩
abbrev S2x4096x512 : Shape := ⟨3, ![2, 4096, 512]⟩
abbrev S2x6144 : Shape := ⟨2, ![2, 6144]⟩
abbrev S1x1024x2560 : Shape := ⟨3, ![1, 1024, 2560]⟩
abbrev S1x31x512 : Shape := ⟨3, ![1, 31, 512]⟩
abbrev S1x512 : Shape := ⟨2, ![1, 512]⟩
abbrev S1x3x512 : Shape := ⟨3, ![1, 3, 512]⟩
abbrev S1x1024x1024 : Shape := ⟨3, ![1, 1024, 1024]⟩
abbrev S1024x2560 : Shape := ⟨2, ![1024, 2560]⟩
abbrev S2560x1024 : Shape := ⟨2, ![2560, 1024]⟩
abbrev S8x320x1024 : Shape := ⟨3, ![8, 320, 1024]⟩
abbrev S1024x1024 : Shape := ⟨2, ![1024, 1024]⟩
abbrev S8x128x1024 : Shape := ⟨3, ![8, 128, 1024]⟩
abbrev S31x512 : Shape := ⟨2, ![31, 512]⟩
abbrev S_ : Shape := ⟨0, ![]⟩
abbrev S32x512 : Shape := ⟨2, ![32, 512]⟩
abbrev S3x512 : Shape := ⟨2, ![3, 512]⟩
abbrev S2x512 : Shape := ⟨2, ![2, 512]⟩
abbrev S8x512 : Shape := ⟨2, ![8, 512]⟩
abbrev S2x6x1024 : Shape := ⟨3, ![2, 6, 1024]⟩
abbrev S2x8x1024 : Shape := ⟨3, ![2, 8, 1024]⟩
abbrev S40x512 : Shape := ⟨2, ![40, 512]⟩
abbrev S1x256x1024 : Shape := ⟨3, ![1, 256, 1024]⟩
abbrev S1x256x2560 : Shape := ⟨3, ![1, 256, 2560]⟩
abbrev S1x256x512 : Shape := ⟨3, ![1, 256, 512]⟩
abbrev S1x6x1024 : Shape := ⟨3, ![1, 6, 1024]⟩
abbrev S1x8x1024 : Shape := ⟨3, ![1, 8, 1024]⟩
abbrev S288x512 : Shape := ⟨2, ![288, 512]⟩
abbrev S264x512 : Shape := ⟨2, ![264, 512]⟩
abbrev S256x512 : Shape := ⟨2, ![256, 512]⟩
abbrev S7x280x512 : Shape := ⟨3, ![7, 280, 512]⟩
abbrev S256x1024 : Shape := ⟨2, ![256, 1024]⟩
abbrev S1x1x1024 : Shape := ⟨3, ![1, 1, 1024]⟩
abbrev S1x1024 : Shape := ⟨2, ![1, 1024]⟩
abbrev S8x1024 : Shape := ⟨2, ![8, 1024]⟩
abbrev S512 : Shape := ⟨1, ![512]⟩
abbrev S256 : Shape := ⟨1, ![256]⟩
abbrev S256x1 : Shape := ⟨2, ![256, 1]⟩
abbrev S280x512 : Shape := ⟨2, ![280, 512]⟩
abbrev S1x280x512 : Shape := ⟨3, ![1, 280, 512]⟩
abbrev S1x32x512 : Shape := ⟨3, ![1, 32, 512]⟩
abbrev S256x2560 : Shape := ⟨2, ![256, 2560]⟩
abbrev S1024 : Shape := ⟨1, ![1024]⟩
abbrev S32x8x512 : Shape := ⟨3, ![32, 8, 512]⟩

abbrev nBuf : Space → Nat
  | .hbm => 34
  | .vmem => 32
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x2560, .f32⟩
  | .hbm, ⟨3, _⟩ => ⟨S2x4096x512, .f32⟩
  | .hbm, ⟨4, _⟩ => ⟨S2x4096x512, .f32⟩
  | .hbm, ⟨5, _⟩ => ⟨S2x6144, .f32⟩
  | .hbm, ⟨6, _⟩ => ⟨S1x1024x2560, .f32⟩
  | .hbm, ⟨7, _⟩ => ⟨S1x31x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x3x512, .f32⟩
  | .hbm, ⟨12, _⟩ => ⟨S1x1024x1024, .f32⟩
  | .hbm, ⟨13, _⟩ => ⟨S1024x2560, .f32⟩
  | .hbm, ⟨14, _⟩ => ⟨S2560x1024, .f32⟩
  | .hbm, ⟨15, _⟩ => ⟨S2560x1024, .bf16⟩
  | .hbm, ⟨16, _⟩ => ⟨S8x320x1024, .bf16⟩
  | .hbm, ⟨17, _⟩ => ⟨S1024x1024, .f32⟩
  | .hbm, ⟨18, _⟩ => ⟨S1024x1024, .bf16⟩
  | .hbm, ⟨19, _⟩ => ⟨S8x128x1024, .bf16⟩
  | .hbm, ⟨20, _⟩ => ⟨S31x512, .f32⟩
  | .hbm, ⟨21, _⟩ => ⟨S_, .i32⟩
  | .hbm, ⟨22, _⟩ => ⟨S_, .f32⟩
  | .hbm, ⟨23, _⟩ => ⟨S32x512, .f32⟩
  | .hbm, ⟨24, _⟩ => ⟨S3x512, .f32⟩
  | .hbm, ⟨25, _⟩ => ⟨S_, .f32⟩
  | .hbm, ⟨26, _⟩ => ⟨S2x512, .f32⟩
  | .hbm, ⟨27, _⟩ => ⟨S8x512, .f32⟩
  | .hbm, ⟨28, _⟩ => ⟨S2x6x1024, .f32⟩
  | .hbm, ⟨29, _⟩ => ⟨S2x4096x1024, .f32⟩
  | .hbm, ⟨30, _⟩ => ⟨S2x4096x2560, .bf16⟩
  | .hbm, ⟨31, _⟩ => ⟨S2x4096x1024, .bf16⟩
  | .hbm, ⟨32, _⟩ => ⟨S2x8x1024, .f32⟩
  | .hbm, ⟨33, _⟩ => ⟨S40x512, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x2560, .f32⟩
  | .local _ .vmem, ⟨5, _⟩ => ⟨S1x256x2560, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x6x1024, .f32⟩
  | .local _ .vmem, ⟨11, _⟩ => ⟨S1x6x1024, .f32⟩
  | .local _ .vmem, ⟨12, _⟩ => ⟨S8x320x1024, .bf16⟩
  | .local _ .vmem, ⟨13, _⟩ => ⟨S8x128x1024, .bf16⟩
  | .local _ .vmem, ⟨14, _⟩ => ⟨S32x512, .f32⟩
  | .local _ .vmem, ⟨15, _⟩ => ⟨S8x512, .f32⟩
  | .local _ .vmem, ⟨16, _⟩ => ⟨S1x256x1024, .f32⟩
  | .local _ .vmem, ⟨17, _⟩ => ⟨S1x256x1024, .f32⟩
  | .local _ .vmem, ⟨18, _⟩ => ⟨S1x256x2560, .bf16⟩
  | .local _ .vmem, ⟨19, _⟩ => ⟨S1x256x2560, .bf16⟩
  | .local _ .vmem, ⟨20, _⟩ => ⟨S1x256x1024, .bf16⟩
  | .local _ .vmem, ⟨21, _⟩ => ⟨S1x256x1024, .bf16⟩
  | .local _ .vmem, ⟨22, _⟩ => ⟨S1x8x1024, .f32⟩
  | .local _ .vmem, ⟨23, _⟩ => ⟨S1x8x1024, .f32⟩
  | .local _ .vmem, ⟨24, _⟩ => ⟨S40x512, .f32⟩
  | .local _ .vmem, ⟨25, _⟩ => ⟨S288x512, .f32⟩
  | .local _ .vmem, ⟨26, _⟩ => ⟨S264x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S8x512, .f32⟩
  | .local _ .vmem, ⟨31, _⟩ => ⟨S7x280x512, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_call0_v0 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13_0 : Ref sig .tc := ⟨.hbm, 29, rfl⟩
abbrev main_v13_1 : Ref sig .tc := ⟨.hbm, 30, rfl⟩
abbrev main_v13_2 : Ref sig .tc := ⟨.hbm, 31, rfl⟩
abbrev main_v13_3 : Ref sig .tc := ⟨.hbm, 32, rfl⟩
abbrev main_v13_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨2, ![2, 16], ![false, false]⟩

def k0_cond4 (i : grid0.Coords) : BitVec 1 :=
  let arg0 : BitVec 32 := BitVec.ofNat 32 (i 0).val
  let c1_i32 : BitVec 32 := 1#32
  let v3 : BitVec 1 := Scalar.cmpi .eq arg0 c1_i32
  let arg1 : BitVec 32 := BitVec.ofNat 32 (i 1).val
  let c15_i32 : BitVec 32 := 15#32
  let v4 : BitVec 1 := Scalar.cmpi .eq arg1 c15_i32
  let v5 : BitVec 1 := Scalar.andi v3 v4
  let v5245 : BitVec 32 := Scalar.extui v5
  let c0_i32_2358 : BitVec 32 := 0#32
  let v5246 : BitVec 1 := Scalar.cmpi .ne v5245 c0_i32_2358
  v5246

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_11 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_12 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x320x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x2560 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S40x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== Reference11Ideal.lean ====
abbrev S2x4096x1024 : Shape := ⟨3, ![2, 4096, 1024]⟩
abbrev S2x4096x2560 : Shape := ⟨3, ![2, 4096, 2560]⟩
abbrev S2x4096x512 : Shape := ⟨3, ![2, 4096, 512]⟩
abbrev S2x6144 : Shape := ⟨2, ![2, 6144]⟩
abbrev S1x1024x2560 : Shape := ⟨3, ![1, 1024, 2560]⟩
abbrev S1x31x512 : Shape := ⟨3, ![1, 31, 512]⟩
abbrev S1x512 : Shape := ⟨2, ![1, 512]⟩
abbrev S1x3x512 : Shape := ⟨3, ![1, 3, 512]⟩
abbrev S1x1024x1024 : Shape := ⟨3, ![1, 1024, 1024]⟩
abbrev S2x1024 : Shape := ⟨2, ![2, 1024]⟩
abbrev S_ : Shape := ⟨0, ![]⟩
abbrev S2x4096 : Shape := ⟨2, ![2, 4096]⟩
abbrev S2x4096x1 : Shape := ⟨3, ![2, 4096, 1]⟩
abbrev S2x1x1024 : Shape := ⟨3, ![2, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x2560, .f32⟩
  | .hbm, ⟨3, _⟩ => ⟨S2x4096x512, .f32⟩
  | .hbm, ⟨4, _⟩ => ⟨S2x4096x512, .f32⟩
  | .hbm, ⟨5, _⟩ => ⟨S2x6144, .f32⟩
  | .hbm, ⟨6, _⟩ => ⟨S1x1024x2560, .f32⟩
  | .hbm, ⟨7, _⟩ => ⟨S1x31x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x3x512, .f32⟩
  | .hbm, ⟨12, _⟩ => ⟨S1x1024x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S2x4096x1024, .f32⟩
  | .hbm, ⟨20, _⟩ => ⟨S_, .f32⟩
  | .hbm, ⟨21, _⟩ => ⟨S2x4096, .f32⟩
  | .hbm, ⟨22, _⟩ => ⟨S2x4096x1, .f32⟩
  | .hbm, ⟨23, _⟩ => ⟨S_, .f32⟩
  | .hbm, ⟨24, _⟩ => ⟨S2x4096x1, .f32⟩
  | .hbm, ⟨25, _⟩ => ⟨S2x4096x1, .f32⟩
  | .hbm, ⟨26, _⟩ => ⟨S_, .f32⟩
  | .hbm, ⟨27, _⟩ => ⟨S2x4096x1, .f32⟩
  | .hbm, ⟨28, _⟩ => ⟨S2x4096x1, .f32⟩
  | .hbm, ⟨29, _⟩ => ⟨S2x4096x1, .f32⟩
  | .hbm, ⟨30, _⟩ => ⟨S2x4096x1024, .f32⟩
  | .hbm, ⟨31, _⟩ => ⟨S2x4096x1024, .f32⟩
  | .hbm, ⟨32, _⟩ => ⟨S2x1x1024, .f32⟩
  | .hbm, ⟨33, _⟩ => ⟨S_, .f32⟩
  | .hbm, ⟨34, _⟩ => ⟨S2x1x1024, .f32⟩
  | .hbm, ⟨35, _⟩ => ⟨S2x1x1024, .f32⟩
  | .hbm, ⟨36, _⟩ => ⟨S2x4096x1024, .f32⟩
  | .hbm, ⟨37, _⟩ => ⟨S2x4096x1024, .f32⟩
  | .hbm, ⟨38, _⟩ => ⟨S2x1x1024, .f32⟩
  | .hbm, ⟨39, _⟩ => ⟨S2x4096x1024, .f32⟩
  | .hbm, ⟨40, _⟩ => ⟨S2x4096x1024, .f32⟩
  | .hbm, ⟨41, _⟩ => ⟨S2x4096x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]
-- ==== Proof.RowMath.lean ====
module

public import Idealize.ShloMosaic.Lib.Pipeline.ValueKit

/-
  The arithmetic of one token through the channel mixer, the final norm and the loss head, forward and backward, over
  the extended reals: each value is a function of the token's rows and of the weights. The laws that carry the kernel's
  grouping of the RMS norm's gradient over to the gradient as the chain rule writes it are proved here.
-/

@[expose] public section

set_option maxRecDepth 16384

noncomputable section

open Idealize.ShloMosaic

namespace Cert.RowMath

/-- The constant 1024 as both programs write it. -/
def c1024 : EReal := Ideal.ofBits .f32 0x44800000#32
/-- The norm's epsilon as both programs write it. -/
def eps : EReal := Ideal.ofBits .f32 0x358637BD#32

/-- The literal 1024. -/
theorem ofBits_1024 : Ideal.ofBits .f32 0x44800000#32 = ((1024 : ℝ) : EReal) := by
  simp [Ideal.ofBits, Ideal.ieee]; rw [← EReal.coe_mul]; norm_num
/-- The literal 1/1024. -/
theorem ofBits_inv1024 : Ideal.ofBits .f32 0x3A800000#32 = ((1 / 1024 : ℝ) : EReal) := by
  simp [Ideal.ofBits, Ideal.ieee]; rw [← EReal.coe_mul]; norm_num
/-- The literal 1. -/
theorem ofBits_one : Ideal.ofBits .f32 0x3F800000#32 = ((1 : ℝ) : EReal) := by
  simp [Ideal.ofBits, Ideal.ieee]; rw [← EReal.coe_mul]; norm_num
/-- The literal 1/2. -/
theorem ofBits_half : Ideal.ofBits .f32 0x3F000000#32 = ((1 / 2 : ℝ) : EReal) := by
  simp [Ideal.ofBits, Ideal.ieee]; rw [← EReal.coe_mul]; norm_num
/-- The literal -1/2. -/
theorem ofBits_neghalf : Ideal.ofBits .f32 0xBF000000#32 = ((-(1 / 2) : ℝ) : EReal) := by
  simp [Ideal.ofBits, Ideal.ieee]; rw [← EReal.coe_mul]; norm_num
/-- The literal 2. -/
theorem ofBits_two : Ideal.ofBits .f32 0x40000000#32 = ((2 : ℝ) : EReal) := by
  simp [Ideal.ofBits, Ideal.ieee]; rw [← EReal.coe_mul]; norm_num
/-- The literal 0. -/
theorem ofBits_zero : Ideal.ofBits .f32 0x00000000#32 = (0 : EReal) := by
  simp [Ideal.ofBits, Ideal.ieee]
/-- Epsilon is a positive real. -/
theorem eps_pos : ∃ e : ℝ, 0 < e ∧ eps = (e : EReal) := by
  refine ⟨8796093 * 2 ^ (-43 : ℤ), by positivity, ?_⟩
  unfold eps; simp [Ideal.ofBits, Ideal.ieee]

/-- A quotient by 1024 is a product with its inverse. -/
theorem div_1024 (x : EReal) : Ideal.div x c1024 = x * ((1 / 1024 : ℝ) : EReal) := by
  unfold c1024; rw [ofBits_1024]; unfold Ideal.div
  rw [if_neg (by norm_num), ← EReal.coe_inv]; norm_num

/-- The reciprocal root-mean-square of a row. -/
def rs (v : Fin 1024 → EReal) : EReal := Ideal.rsqrt (Ideal.div (∑ k, v k * v k) c1024 + eps)

/-- The argument of the reciprocal root is infinite, or a positive real. -/
theorem msq_cases (v : Fin 1024 → EReal) :
    Ideal.div (∑ k, v k * v k) c1024 + eps = ⊤ ∨ ∃ q : ℝ, 0 < q ∧ Ideal.div (∑ k, v k * v k) c1024 + eps = (q : EReal) := by
  obtain ⟨e, he, hE⟩ := eps_pos
  have hS : 0 ≤ ∑ k, v k * v k := Finset.sum_nonneg fun k _ => by
    rcases le_total 0 (v k) with h | h
    · exact mul_nonneg h h
    · have := EReal.neg_nonneg.mpr h
      rw [← neg_mul_neg]; exact mul_nonneg this this
  rw [div_1024, hE]
  generalize (∑ k, v k * v k) = S at hS
  induction S with
  | bot => simp at hS
  | top => left; rw [EReal.top_mul_coe_of_pos (by norm_num)]; exact EReal.top_add_coe e
  | coe s =>
    right
    have hs : 0 ≤ s := by exact_mod_cast hS
    exact ⟨s * (1 / 1024) + e, by positivity, by push_cast; rfl⟩

/-- Either the reciprocal root and its quotient by the mean vanish, or both are real, the second the first's cube. -/
theorem rs_cases (v : Fin 1024 → EReal) :
    (rs v = 0 ∧ Ideal.div (rs v) (Ideal.div (∑ k, v k * v k) c1024 + eps) = 0) ∨
    ∃ r : ℝ, 0 ≤ r ∧ rs v = (r : EReal) ∧ Ideal.div (rs v) (Ideal.div (∑ k, v k * v k) c1024 + eps) = ((r * r * r : ℝ) : EReal) := by
  unfold rs
  rcases msq_cases v with h | ⟨q, hq, h⟩
  · left; rw [h]; simp [Ideal.div]
  · right; rw [h]
    have h1 : Ideal.rsqrt (q : EReal) = (((Real.sqrt q)⁻¹ : ℝ) : EReal) := by
      rw [Ideal.rsqrt_coe, if_neg (not_lt.mpr hq.le), if_neg hq.ne']
    refine ⟨(Real.sqrt q)⁻¹, by positivity, h1, ?_⟩
    rw [h1]; unfold Ideal.div
    rw [if_neg (by exact_mod_cast hq.ne'), ← EReal.coe_inv, ← EReal.coe_mul]
    congr 1
    have : q⁻¹ = (Real.sqrt q)⁻¹ * (Real.sqrt q)⁻¹ := by rw [← mul_inv, Real.mul_self_sqrt hq.le]
    rw [this]; ring

/-- A nonnegative real factor goes into a sum. -/
theorem sum_mul_coe {n : ℕ} (f : Fin n → EReal) (r : ℝ) (hr : 0 ≤ r) : (∑ k, f k) * (r : EReal) = ∑ k, f k * (r : EReal) := by
  have h : ∀ s : Finset (Fin n), (∑ k ∈ s, f k) * (r : EReal) = ∑ k ∈ s, f k * (r : EReal) := by
    intro s
    induction s using Finset.cons_induction with
    | empty => simp
    | cons a s ha ih =>
      rw [Finset.sum_cons, Finset.sum_cons, EReal.right_distrib_of_nonneg_of_ne_top (by exact_mod_cast hr) (EReal.coe_ne_top r), ih]
  exact h _

/-- The gradient through the norm as the kernel groups it: `r * (ct - xn * mean (ct * xn))`. -/
def normBwd (v ct : Fin 1024 → EReal) (d : Fin 1024) : EReal :=
  rs v * (ct d - v d * rs v * Ideal.div (∑ k, ct k * (v k * rs v)) c1024)

/-- The chain rule's factor through the mean: what the gradient of the mean of squares is worth at each feature. -/
def dMean (v ct : Fin 1024 → EReal) : EReal :=
  Ideal.div ((∑ k, v k * ct k) * (Ideal.ofBits .f32 0xBF000000#32 * Ideal.div (rs v) (Ideal.div (∑ k, v k * v k) c1024 + eps))) c1024

/-- The kernel's grouping of the norm's gradient is the chain rule's, on all extended reals. -/
theorem normBwd_eq (v ct : Fin 1024 → EReal) (d : Fin 1024) :
    ct d * rs v + v d * dMean v ct + dMean v ct * v d = normBwd v ct d := by
  unfold normBwd dMean
  rw [ofBits_neghalf, div_1024 (_ * _), div_1024 (∑ k, ct k * _)]
  rcases rs_cases v with ⟨h0, h1⟩ | ⟨r, hr, h0, h1⟩
  · rw [h1, h0]; simp
  · rw [h1, h0]
    have hA : ∑ k, ct k * (v k * (r : EReal)) = (∑ k, v k * ct k) * (r : EReal) := by
      rw [sum_mul_coe _ r hr]
      exact Finset.sum_congr rfl fun k _ => by rw [← mul_assoc, mul_comm (ct k)]
    rw [hA]
    generalize (∑ k, v k * ct k) = A
    set K : ℝ := r * r * r / 2048 with hK
    have hK0 : (0 : EReal) ≤ (K : EReal) := by have : 0 ≤ K := by positivity
                                               exact_mod_cast this
    have e1 : v d * (A * (((-(1 / 2) : ℝ) : EReal) * ((r * r * r : ℝ) : EReal)) * ((1 / 1024 : ℝ) : EReal)) = -(v d * A * (K : EReal)) := by
      rw [← EReal.coe_mul, mul_assoc A, ← EReal.coe_mul, ← mul_assoc]
      rw [show (-(1 / 2) * (r * r * r) * (1 / 1024) : ℝ) = -K by rw [hK]; ring, EReal.coe_neg, mul_neg]
    have e2 : (r : EReal) * (v d * (r : EReal) * (A * (r : EReal) * ((1 / 1024 : ℝ) : EReal))) = v d * A * (K : EReal) + v d * A * (K : EReal) := by
      rw [← EReal.left_distrib_of_nonneg hK0 hK0, ← EReal.coe_add]
      rw [show (K + K : ℝ) = r * r * (r * (1 / 1024)) by rw [hK]; ring]
      rw [EReal.coe_mul, EReal.coe_mul r r, EReal.coe_mul r (1 / 1024)]
      ac_rfl
    rw [mul_comm _ (v d), e1, add_assoc, sub_eq_add_neg,
      EReal.left_distrib_of_nonneg_of_ne_top (by exact_mod_cast hr) (EReal.coe_ne_top r), mul_neg, e2, mul_comm (ct d)]
    congr 1
    generalize v d * A * (K : EReal) = P
    induction P with
    | bot => simp
    | top => simp
    | coe p => push_cast [← EReal.coe_neg, ← EReal.coe_add]; norm_cast; ring

/-- One token's rows and the weights. -/
structure Tok where
  x : Fin 1024 → EReal
  y : Fin 1024 → EReal
  t : Fin 1024 → EReal
  m : Fin 6 → Fin 1024 → EReal
  w1 : Fin 4096 → Fin 1024 → EReal
  w2 : Fin 4096 → Fin 1024 → EReal
  g : Fin 1024 → EReal

namespace Tok
variable (T : Tok)
/-- The residual stream after the token mixer. -/
def x1 (d : Fin 1024) : EReal := T.x d + T.m 2 d * T.y d
/-- Its normalised row. -/
def xn2 (d : Fin 1024) : EReal := T.x1 d * rs T.x1
/-- The modulated normalised row. -/
def h2 (d : Fin 1024) : EReal := T.xn2 d * (Ideal.ofBits .f32 0x3F800000#32 + T.m 4 d) + T.m 3 d
/-- The hidden pre-activation, cut at zero. -/
def rz (f : Fin 4096) : EReal := max (∑ d, T.h2 d * T.w1 f d) 0
/-- The squared-ReLU activation. -/
def u (f : Fin 4096) : EReal := T.rz f * T.rz f
/-- The channel mixer's output. -/
def y2 (d : Fin 1024) : EReal := ∑ f, T.u f * T.w2 f d
/-- The residual stream after the channel mixer. -/
def x2 (d : Fin 1024) : EReal := T.x1 d + T.m 5 d * T.y2 d
/-- Its normalised row. -/
def xn3 (d : Fin 1024) : EReal := T.x2 d * rs T.x2
/-- The error of the prediction. -/
def diff (d : Fin 1024) : EReal := T.xn3 d * T.g d - T.t d
/-- The loss's gradient at the prediction. -/
def dout (d : Fin 1024) : EReal := T.diff d * Ideal.ofBits .f32 0x3A800000#32
/-- Its product with the final gain. -/
def dxn3 (d : Fin 1024) : EReal := T.dout d * T.g d
/-- The gradient at the residual stream after the channel mixer. -/
def dx2 (d : Fin 1024) : EReal := normBwd T.x2 T.dxn3 d
/-- The gradient at the channel mixer's output. -/
def dy2 (d : Fin 1024) : EReal := T.m 5 d * T.dx2 d
/-- The gradient at the hidden pre-activation. -/
def dz (f : Fin 4096) : EReal := (∑ d, T.dy2 d * T.w2 f d) * (Ideal.ofBits .f32 0x40000000#32 * T.rz f)
/-- The gradient at the modulated row. -/
def dh2 (d : Fin 1024) : EReal := ∑ f, T.dz f * T.w1 f d
/-- Its product with the modulation's scale. -/
def dxn2 (d : Fin 1024) : EReal := T.dh2 d * (Ideal.ofBits .f32 0x3F800000#32 + T.m 4 d)
/-- The gradient at the residual stream after the token mixer. -/
def dx1 (d : Fin 1024) : EReal := T.dx2 d + normBwd T.x1 T.dxn2 d
/-- The gradient at the token mixer's output. -/
def dy1 (d : Fin 1024) : EReal := T.m 2 d * T.dx1 d
/-- The token's part of the four rows of the modulation's gradient. -/
def dmod (r : Fin 8) (d : Fin 1024) : EReal :=
  if r.val = 0 then T.dh2 d else if r.val = 1 then T.dh2 d * T.xn2 d else if r.val = 2 then T.dx2 d * T.y2 d
  else if r.val = 3 then T.dx1 d * T.y d else 0
/-- The token's part of the two rows of the head's sums. -/
def head (r : Fin 8) (d : Fin 1024) : EReal :=
  if r.val = 0 then T.dout d * T.xn3 d else if r.val = 1 then T.diff d * T.diff d else 0
end Tok

/-- The squared ReLU's gradient with its selection: the selected product is the product, as the cut value vanishes where nothing is selected. -/
theorem select_relu (z a : EReal) :
    (if 0 < z then a * (Ideal.ofBits .f32 0x40000000#32 * max z 0) else 0) = a * (Ideal.ofBits .f32 0x40000000#32 * max z 0) := by
  split
  · rfl
  · rename_i h; rw [max_eq_right (not_lt.mp h), mul_zero, mul_zero]

/-- The loss's gradient: half the mean's factor times twice the error is the error over 1024. -/
theorem loss_factor (x : EReal) :
    Ideal.div (Ideal.ofBits .f32 0x3F000000#32 * Ideal.ofBits .f32 0x3F800000#32) c1024 * (Ideal.ofBits .f32 0x40000000#32 * x)
      = x * Ideal.ofBits .f32 0x3A800000#32 := by
  rw [div_1024, ofBits_half, ofBits_one, ofBits_two, ofBits_inv1024, ← EReal.coe_mul, ← EReal.coe_mul, ← mul_assoc, ← EReal.coe_mul, mul_comm]
  congr 2; norm_num

end Cert.RowMath

end
-- ==== Proof.Body.lean ====
module

public import proofs.«01_k».proof.Proof.Gen.KernelIdeal.Skeleton
public import proofs.«01_k».proof.Proof.RowMath
public import Idealize.ShloMosaic.Lib.Pipeline.ValueKit

/-
  The kernel's payloads read at an index: over a tile of 256 tokens `T`, each computed array is the arithmetic of one token
  (`Cert.RowMath.Tok`) at each of its rows, given that the arrays it is computed from are.
-/

@[expose] public section

set_option maxRecDepth 16384

noncomputable section

open Idealize.ShloMosaic Cert.KernelIdeal Cert.KernelIdeal.Gen Cert.RowMath

namespace Cert.Body

/-- Row `j` of the `k`-th block of 512 hidden rows. -/
def col (k : Fin 8) (j : Fin 512) : Fin 4096 := ⟨512 * k.val + j.val, by omega⟩

variable (T : Fin 256 → Tok)

/-- The residual stream after the token mixer. -/
theorem pay2 (v0 : Vec Ideal S1x256x1024 .f32) (v2 : Vec Ideal S1x1x1024 .f32) (v4 : Vec Ideal S1x256x1024 .f32)
    (h0 : ∀ p d, v0 (ix3 0 p d) = (T p).x d) (h2 : ∀ p d, v2 (ix3 0 0 d) = (T p).m 2 d) (h4 : ∀ p d, v4 (ix3 0 p d) = (T p).y d) :
    ∀ p d, k0_pay2 v0 v2 v4 (ix2 p d) = (T p).x1 d := by
  unfold k0_pay2
  intro p d
  pointwise
  simp only [h0, h2 p, h4]
  rfl

/-- The MLP scale as a row. -/
theorem pay3 (v11 : Vec Ideal S1x1x1024 .f32)
    (h : ∀ p d, v11 (ix3 0 0 d) = (T p).m 4 d) :
    ∀ p d, k0_pay3 v11 (ix2 0 d) = (T p).m 4 d := by
  unfold k0_pay3
  intro p d
  pointwise
  exact h p d

/-- The MLP gate as a row. -/
theorem pay4 (v13 : Vec Ideal S1x1x1024 .f32)
    (h : ∀ p d, v13 (ix3 0 0 d) = (T p).m 5 d) :
    ∀ p d, k0_pay4 v13 (ix2 0 d) = (T p).m 5 d := by
  unfold k0_pay4
  intro p d
  pointwise
  exact h p d

/-- The last norm's gain as a row. -/
theorem pay5 (v15 : Vec Ideal S1x1024 .f32)
    (h : ∀ p d, v15 (ix2 0 d) = (T p).g d) :
    ∀ p d, k0_pay5 v15 (ix2 0 d) = (T p).g d := by
  unfold k0_pay5
  intro p d
  pointwise
  exact h p d

/-- The first norm's factor. -/
theorem pay6 (v0 : Vec Ideal S1x256x1024 .f32) (v2 : Vec Ideal S1x1x1024 .f32) (v4 : Vec Ideal S1x256x1024 .f32)
    (hx1 : ∀ p d, k0_pay2 v0 v2 v4 (ix2 p d) = (T p).x1 d) :
    ∀ p, k0_pay6 v0 v2 v4 (ix2 p 0) = rs (T p).x1 := by
  unfold k0_pay6
  generalize k0_pay2 v0 v2 v4 = V at hx1
  intro p
  pointwise
  simp only [hx1]
  rfl

/-- The first norm's rows. -/
theorem pay7 (v0 : Vec Ideal S1x256x1024 .f32) (v2 : Vec Ideal S1x1x1024 .f32) (v4 : Vec Ideal S1x256x1024 .f32)
    (hx1 : ∀ p d, k0_pay2 v0 v2 v4 (ix2 p d) = (T p).x1 d) :
    ∀ p d, k0_pay7 v0 v2 v4 (ix2 p d) = (T p).xn2 d := by
  unfold k0_pay7
  have h6 := pay6 T v0 v2 v4 hx1
  generalize k0_pay6 v0 v2 v4 = W at h6
  generalize k0_pay2 v0 v2 v4 = V at hx1
  intro p d
  pointwise
  simp only [hx1, h6]
  rfl

/-- The MLP's input rows. -/
theorem pay8 (v0 : Vec Ideal S1x256x1024 .f32) (v2 : Vec Ideal S1x1x1024 .f32) (v4 : Vec Ideal S1x256x1024 .f32) (v9 : Vec Ideal S1x1x1024 .f32) (v11 : Vec Ideal S1x1x1024 .f32)
    (hx1 : ∀ p d, k0_pay2 v0 v2 v4 (ix2 p d) = (T p).x1 d) (h9 : ∀ p d, v9 (ix3 0 0 d) = (T p).m 3 d) (h11 : ∀ p d, v11 (ix3 0 0 d) = (T p).m 4 d) :
    ∀ p d, k0_pay8 v0 v2 v4 v9 v11 (ix2 p d) = (T p).h2 d := by
  unfold k0_pay8
  have h7 := pay7 T v0 v2 v4 hx1
  have h3 := pay3 T v11 h11
  generalize k0_pay7 v0 v2 v4 = W at h7
  generalize k0_pay3 v11 = V at h3
  intro p d
  pointwise
  simp only [h7, h3 p, h9 p]
  rw [Tok.h2, ofBits_one, EReal.coe_one]

/-- The MLP's input rows as the block stored. -/
theorem pay9 (v33 : FVec Ideal S256x1024 .bf16)
    (h33 : ∀ p d, v33 (ix2 p d) = (T p).h2 d) :
    ∀ p d, k0_pay9 v33 (ix3 0 p d) = (T p).h2 d := by
  unfold k0_pay9
  intro p d
  pointwise
  exact h33 p d

/-- A block of the hidden layer, cut at zero. -/
theorem pay10 (B : Fin 512 → Fin 4096) (v33 : FVec Ideal S256x1024 .bf16) (v37 : Vec Ideal S1x512x1024 .bf16)
    (h33 : ∀ p d, v33 (ix2 p d) = (T p).h2 d) (hw : ∀ p j d, v37 (ix3 0 j d) = (T p).w1 (B j) d) :
    ∀ p j, k0_pay10 v33 v37 (ix2 p j) = (T p).rz (B j) := by
  unfold k0_pay10
  intro p j
  pointwise
  simp only [h33, hw p]
  rfl

/-- A block of the hidden layer, kept for the backward pass. -/
theorem pay23 (v93 : FVec Ideal S256x512 .f32)
     :
    ∀ p j, k0_pay23 v93 (ix2 p j) = v93 (ix2 p j) := by
  unfold k0_pay23
  intro p j
  pointwise

/-- A squared block as stored. -/
theorem pay31 (v124 : FVec Ideal S256x512 .bf16)
     :
    ∀ p j, k0_pay31 v124 (ix3 0 p j) = v124 (ix2 p j) := by
  unfold k0_pay31
  intro p j
  pointwise

/-- A block of the hidden layer, squared. -/
theorem pay30 (v33 : FVec Ideal S256x1024 .bf16) (v115 : Vec Ideal S1x512x1024 .bf16)
     :
    ∀ p j, k0_pay30 v33 v115 (ix2 p j) = k0_pay28 v33 v115 (ix2 p j) * k0_pay28 v33 v115 (ix2 p j) := by
  unfold k0_pay30
  generalize k0_pay28 v33 v115 = V
  intro p j
  pointwise

/-- A block of the hidden layer, squared. -/
theorem pay24 (v93 : FVec Ideal S256x512 .f32)
     :
    ∀ p j, k0_pay24 v93 (ix3 0 p j) = v93 (ix2 p j) * v93 (ix2 p j) := by
  unfold k0_pay24
  intro p j
  pointwise

/-- The channel mixer. -/
theorem pay35 (v141 : Vec Ideal S1x256x4096 .bf16) (v143 : Vec Ideal S8x512x1024 .bf16)
    (h141 : ∀ p f, v141 (ix3 0 p f) = (T p).u f) (hw : ∀ p (f : Fin 4096) d, v143 (ix3 ⟨f.val / 512, by omega⟩ ⟨f.val % 512, by omega⟩ d) = (T p).w2 f d) :
    ∀ p d, k0_pay35 v141 v143 (ix2 p d) = (T p).y2 d := by
  unfold k0_pay35
  intro p d
  pointwise
  simp only [h141, hw p]
  rfl

/-- The residual stream after the channel mixer. -/
theorem pay36 (v8 : FVec Ideal S256x1024 .f32) (v14 : FVec Ideal S1x1024 .f32) (v141 : Vec Ideal S1x256x4096 .bf16) (v143 : Vec Ideal S8x512x1024 .bf16)
    (h8 : ∀ p d, v8 (ix2 p d) = (T p).x1 d) (h14 : ∀ p d, v14 (ix2 0 d) = (T p).m 5 d) (h35 : ∀ p d, k0_pay35 v141 v143 (ix2 p d) = (T p).y2 d) :
    ∀ p d, k0_pay36 v8 v14 v141 v143 (ix2 p d) = (T p).x2 d := by
  unfold k0_pay36
  generalize k0_pay35 v141 v143 = V35 at h35
  intro p d
  pointwise
  simp only [h8, h14 p, h35]
  rfl

/-- The last norm's factor. -/
theorem pay37 (v8 : FVec Ideal S256x1024 .f32) (v14 : FVec Ideal S1x1024 .f32) (v141 : Vec Ideal S1x256x4096 .bf16) (v143 : Vec Ideal S8x512x1024 .bf16)
    (h36 : ∀ p d, k0_pay36 v8 v14 v141 v143 (ix2 p d) = (T p).x2 d) :
    ∀ p, k0_pay37 v8 v14 v141 v143 (ix2 p 0) = rs (T p).x2 := by
  unfold k0_pay37
  generalize k0_pay36 v8 v14 v141 v143 = V36 at h36
  intro p
  pointwise
  simp only [h36]
  rfl

/-- The last norm's rows. -/
theorem pay38 (v8 : FVec Ideal S256x1024 .f32) (v14 : FVec Ideal S1x1024 .f32) (v141 : Vec Ideal S1x256x4096 .bf16) (v143 : Vec Ideal S8x512x1024 .bf16)
    (h36 : ∀ p d, k0_pay36 v8 v14 v141 v143 (ix2 p d) = (T p).x2 d) :
    ∀ p d, k0_pay38 v8 v14 v141 v143 (ix2 p d) = (T p).xn3 d := by
  unfold k0_pay38
  have h37 := pay37 T v8 v14 v141 v143 h36
  generalize k0_pay37 v8 v14 v141 v143 = V37 at h37
  generalize k0_pay36 v8 v14 v141 v143 = V36 at h36
  intro p d
  pointwise
  simp only [h36, h37]
  rfl

/-- The model's output. -/
theorem pay39 (v8 : FVec Ideal S256x1024 .f32) (v14 : FVec Ideal S1x1024 .f32) (v16 : FVec Ideal S1x1024 .f32) (v141 : Vec Ideal S1x256x4096 .bf16) (v143 : Vec Ideal S8x512x1024 .bf16)
    (h38 : ∀ p d, k0_pay38 v8 v14 v141 v143 (ix2 p d) = (T p).xn3 d) (h16 : ∀ p d, v16 (ix2 0 d) = (T p).g d) :
    ∀ p d, k0_pay39 v8 v14 v16 v141 v143 (ix2 p d) = (T p).xn3 d * (T p).g d := by
  unfold k0_pay39
  generalize k0_pay38 v8 v14 v141 v143 = V38 at h38
  intro p d
  pointwise
  simp only [h38, h16 p]

/-- The loss's difference. -/
theorem pay40 (v161 : FVec Ideal S256x1024 .f32) (v162 : Vec Ideal S1x256x1024 .f32)
    (h161 : ∀ p d, v161 (ix2 p d) = (T p).xn3 d * (T p).g d) (h162 : ∀ p d, v162 (ix3 0 p d) = (T p).t d) :
    ∀ p d, k0_pay40 v161 v162 (ix2 p d) = (T p).diff d := by
  unfold k0_pay40
  intro p d
  pointwise
  simp only [h161, h162]
  rfl

/-- The loss's gradient. -/
theorem pay41 (v161 : FVec Ideal S256x1024 .f32) (v162 : Vec Ideal S1x256x1024 .f32)
    (h161 : ∀ p d, v161 (ix2 p d) = (T p).xn3 d * (T p).g d) (h162 : ∀ p d, v162 (ix3 0 p d) = (T p).t d) :
    ∀ p d, k0_pay41 v161 v162 (ix2 p d) = (T p).dout d := by
  unfold k0_pay41
  have h40 := pay40 T v161 v162 h161 h162
  generalize k0_pay40 v161 v162 = V at h40
  intro p d
  pointwise
  simp only [h40]
  rfl

/-- The gain's gradient, added up over the tile. -/
theorem pay44 (v159 : FVec Ideal S256x1024 .f32) (v161 : FVec Ideal S256x1024 .f32) (v162 : Vec Ideal S1x256x1024 .f32) (v175 : Vec Ideal S1x1024 .f32)
    (h159 : ∀ p d, v159 (ix2 p d) = (T p).xn3 d) (h161 : ∀ p d, v161 (ix2 p d) = (T p).xn3 d * (T p).g d) (h162 : ∀ p d, v162 (ix3 0 p d) = (T p).t d) :
    ∀ d, k0_pay44 v159 v161 v162 v175 (ix2 0 d) = v175 (ix2 0 d) + ∑ p, (T p).dout d * (T p).xn3 d := by
  unfold k0_pay44
  have h41 := pay41 T v161 v162 h161 h162
  generalize k0_pay41 v161 v162 = V at h41
  intro d
  pointwise
  simp only [h41, h159]

/-- The loss's squares, added up over the tile. -/
theorem pay45 (v161 : FVec Ideal S256x1024 .f32) (v162 : Vec Ideal S1x256x1024 .f32) (v182 : Vec Ideal S1x1024 .f32)
    (h161 : ∀ p d, v161 (ix2 p d) = (T p).xn3 d * (T p).g d) (h162 : ∀ p d, v162 (ix3 0 p d) = (T p).t d) :
    ∀ d, k0_pay45 v161 v162 v182 (ix2 0 d) = v182 (ix2 0 d) + ∑ p, (T p).diff d * (T p).diff d := by
  unfold k0_pay45
  have h40 := pay40 T v161 v162 h161 h162
  generalize k0_pay40 v161 v162 = V at h40
  intro d
  pointwise
  simp only [h40]

/-- The last norm's gradient before its factor. -/
theorem pay46 (v16 : FVec Ideal S1x1024 .f32) (v159 : FVec Ideal S256x1024 .f32) (v161 : FVec Ideal S256x1024 .f32) (v162 : Vec Ideal S1x256x1024 .f32)
    (h16 : ∀ p d, v16 (ix2 0 d) = (T p).g d) (h159 : ∀ p d, v159 (ix2 p d) = (T p).xn3 d) (h161 : ∀ p d, v161 (ix2 p d) = (T p).xn3 d * (T p).g d) (h162 : ∀ p d, v162 (ix3 0 p d) = (T p).t d) :
    ∀ p d, k0_pay46 v16 v159 v161 v162 (ix2 p d) = (T p).dxn3 d - (T p).xn3 d * Ideal.div (∑ k, (T p).dxn3 k * (T p).xn3 k) c1024 := by
  unfold k0_pay46
  have h41 := pay41 T v161 v162 h161 h162
  generalize k0_pay41 v161 v162 = V at h41
  intro p d
  pointwise
  simp only [h41, h159, h16 p]
  rfl

/-- The gradient after the channel mixer. -/
theorem pay47 (v157 : FVec Ideal S256x1 .f32) (v198 : FVec Ideal S256x1024 .f32)
    (h157 : ∀ p, v157 (ix2 p 0) = rs (T p).x2) (h198 : ∀ p d, v198 (ix2 p d) = (T p).dxn3 d - (T p).xn3 d * Ideal.div (∑ k, (T p).dxn3 k * (T p).xn3 k) c1024) :
    ∀ p d, k0_pay47 v157 v198 (ix2 p d) = (T p).dx2 d := by
  unfold k0_pay47
  intro p d
  pointwise
  simp only [h157, h198]
  rfl

/-- The MLP gate's gradient, added up over the tile. -/
theorem pay48 (v146 : FVec Ideal S256x1024 .f32) (v157 : FVec Ideal S256x1 .f32) (v198 : FVec Ideal S256x1024 .f32) (v201 : Vec Ideal S1x1x1024 .f32)
    (h146 : ∀ p d, v146 (ix2 p d) = (T p).y2 d) (h157 : ∀ p, v157 (ix2 p 0) = rs (T p).x2) (h198 : ∀ p d, v198 (ix2 p d) = (T p).dxn3 d - (T p).xn3 d * Ideal.div (∑ k, (T p).dxn3 k * (T p).xn3 k) c1024) :
    ∀ d, k0_pay48 v146 v157 v198 v201 (ix3 0 0 d) = v201 (ix3 0 0 d) + ∑ p, (T p).dx2 d * (T p).y2 d := by
  unfold k0_pay48
  have h47 := pay47 T v157 v198 h157 h198
  generalize k0_pay47 v157 v198 = V at h47
  intro d
  pointwise
  simp only [h47, h146]

/-- The gradient of the channel mixer's output. -/
theorem pay49 (v14 : FVec Ideal S1x1024 .f32) (v157 : FVec Ideal S256x1 .f32) (v198 : FVec Ideal S256x1024 .f32)
    (h14 : ∀ p d, v14 (ix2 0 d) = (T p).m 5 d) (h157 : ∀ p, v157 (ix2 p 0) = rs (T p).x2) (h198 : ∀ p d, v198 (ix2 p d) = (T p).dxn3 d - (T p).xn3 d * Ideal.div (∑ k, (T p).dxn3 k * (T p).xn3 k) c1024) :
    ∀ p d, k0_pay49 v14 v157 v198 (ix2 p d) = (T p).dy2 d := by
  unfold k0_pay49
  have h47 := pay47 T v157 v198 h157 h198
  generalize k0_pay47 v157 v198 = V at h47
  intro p d
  pointwise
  simp only [h47, h14 p]
  rfl

/-- The gradient of the channel mixer's output as the block stored. -/
theorem pay50 (v14 : FVec Ideal S1x1024 .f32) (v157 : FVec Ideal S256x1 .f32) (v198 : FVec Ideal S256x1024 .f32)
    (h49 : ∀ p d, k0_pay49 v14 v157 v198 (ix2 p d) = (T p).dy2 d) :
    ∀ p d, k0_pay50 v14 v157 v198 (ix3 0 p d) = (T p).dy2 d := by
  unfold k0_pay50
  generalize k0_pay49 v14 v157 v198 = V at h49
  intro p d
  pointwise
  exact h49 p d

/-- A block of the hidden layer's gradient. -/
theorem pay58 (B : Fin 512 → Fin 4096) (v212 : FVec Ideal S256x1024 .bf16) (v282 : Vec Ideal S1x512x1024 .bf16) (v285 : Vec Ideal S256x512 .f32)
    (h212 : ∀ p d, v212 (ix2 p d) = (T p).dy2 d) (hw : ∀ p j d, v282 (ix3 0 j d) = (T p).w2 (B j) d) (h285 : ∀ p j, v285 (ix2 p j) = (T p).rz (B j)) :
    ∀ p j, k0_pay58 v212 v282 v285 (ix2 p j) = (T p).dz (B j) := by
  unfold k0_pay58
  intro p j
  pointwise
  simp only [h212, hw p, h285]
  rfl

/-- A block of the hidden layer's gradient as stored. -/
theorem pay59 (v289 : FVec Ideal S256x512 .bf16)
     :
    ∀ p j, k0_pay59 v289 (ix3 0 p j) = v289 (ix2 p j) := by
  unfold k0_pay59
  intro p j
  pointwise

/-- The gradient of the MLP's input. -/
theorem pay61 (v304 : Vec Ideal S1x256x4096 .bf16) (v306 : Vec Ideal S8x512x1024 .bf16)
    (h304 : ∀ p f, v304 (ix3 0 p f) = (T p).dz f) (hw : ∀ p (f : Fin 4096) d, v306 (ix3 ⟨f.val / 512, by omega⟩ ⟨f.val % 512, by omega⟩ d) = (T p).w1 f d) :
    ∀ p d, k0_pay61 v304 v306 (ix2 p d) = (T p).dh2 d := by
  unfold k0_pay61
  intro p d
  pointwise
  simp only [h304, hw p]
  rfl

/-- The MLP shift's gradient, added up over the tile. -/
theorem pay62 (v304 : Vec Ideal S1x256x4096 .bf16) (v306 : Vec Ideal S8x512x1024 .bf16) (v310 : Vec Ideal S1x1x1024 .f32)
    (h61 : ∀ p d, k0_pay61 v304 v306 (ix2 p d) = (T p).dh2 d) :
    ∀ d, k0_pay62 v304 v306 v310 (ix3 0 0 d) = v310 (ix3 0 0 d) + ∑ p, (T p).dh2 d := by
  unfold k0_pay62
  generalize k0_pay61 v304 v306 = V at h61
  intro d
  pointwise
  simp only [h61]

/-- The MLP scale's gradient per token. -/
theorem pay64 (v26 : FVec Ideal S256x1024 .f32) (v304 : Vec Ideal S1x256x4096 .bf16) (v306 : Vec Ideal S8x512x1024 .bf16)
    (h26 : ∀ p d, v26 (ix2 p d) = (T p).xn2 d) (h61 : ∀ p d, k0_pay61 v304 v306 (ix2 p d) = (T p).dh2 d) :
    ∀ p d, k0_pay64 v26 v304 v306 (ix2 p d) = (T p).dh2 d * (T p).xn2 d := by
  unfold k0_pay64
  generalize k0_pay61 v304 v306 = V at h61
  intro p d
  pointwise
  simp only [h61, h26]

/-- A carried row as a row. -/
theorem pay63 (v318 : Vec Ideal S1x1x1024 .f32)
     :
    ∀ d, k0_pay63 v318 (ix2 0 d) = v318 (ix3 0 0 d) := by
  unfold k0_pay63
  intro d
  pointwise

/-- A carried row as a row. -/
theorem pay69 (v353 : Vec Ideal S1x1x1024 .f32)
     :
    ∀ d, k0_pay69 v353 (ix2 0 d) = v353 (ix3 0 0 d) := by
  unfold k0_pay69
  intro d
  pointwise

/-- The MLP scale's gradient, added up over the tile. -/
theorem pay65 (v319 : FVec Ideal S1x1024 .f32) (v320 : FVec Ideal S256x1024 .f32)
    (h320 : ∀ p d, v320 (ix2 p d) = (T p).dh2 d * (T p).xn2 d) :
    ∀ d, k0_pay65 v319 v320 (ix3 0 0 d) = v319 (ix2 0 d) + ∑ p, (T p).dh2 d * (T p).xn2 d := by
  unfold k0_pay65
  intro d
  pointwise
  simp only [h320]

/-- The gradient of the MLP half's input. -/
theorem pay66 (v12 : FVec Ideal S1x1024 .f32) (v24 : FVec Ideal S256x1 .f32) (v26 : FVec Ideal S256x1024 .f32) (v200 : FVec Ideal S256x1024 .f32) (v309 : FVec Ideal S256x1024 .f32)
    (h12 : ∀ p d, v12 (ix2 0 d) = (T p).m 4 d) (h24 : ∀ p, v24 (ix2 p 0) = rs (T p).x1) (h26 : ∀ p d, v26 (ix2 p d) = (T p).xn2 d) (h200 : ∀ p d, v200 (ix2 p d) = (T p).dx2 d) (h309 : ∀ p d, v309 (ix2 p d) = (T p).dh2 d) :
    ∀ p d, k0_pay66 v12 v24 v26 v200 v309 (ix2 p d) = (T p).dx1 d := by
  unfold k0_pay66
  intro p d
  pointwise
  simp only [h12 p, h24, h26, h200, h309]
  simp only [Tok.dx1, normBwd, Tok.dxn2, ofBits_one]
  rfl

/-- The gradient of the MLP half's input as the block stored. -/
theorem pay67 (v12 : FVec Ideal S1x1024 .f32) (v24 : FVec Ideal S256x1 .f32) (v26 : FVec Ideal S256x1024 .f32) (v200 : FVec Ideal S256x1024 .f32) (v309 : FVec Ideal S256x1024 .f32)
    (h66 : ∀ p d, k0_pay66 v12 v24 v26 v200 v309 (ix2 p d) = (T p).dx1 d) :
    ∀ p d, k0_pay67 v12 v24 v26 v200 v309 (ix3 0 p d) = (T p).dx1 d := by
  unfold k0_pay67
  generalize k0_pay66 v12 v24 v26 v200 v309 = V at h66
  intro p d
  pointwise
  exact h66 p d

/-- The gradient of the token mixer's output. -/
theorem pay68 (v12 : FVec Ideal S1x1024 .f32) (v24 : FVec Ideal S256x1 .f32) (v26 : FVec Ideal S256x1024 .f32) (v200 : FVec Ideal S256x1024 .f32) (v309 : FVec Ideal S256x1024 .f32) (v345 : Vec Ideal S1x1x1024 .f32)
    (h66 : ∀ p d, k0_pay66 v12 v24 v26 v200 v309 (ix2 p d) = (T p).dx1 d) (h345 : ∀ p d, v345 (ix3 0 0 d) = (T p).m 2 d) :
    ∀ p d, k0_pay68 v12 v24 v26 v200 v309 v345 (ix3 0 p d) = (T p).dy1 d := by
  unfold k0_pay68
  generalize k0_pay66 v12 v24 v26 v200 v309 = V at h66
  intro p d
  pointwise
  simp only [h66, h345 p]
  rfl

/-- The mixer gate's gradient, added up over the tile. -/
theorem pay1 (v341 : FVec Ideal S256x1024 .f32) (v354 : FVec Ideal S1x1024 .f32) (v355 : Vec Ideal S1x256x1024 .f32)
    (h341 : ∀ p d, v341 (ix2 p d) = (T p).dx1 d) (h355 : ∀ p d, v355 (ix3 0 p d) = (T p).y d) :
    ∀ d, k0_pay1 v341 v354 v355 (ix3 0 0 d) = v354 (ix2 0 d) + ∑ p, (T p).dx1 d * (T p).y d := by
  unfold k0_pay1
  intro d
  pointwise
  simp only [h341, h355]

/-- A block of the squared hidden layer as stored. -/
theorem pay12 (B : Fin 512 → Fin 4096) (v33 : FVec Ideal S256x1024 .bf16) (v37 : Vec Ideal S1x512x1024 .bf16)
    (h33 : ∀ p d, v33 (ix2 p d) = (T p).h2 d) (hw : ∀ p j d, v37 (ix3 0 j d) = (T p).w1 (B j) d) :
    ∀ p j, k0_pay12 v33 v37 (ix3 0 p j) = (T p).u (B j) := by
  intro p j
  refine (pay24 (k0_pay10 v33 v37) p j).trans ?_
  rw [pay10 T B v33 v37 h33 hw p j]
  rfl

/-- A row of zeros. -/
theorem pay42 (r d) : k0_pay42 (F := Ideal) (ix2 r d) = 0 := by
  unfold k0_pay42
  pointwise

/-- A block of zeros. -/
theorem pay43 (r d) : k0_pay43 (F := Ideal) (ix3 0 r d) = 0 := by
  unfold k0_pay43
  pointwise

end Cert.Body

end
-- ==== Proof.Words.lean ====
module

public import proofs.«01_k».proof.Proof.Gen.KernelIdeal.Frame
public import proofs.«01_k».proof.Proof.Body
public import Idealize.ShloMosaic.Lib.Pipeline.ValueKit
public import Idealize.ShloMosaic.Lib.Pipeline.ReadBack
public import Idealize.ShloMosaic.Lib.WholeRead

/-
  The arrays a grid point computes, each read at an index as the arithmetic of the tile's tokens: the loads of the blocks,
  the eight stored blocks of the hidden layer and of its gradient read back, and what is computed from them.
-/

@[expose] public section

set_option maxRecDepth 16384

noncomputable section

open Idealize.ShloMosaic Cert.KernelIdeal Cert.KernelIdeal.Gen Cert.RowMath

namespace Cert.Words

/-- A stored block of 512 columns holds, at its local index, the rows' entries at the block's hidden indices. -/
theorem piece3 {V : S1x256x512.Idx → EReal} {g : Fin 4096 → EReal} (k : Fin 8) (p : Fin 256) (f : Fin 4096) (x : S1x256x512.Idx)
    (h1 : (p : ℕ) = x 1) (h2 : (f : ℕ) = 512 * k.val + x 2) (hV : ∀ j, V (ix3 0 p j) = g (Body.col k j)) : V x = g f := by
  obtain ⟨a, b, j, rfl⟩ : ∃ (a : Fin 1) (b : Fin 256) (j : Fin 512), x = ix3 a b j := ⟨x 0, x 1, x 2, by funext i; fin_cases i <;> rfl⟩
  obtain rfl : a = 0 := Subsingleton.elim _ _
  obtain rfl : p = b := Fin.ext h1
  rw [hV j]
  exact congrArg g (Fin.ext h2.symm)

/-- An index of two axes by its coordinates. -/
theorem ix2_eq {a b : ℕ} (i : Shape.Idx ⟨2, ![a, b]⟩) (p : Fin a) (j : Fin b) (h0 : (i 0 : ℕ) = p) (h1 : (i 1 : ℕ) = j) : i = ix2 p j := by
  funext k
  fin_cases k
  · exact Fin.ext h0
  · exact Fin.ext h1

/-- An index of three axes by its coordinates. -/
theorem ix3_eq {a b d : ℕ} (i : Shape.Idx ⟨3, ![a, b, d]⟩) (p : Fin a) (q : Fin b) (j : Fin d) (h0 : (i 0 : ℕ) = p) (h1 : (i 1 : ℕ) = q)
    (h2 : (i 2 : ℕ) = j) : i = ix3 p q j := by
  funext k
  fin_cases k
  · exact Fin.ext h0
  · exact Fin.ext h1
  · exact Fin.ext h2

/-- The same for a block without a leading axis. -/
theorem piece2 {V : S256x512.Idx → EReal} {g : Fin 4096 → EReal} (k : Fin 8) (p : Fin 256) (f : Fin 4096) (x : S256x512.Idx)
    (h1 : (p : ℕ) = x 0) (h2 : (f : ℕ) = 512 * k.val + x 1) (hV : ∀ j, V (ix2 p j) = g (Body.col k j)) : V x = g f := by
  obtain ⟨b, j, rfl⟩ : ∃ (b : Fin 256) (j : Fin 512), x = ix2 b j := ⟨x 0, x 1, by funext i; fin_cases i <;> rfl⟩
  obtain rfl : p = b := Fin.ext h1
  rw [hV j]
  exact congrArg g (Fin.ext h2.symm)

/-- The blocks of a grid point hold the tokens `T`: their rows, their sequence's modulation rows, and the shared weights. -/
structure Ok (T : Fin 256 → Tok) (x0 x1 x2 : Vec Ideal S1x256x1024 .f32) (x3 : Vec Ideal S1x6x1024 .f32)
    (x4 x5 : Vec Ideal S8x512x1024 .bf16) (x6 : Vec Ideal S1x1024 .f32) : Prop where
  hx : ∀ p d, x0 (ix3 0 p d) = (T p).x d
  hy : ∀ p d, x1 (ix3 0 p d) = (T p).y d
  ht : ∀ p d, x2 (ix3 0 p d) = (T p).t d
  hm : ∀ p r d, x3 (ix3 0 r d) = (T p).m r d
  hw1 : ∀ p k j d, x4 (ix3 k j d) = (T p).w1 (Body.col k j) d
  hw2 : ∀ p k j d, x5 (ix3 k j d) = (T p).w2 (Body.col k j) d
  hg : ∀ p d, x6 (ix2 0 d) = (T p).g d

/-- A load of one modulation row. -/
theorem rd_row {arg : Memref sig .tc .vmem S1x6x1024 .f32} (h : arg.IsWhole) (X : Vec Ideal S1x6x1024 .f32) (r : ℕ) (hr : r < 6)
    (inb : ∀ a, (![0, r, 0] : Fin 3 → ℕ) a + S1x1x1024.size a ≤ S1x6x1024.size a) (d : Fin 1024) :
    arg.view.readAt (Elt Ideal) (Rect.unit (s := S1x6x1024) ![0, r, 0] S1x1x1024.size inb).toLoadRect (h.unread X) (ix3 0 0 d)
      = X (ix3 0 ⟨r, hr⟩ d) := by
  rw [Memref.IsWhole.readAt_unread]
  refine congrArg X (ix3_eq _ _ _ _ ?_ ?_ ?_)
  all_goals simp

/-- A load of one row of an accumulator block. -/
theorem rd_acc {arg : Memref sig .tc .vmem S1x8x1024 .f32} (h : arg.IsWhole) (X : Vec Ideal S1x8x1024 .f32) (r : ℕ) (hr : r < 8)
    (inb : ∀ a, (![0, r, 0] : Fin 3 → ℕ) a + S1x1x1024.size a ≤ S1x8x1024.size a) (d : Fin 1024) :
    arg.view.readAt (Elt Ideal) (Rect.unit (s := S1x8x1024) ![0, r, 0] S1x1x1024.size inb).toLoadRect (h.unread X) (ix3 0 0 d)
      = X (ix3 0 ⟨r, hr⟩ d) := by
  rw [Memref.IsWhole.readAt_unread]
  refine congrArg X (ix3_eq _ _ _ _ ?_ ?_ ?_)
  all_goals simp

/-- A load of one row of the head accumulator. -/
theorem rd_head {arg : Memref sig .tc .vmem S8x1024 .f32} (h : arg.IsWhole) (X : Vec Ideal S8x1024 .f32) (r : ℕ) (hr : r < 8)
    (inb : ∀ a, (![r, 0] : Fin 2 → ℕ) a + S1x1024.size a ≤ S8x1024.size a) (d : Fin 1024) :
    arg.view.readAt (Elt Ideal) (Rect.unit (s := S8x1024) ![r, 0] S1x1024.size inb).toLoadRect (h.unread X) (ix2 0 d)
      = X (ix2 ⟨r, hr⟩ d) := by
  rw [Memref.IsWhole.readAt_unread]
  refine congrArg X (ix2_eq _ _ _ ?_ ?_)
  all_goals simp

/-- A load of one block of weights. -/
theorem rd_w {arg : Memref sig .tc .vmem S8x512x1024 .bf16} (h : arg.IsWhole) (X : Vec Ideal S8x512x1024 .bf16) (r : ℕ) (hr : r < 8)
    (inb : ∀ a, (![r, 0, 0] : Fin 3 → ℕ) a + S1x512x1024.size a ≤ S8x512x1024.size a) (j : Fin 512) (d : Fin 1024) :
    arg.view.readAt (Elt Ideal) (Rect.unit (s := S8x512x1024) ![r, 0, 0] S1x512x1024.size inb).toLoadRect (h.unread X) (ix3 0 j d)
      = X (ix3 ⟨r, hr⟩ j d) := by
  rw [Memref.IsWhole.readAt_unread]
  refine congrArg X (ix3_eq _ _ _ _ ?_ ?_ ?_)
  all_goals simp

/-- A load of a whole block. -/
theorem rd_full {s : Shape} {e : EltTy} {arg : Memref sig .tc .vmem s e} (h : arg.IsWhole) (X : s.Idx → Elt Ideal e)
    (off : Fin s.rank → ℕ) (inb : ∀ a, off a + s.size a ≤ s.size a) :
    arg.view.readAt (Elt Ideal) (Rect.unit off s.size inb).toLoadRect (h.unread X) = X := by
  funext i
  rw [Memref.IsWhole.readAt_unread]
  congr 1
  funext a
  apply Fin.ext
  have := inb a
  simp
  omega

variable {T : Fin 256 → Tok} {c : Dev nD}
  {arg2 : Memref sig .tc .vmem S1x256x1024 .f32} {harg2 : arg2.IsWhole}
  {arg3 : Memref sig .tc .vmem S1x256x1024 .f32} {harg3 : arg3.IsWhole}
  {arg4 : Memref sig .tc .vmem S1x256x1024 .f32} {harg4 : arg4.IsWhole}
  {arg5 : Memref sig .tc .vmem S1x6x1024 .f32} {harg5 : arg5.IsWhole}
  {arg6 : Memref sig .tc .vmem S8x512x1024 .bf16} {harg6 : arg6.IsWhole}
  {arg7 : Memref sig .tc .vmem S8x512x1024 .bf16} {harg7 : arg7.IsWhole}
  {arg8 : Memref sig .tc .vmem S1x1024 .f32} {harg8 : arg8.IsWhole}
  {arg12 arg13 : Memref sig .tc .vmem S1x256x4096 .bf16} {arg17 : Memref sig .tc .vmem S256x4096 .f32}
  {x0 x1 x2 : Vec Ideal S1x256x1024 .f32} {x3 : Vec Ideal S1x6x1024 .f32} {x4 x5 : Vec Ideal S8x512x1024 .bf16} {x6 : Vec Ideal S1x1024 .f32}

/-- The first weight's rows by hidden index. -/
theorem Ok.w1 (H : Ok T x0 x1 x2 x3 x4 x5 x6) (p) (f : Fin 4096) (d) :
    x4 (ix3 ⟨f.val / 512, by omega⟩ ⟨f.val % 512, by omega⟩ d) = (T p).w1 f d := by
  rw [H.hw1 p]
  congr 1
  apply Fin.ext
  simp only [Body.col]
  omega

/-- The second weight's rows by hidden index. -/
theorem Ok.w2 (H : Ok T x0 x1 x2 x3 x4 x5 x6) (p) (f : Fin 4096) (d) :
    x5 (ix3 ⟨f.val / 512, by omega⟩ ⟨f.val % 512, by omega⟩ d) = (T p).w2 f d := by
  rw [H.hw2 p]
  congr 1
  apply Fin.ext
  simp only [Body.col]
  omega

/-- The residual stream after the token mixer. -/
theorem r (H : Ok T x0 x1 x2 x3 x4 x5 x6) : ∀ p d, (kernelRun0_B.sl.r (F := Ideal) c arg2 harg2 arg3 harg3 arg5 harg5 x0 x1 x3) (ix2 p d) = (T p).x1 d := by
  unfold kernelRun0_B.sl.r
  exact Body.pay2 T _ _ _ (by rw [rd_full]; exact H.hx) (fun p d => (rd_row _ _ 2 (by omega) _ d).trans (H.hm p 2 d)) (by rw [rd_full]; exact H.hy)

/-- The MLP scale row. -/
theorem r_1 (H : Ok T x0 x1 x2 x3 x4 x5 x6) : ∀ p d, (kernelRun0_B.sl.r_1 (F := Ideal) c arg5 harg5 x3) (ix2 0 d) = (T p).m 4 d := by
  unfold kernelRun0_B.sl.r_1
  exact Body.pay3 T _ (fun p d => (rd_row _ _ 4 (by omega) _ d).trans (H.hm p 4 d))

/-- The MLP gate row. -/
theorem r_2 (H : Ok T x0 x1 x2 x3 x4 x5 x6) : ∀ p d, (kernelRun0_B.sl.r_2 (F := Ideal) c arg5 harg5 x3) (ix2 0 d) = (T p).m 5 d := by
  unfold kernelRun0_B.sl.r_2
  exact Body.pay4 T _ (fun p d => (rd_row _ _ 5 (by omega) _ d).trans (H.hm p 5 d))

/-- The last norm's gain. -/
theorem r_3 (H : Ok T x0 x1 x2 x3 x4 x5 x6) : ∀ p d, (kernelRun0_B.sl.r_3 (F := Ideal) c arg8 harg8 x6) (ix2 0 d) = (T p).g d := by
  unfold kernelRun0_B.sl.r_3
  exact Body.pay5 T _ (by rw [rd_full]; exact H.hg)

/-- The first norm's factor. -/
theorem r_4 (H : Ok T x0 x1 x2 x3 x4 x5 x6) : ∀ p, (kernelRun0_B.sl.r_4 (F := Ideal) c arg2 harg2 arg3 harg3 arg5 harg5 x0 x1 x3) (ix2 p 0) = rs (T p).x1 := by
  unfold kernelRun0_B.sl.r_4
  exact Body.pay6 T _ _ _ (r H)

/-- The first norm's rows. -/
theorem r_5 (H : Ok T x0 x1 x2 x3 x4 x5 x6) : ∀ p d, (kernelRun0_B.sl.r_5 (F := Ideal) c arg2 harg2 arg3 harg3 arg5 harg5 x0 x1 x3) (ix2 p d) = (T p).xn2 d := by
  unfold kernelRun0_B.sl.r_5
  exact Body.pay7 T _ _ _ (r H)

/-- The MLP's input. -/
theorem r_6 (H : Ok T x0 x1 x2 x3 x4 x5 x6) : ∀ p d, (kernelRun0_B.sl.r_6 (F := Ideal) c arg2 harg2 arg3 harg3 arg5 harg5 x0 x1 x3) (ix2 p d) = (T p).h2 d := by
  unfold kernelRun0_B.sl.r_6
  exact Body.pay8 T _ _ _ _ _ (r H) (fun p d => (rd_row _ _ 3 (by omega) _ d).trans (H.hm p 3 d)) (fun p d => (rd_row _ _ 4 (by omega) _ d).trans (H.hm p 4 d))

/-- A block of the hidden layer. -/
theorem r_7 (H : Ok T x0 x1 x2 x3 x4 x5 x6) : ∀ p j, (kernelRun0_B.sl.r_7 (F := Ideal) c arg2 harg2 arg3 harg3 arg5 harg5 arg6 harg6 x0 x1 x3 x4) (ix2 p j) = (T p).rz (Body.col 4 j) := by
  unfold kernelRun0_B.sl.r_7
  exact Body.pay10 T (Body.col 4) _ _ (r_6 H) (fun p j d => (rd_w _ _ 4 (by omega) _ j d).trans (H.hw1 p 4 j d))

/-- A block of the hidden layer, squared. -/
theorem r_8 (H : Ok T x0 x1 x2 x3 x4 x5 x6) : ∀ p j, (kernelRun0_B.sl.r_8 (F := Ideal) c arg2 harg2 arg3 harg3 arg5 harg5 arg6 harg6 x0 x1 x3 x4) (ix2 p j) = (T p).u (Body.col 6 j) := by
  intro p j
  unfold kernelRun0_B.sl.r_8
  refine (Body.pay30 _ _ p j).trans ?_
  rw [show k0_pay28 (F := Ideal) = k0_pay10 from rfl, Body.pay10 T (Body.col 6) _ _ (r_6 H) (fun p j d => (rd_w _ _ 6 (by omega) _ j d).trans (H.hw1 p 6 j d)) p j]
  rfl

/-- The eight stored blocks of the squared hidden layer. -/
theorem H10_8 (H : Ok T x0 x1 x2 x3 x4 x5 x6) : ∀ p f, View.canon (kernelRun0_B.sl.H10_8 (F := Ideal) c arg2 harg2 arg3 harg3 arg5 harg5 arg6 harg6 x0 x1 x3 x4) (ix3 0 p f) = (T p).u f := by
  intro p f
  unfold kernelRun0_B.sl.H10_8
  canon_tiles x h
  · exact piece3 7 p f x h1 h2 (fun j => Body.pay12 T (Body.col 7) _ _ (r_6 H) (fun p j d => (rd_w _ _ 7 (by omega) _ j d).trans (H.hw1 p 7 j d)) p j)
  · exact piece3 6 p f x h1 h2 (fun j => (Body.pay31 _ p j).trans (r_8 H p j))
  · exact piece3 5 p f x h1 h2 (fun j => Body.pay12 T (Body.col 5) _ _ (r_6 H) (fun p j d => (rd_w _ _ 5 (by omega) _ j d).trans (H.hw1 p 5 j d)) p j)
  · exact piece3 4 p f x h1 h2 (fun j => (Body.pay24 _ p j).trans (by rw [r_7 H p j]; rfl))
  · exact piece3 3 p f x h1 h2 (fun j => Body.pay12 T (Body.col 3) _ _ (r_6 H) (fun p j d => (rd_w _ _ 3 (by omega) _ j d).trans (H.hw1 p 3 j d)) p j)
  · exact piece3 2 p f x h1 h2 (fun j => Body.pay12 T (Body.col 2) _ _ (r_6 H) (fun p j d => (rd_w _ _ 2 (by omega) _ j d).trans (H.hw1 p 2 j d)) p j)
  · exact piece3 1 p f x h1 h2 (fun j => Body.pay12 T (Body.col 1) _ _ (r_6 H) (fun p j d => (rd_w _ _ 1 (by omega) _ j d).trans (H.hw1 p 1 j d)) p j)
  · exact piece3 0 p f x h1 (h2.trans (Nat.zero_add _).symm) (fun j => Body.pay12 T (Body.col 0) _ _ (r_6 H) (fun p j d => (rd_w _ _ 0 (by omega) _ j d).trans (H.hw1 p 0 j d)) p j)

/-- The eight stored blocks of the hidden layer. -/
theorem HS0_8 (H : Ok T x0 x1 x2 x3 x4 x5 x6) : ∀ p f, View.canon (kernelRun0_B.sl.HS0_8 (F := Ideal) c arg2 harg2 arg3 harg3 arg5 harg5 arg6 harg6 x0 x1 x3 x4) (ix2 p f) = (T p).rz f := by
  intro p f
  unfold kernelRun0_B.sl.HS0_8
  canon_tiles x h
  · exact piece2 7 p f x h0 h1 (fun j => (Body.pay23 _ p j).trans (Body.pay10 T (Body.col 7) _ _ (r_6 H) (fun p j d => (rd_w _ _ 7 (by omega) _ j d).trans (H.hw1 p 7 j d)) p j))
  · exact piece2 6 p f x h0 h1 (fun j => (Body.pay23 _ p j).trans (Body.pay10 T (Body.col 6) _ _ (r_6 H) (fun p j d => (rd_w _ _ 6 (by omega) _ j d).trans (H.hw1 p 6 j d)) p j))
  · exact piece2 5 p f x h0 h1 (fun j => (Body.pay23 _ p j).trans (Body.pay10 T (Body.col 5) _ _ (r_6 H) (fun p j d => (rd_w _ _ 5 (by omega) _ j d).trans (H.hw1 p 5 j d)) p j))
  · exact piece2 4 p f x h0 h1 (fun j => (Body.pay23 _ p j).trans (r_7 H p j))
  · exact piece2 3 p f x h0 h1 (fun j => (Body.pay23 _ p j).trans (Body.pay10 T (Body.col 3) _ _ (r_6 H) (fun p j d => (rd_w _ _ 3 (by omega) _ j d).trans (H.hw1 p 3 j d)) p j))
  · exact piece2 2 p f x h0 h1 (fun j => (Body.pay23 _ p j).trans (Body.pay10 T (Body.col 2) _ _ (r_6 H) (fun p j d => (rd_w _ _ 2 (by omega) _ j d).trans (H.hw1 p 2 j d)) p j))
  · exact piece2 1 p f x h0 h1 (fun j => (Body.pay23 _ p j).trans (Body.pay10 T (Body.col 1) _ _ (r_6 H) (fun p j d => (rd_w _ _ 1 (by omega) _ j d).trans (H.hw1 p 1 j d)) p j))
  · exact piece2 0 p f x h0 (h1.trans (Nat.zero_add _).symm) (fun j => (Body.pay23 _ p j).trans (Body.pay10 T (Body.col 0) _ _ (r_6 H) (fun p j d => (rd_w _ _ 0 (by omega) _ j d).trans (H.hw1 p 0 j d)) p j))

/-- The squared hidden layer, read back. -/
theorem v141 (H : Ok T x0 x1 x2 x3 x4 x5 x6) : ∀ p f, (kernelRun0_B.sl.v141 (F := Ideal) c arg2 harg2 arg3 harg3 arg5 harg5 arg6 harg6 arg12 x0 x1 x3 x4) (ix3 0 p f) = (T p).u f := by
  intro p f
  unfold kernelRun0_B.sl.v141
  rw [View.readCov_eq_canon']
  refine (congrArg (View.canon (kernelRun0_B.sl.H10_8 (F := Ideal) c arg2 harg2 arg3 harg3 arg5 harg5 arg6 harg6 x0 x1 x3 x4)) (ix3_eq _ 0 p f ?_ ?_ ?_)).trans (H10_8 H p f)
  all_goals simp

/-- A block of the hidden layer, read back. -/
theorem v219 (H : Ok T x0 x1 x2 x3 x4 x5 x6) : ∀ p j, (kernelRun0_B.sl.v219 (F := Ideal) c arg2 harg2 arg3 harg3 arg5 harg5 arg6 harg6 arg17 x0 x1 x3 x4) (ix2 p j) = (T p).rz (Body.col 0 j) := by
  intro p j
  unfold kernelRun0_B.sl.v219
  rw [View.readCov_eq_canon']
  refine (congrArg (View.canon (kernelRun0_B.sl.HS0_8 (F := Ideal) c arg2 harg2 arg3 harg3 arg5 harg5 arg6 harg6 x0 x1 x3 x4)) (ix2_eq _ p (Body.col 0 j) ?_ ?_)).trans (HS0_8 H p _)
  · simp
  · simp [Body.col]

/-- A block of the hidden layer, read back. -/
theorem v230 (H : Ok T x0 x1 x2 x3 x4 x5 x6) : ∀ p j, (kernelRun0_B.sl.v230 (F := Ideal) c arg2 harg2 arg3 harg3 arg5 harg5 arg6 harg6 arg17 x0 x1 x3 x4) (ix2 p j) = (T p).rz (Body.col 1 j) := by
  intro p j
  unfold kernelRun0_B.sl.v230
  rw [View.readCov_eq_canon']
  refine (congrArg (View.canon (kernelRun0_B.sl.HS0_8 (F := Ideal) c arg2 harg2 arg3 harg3 arg5 harg5 arg6 harg6 x0 x1 x3 x4)) (ix2_eq _ p (Body.col 1 j) ?_ ?_)).trans (HS0_8 H p _)
  · simp
  · simp [Body.col]

/-- A block of the hidden layer, read back. -/
theorem v241 (H : Ok T x0 x1 x2 x3 x4 x5 x6) : ∀ p j, (kernelRun0_B.sl.v241 (F := Ideal) c arg2 harg2 arg3 harg3 arg5 harg5 arg6 harg6 arg17 x0 x1 x3 x4) (ix2 p j) = (T p).rz (Body.col 2 j) := by
  intro p j
  unfold kernelRun0_B.sl.v241
  rw [View.readCov_eq_canon']
  refine (congrArg (View.canon (kernelRun0_B.sl.HS0_8 (F := Ideal) c arg2 harg2 arg3 harg3 arg5 harg5 arg6 harg6 x0 x1 x3 x4)) (ix2_eq _ p (Body.col 2 j) ?_ ?_)).trans (HS0_8 H p _)
  · simp
  · simp [Body.col]

/-- A block of the hidden layer, read back. -/
theorem v252 (H : Ok T x0 x1 x2 x3 x4 x5 x6) : ∀ p j, (kernelRun0_B.sl.v252 (F := Ideal) c arg2 harg2 arg3 harg3 arg5 harg5 arg6 harg6 arg17 x0 x1 x3 x4) (ix2 p j) = (T p).rz (Body.col 3 j) := by
  intro p j
  unfold kernelRun0_B.sl.v252
  rw [View.readCov_eq_canon']
  refine (congrArg (View.canon (kernelRun0_B.sl.HS0_8 (F := Ideal) c arg2 harg2 arg3 harg3 arg5 harg5 arg6 harg6 x0 x1 x3 x4)) (ix2_eq _ p (Body.col 3 j) ?_ ?_)).trans (HS0_8 H p _)
  · simp
  · simp [Body.col]

/-- A block of the hidden layer, read back. -/
theorem v263 (H : Ok T x0 x1 x2 x3 x4 x5 x6) : ∀ p j, (kernelRun0_B.sl.v263 (F := Ideal) c arg2 harg2 arg3 harg3 arg5 harg5 arg6 harg6 arg17 x0 x1 x3 x4) (ix2 p j) = (T p).rz (Body.col 4 j) := by
  intro p j
  unfold kernelRun0_B.sl.v263
  rw [View.readCov_eq_canon']
  refine (congrArg (View.canon (kernelRun0_B.sl.HS0_8 (F := Ideal) c arg2 harg2 arg3 harg3 arg5 harg5 arg6 harg6 x0 x1 x3 x4)) (ix2_eq _ p (Body.col 4 j) ?_ ?_)).trans (HS0_8 H p _)
  · simp
  · simp [Body.col]

/-- A block of the hidden layer, read back. -/
theorem v274 (H : Ok T x0 x1 x2 x3 x4 x5 x6) : ∀ p j, (kernelRun0_B.sl.v274 (F := Ideal) c arg2 harg2 arg3 harg3 arg5 harg5 arg6 harg6 arg17 x0 x1 x3 x4) (ix2 p j) = (T p).rz (Body.col 5 j) := by
  intro p j
  unfold kernelRun0_B.sl.v274
  rw [View.readCov_eq_canon']
  refine (congrArg (View.canon (kernelRun0_B.sl.HS0_8 (F := Ideal) c arg2 harg2 arg3 harg3 arg5 harg5 arg6 harg6 x0 x1 x3 x4)) (ix2_eq _ p (Body.col 5 j) ?_ ?_)).trans (HS0_8 H p _)
  · simp
  · simp [Body.col]

/-- A block of the hidden layer, read back. -/
theorem v285 (H : Ok T x0 x1 x2 x3 x4 x5 x6) : ∀ p j, (kernelRun0_B.sl.v285 (F := Ideal) c arg2 harg2 arg3 harg3 arg5 harg5 arg6 harg6 arg17 x0 x1 x3 x4) (ix2 p j) = (T p).rz (Body.col 6 j) := by
  intro p j
  unfold kernelRun0_B.sl.v285
  rw [View.readCov_eq_canon']
  refine (congrArg (View.canon (kernelRun0_B.sl.HS0_8 (F := Ideal) c arg2 harg2 arg3 harg3 arg5 harg5 arg6 harg6 x0 x1 x3 x4)) (ix2_eq _ p (Body.col 6 j) ?_ ?_)).trans (HS0_8 H p _)
  · simp
  · simp [Body.col]

/-- A block of the hidden layer, read back. -/
theorem v296 (H : Ok T x0 x1 x2 x3 x4 x5 x6) : ∀ p j, (kernelRun0_B.sl.v296 (F := Ideal) c arg2 harg2 arg3 harg3 arg5 harg5 arg6 harg6 arg17 x0 x1 x3 x4) (ix2 p j) = (T p).rz (Body.col 7 j) := by
  intro p j
  unfold kernelRun0_B.sl.v296
  rw [View.readCov_eq_canon']
  refine (congrArg (View.canon (kernelRun0_B.sl.HS0_8 (F := Ideal) c arg2 harg2 arg3 harg3 arg5 harg5 arg6 harg6 x0 x1 x3 x4)) (ix2_eq _ p (Body.col 7 j) ?_ ?_)).trans (HS0_8 H p _)
  · simp
  · simp [Body.col]

/-- The channel mixer. -/
theorem r_9 (H : Ok T x0 x1 x2 x3 x4 x5 x6) : ∀ p d, (kernelRun0_B.sl.r_9 (F := Ideal) c arg2 harg2 arg3 harg3 arg5 harg5 arg6 harg6 arg7 harg7 arg12 x0 x1 x3 x4 x5) (ix2 p d) = (T p).y2 d := by
  unfold kernelRun0_B.sl.r_9
  exact Body.pay35 T _ _ (v141 H) (by rw [rd_full]; exact H.w2)

/-- The last norm's factor. -/
theorem r_10 (H : Ok T x0 x1 x2 x3 x4 x5 x6) : ∀ p, (kernelRun0_B.sl.r_10 (F := Ideal) c arg2 harg2 arg3 harg3 arg5 harg5 arg6 harg6 arg7 harg7 arg12 x0 x1 x3 x4 x5) (ix2 p 0) = rs (T p).x2 := by
  unfold kernelRun0_B.sl.r_10
  exact Body.pay37 T _ _ _ _ (Body.pay36 T _ _ _ _ (r H) (r_2 H) (r_9 H))

/-- The last norm's rows. -/
theorem r_11 (H : Ok T x0 x1 x2 x3 x4 x5 x6) : ∀ p d, (kernelRun0_B.sl.r_11 (F := Ideal) c arg2 harg2 arg3 harg3 arg5 harg5 arg6 harg6 arg7 harg7 arg12 x0 x1 x3 x4 x5) (ix2 p d) = (T p).xn3 d := by
  unfold kernelRun0_B.sl.r_11
  exact Body.pay38 T _ _ _ _ (Body.pay36 T _ _ _ _ (r H) (r_2 H) (r_9 H))

/-- The model's output. -/
theorem r_12 (H : Ok T x0 x1 x2 x3 x4 x5 x6) : ∀ p d, (kernelRun0_B.sl.r_12 (F := Ideal) c arg2 harg2 arg3 harg3 arg5 harg5 arg6 harg6 arg7 harg7 arg8 harg8 arg12 x0 x1 x3 x4 x5 x6) (ix2 p d) = (T p).xn3 d * (T p).g d := by
  unfold kernelRun0_B.sl.r_12
  exact Body.pay39 T _ _ _ _ _ (r_11 H) (r_3 H)

/-- The last norm's gradient before its factor. -/
theorem r_13 (H : Ok T x0 x1 x2 x3 x4 x5 x6) : ∀ p d, (kernelRun0_B.sl.r_13 (F := Ideal) c arg2 harg2 arg3 harg3 arg4 harg4 arg5 harg5 arg6 harg6 arg7 harg7 arg8 harg8 arg12 x0 x1 x2 x3 x4 x5 x6) (ix2 p d) = (T p).dxn3 d - (T p).xn3 d * Ideal.div (∑ k, (T p).dxn3 k * (T p).xn3 k) c1024 := by
  unfold kernelRun0_B.sl.r_13
  exact Body.pay46 T _ _ _ _ (r_3 H) (r_11 H) (r_12 H) (by rw [rd_full]; exact H.ht)

/-- The gradient after the channel mixer. -/
theorem r_14 (H : Ok T x0 x1 x2 x3 x4 x5 x6) : ∀ p d, (kernelRun0_B.sl.r_14 (F := Ideal) c arg2 harg2 arg3 harg3 arg4 harg4 arg5 harg5 arg6 harg6 arg7 harg7 arg8 harg8 arg12 x0 x1 x2 x3 x4 x5 x6) (ix2 p d) = (T p).dx2 d := by
  unfold kernelRun0_B.sl.r_14
  exact Body.pay47 T _ _ (r_10 H) (r_13 H)

/-- The gradient of the channel mixer's output. -/
theorem r_15 (H : Ok T x0 x1 x2 x3 x4 x5 x6) : ∀ p d, (kernelRun0_B.sl.r_15 (F := Ideal) c arg2 harg2 arg3 harg3 arg4 harg4 arg5 harg5 arg6 harg6 arg7 harg7 arg8 harg8 arg12 x0 x1 x2 x3 x4 x5 x6) (ix2 p d) = (T p).dy2 d := by
  unfold kernelRun0_B.sl.r_15
  exact Body.pay49 T _ _ _ (r_2 H) (r_10 H) (r_13 H)

/-- A block of the hidden layer's gradient. -/
theorem r_17 (H : Ok T x0 x1 x2 x3 x4 x5 x6) : ∀ p j, (kernelRun0_B.sl.r_17 (F := Ideal) c arg2 harg2 arg3 harg3 arg4 harg4 arg5 harg5 arg6 harg6 arg7 harg7 arg8 harg8 arg12 arg17 x0 x1 x2 x3 x4 x5 x6) (ix2 p j) = (T p).dz (Body.col 6 j) := by
  unfold kernelRun0_B.sl.r_17
  exact Body.pay58 T (Body.col 6) _ _ _ (r_15 H) (fun p j d => (rd_w _ _ 6 (by omega) _ j d).trans (H.hw2 p 6 j d)) (v285 H)

/-- The eight stored blocks of the hidden layer's gradient. -/
theorem H11_8 (H : Ok T x0 x1 x2 x3 x4 x5 x6) : ∀ p f, View.canon (kernelRun0_B.sl.H11_8 (F := Ideal) c arg2 harg2 arg3 harg3 arg4 harg4 arg5 harg5 arg6 harg6 arg7 harg7 arg8 harg8 arg12 arg17 x0 x1 x2 x3 x4 x5 x6) (ix3 0 p f) = (T p).dz f := by
  intro p f
  unfold kernelRun0_B.sl.H11_8
  canon_tiles x h
  · exact piece3 7 p f x h1 h2 (fun j => (Body.pay59 _ p j).trans (Body.pay58 T (Body.col 7) _ _ _ (r_15 H) (fun p j d => (rd_w _ _ 7 (by omega) _ j d).trans (H.hw2 p 7 j d)) (v296 H) p j))
  · exact piece3 6 p f x h1 h2 (fun j => (Body.pay59 _ p j).trans (r_17 H p j))
  · exact piece3 5 p f x h1 h2 (fun j => (Body.pay59 _ p j).trans (Body.pay58 T (Body.col 5) _ _ _ (r_15 H) (fun p j d => (rd_w _ _ 5 (by omega) _ j d).trans (H.hw2 p 5 j d)) (v274 H) p j))
  · exact piece3 4 p f x h1 h2 (fun j => (Body.pay59 _ p j).trans (Body.pay58 T (Body.col 4) _ _ _ (r_15 H) (fun p j d => (rd_w _ _ 4 (by omega) _ j d).trans (H.hw2 p 4 j d)) (v263 H) p j))
  · exact piece3 3 p f x h1 h2 (fun j => (Body.pay59 _ p j).trans (Body.pay58 T (Body.col 3) _ _ _ (r_15 H) (fun p j d => (rd_w _ _ 3 (by omega) _ j d).trans (H.hw2 p 3 j d)) (v252 H) p j))
  · exact piece3 2 p f x h1 h2 (fun j => (Body.pay59 _ p j).trans (Body.pay58 T (Body.col 2) _ _ _ (r_15 H) (fun p j d => (rd_w _ _ 2 (by omega) _ j d).trans (H.hw2 p 2 j d)) (v241 H) p j))
  · exact piece3 1 p f x h1 h2 (fun j => (Body.pay59 _ p j).trans (Body.pay58 T (Body.col 1) _ _ _ (r_15 H) (fun p j d => (rd_w _ _ 1 (by omega) _ j d).trans (H.hw2 p 1 j d)) (v230 H) p j))
  · exact piece3 0 p f x h1 (h2.trans (Nat.zero_add _).symm) (fun j => (Body.pay59 _ p j).trans (Body.pay58 T (Body.col 0) _ _ _ (r_15 H) (fun p j d => (rd_w _ _ 0 (by omega) _ j d).trans (H.hw2 p 0 j d)) (v219 H) p j))

/-- The hidden layer's gradient, read back. -/
theorem v304 (H : Ok T x0 x1 x2 x3 x4 x5 x6) : ∀ p f, (kernelRun0_B.sl.v304 (F := Ideal) c arg2 harg2 arg3 harg3 arg4 harg4 arg5 harg5 arg6 harg6 arg7 harg7 arg8 harg8 arg12 arg13 arg17 x0 x1 x2 x3 x4 x5 x6) (ix3 0 p f) = (T p).dz f := by
  intro p f
  unfold kernelRun0_B.sl.v304
  rw [View.readCov_eq_canon']
  refine (congrArg (View.canon (kernelRun0_B.sl.H11_8 (F := Ideal) c arg2 harg2 arg3 harg3 arg4 harg4 arg5 harg5 arg6 harg6 arg7 harg7 arg8 harg8 arg12 arg17 x0 x1 x2 x3 x4 x5 x6)) (ix3_eq _ 0 p f ?_ ?_ ?_)).trans (H11_8 H p f)
  all_goals simp

/-- The gradient of the MLP's input. -/
theorem r_18 (H : Ok T x0 x1 x2 x3 x4 x5 x6) : ∀ p d, (kernelRun0_B.sl.r_18 (F := Ideal) c arg2 harg2 arg3 harg3 arg4 harg4 arg5 harg5 arg6 harg6 arg7 harg7 arg8 harg8 arg12 arg13 arg17 x0 x1 x2 x3 x4 x5 x6) (ix2 p d) = (T p).dh2 d := by
  unfold kernelRun0_B.sl.r_18
  exact Body.pay61 T _ _ (v304 H) (by rw [rd_full]; exact H.w1)

/-- The MLP scale's gradient per token. -/
theorem r_20 (H : Ok T x0 x1 x2 x3 x4 x5 x6) : ∀ p d, (kernelRun0_B.sl.r_20 (F := Ideal) c arg2 harg2 arg3 harg3 arg4 harg4 arg5 harg5 arg6 harg6 arg7 harg7 arg8 harg8 arg12 arg13 arg17 x0 x1 x2 x3 x4 x5 x6) (ix2 p d) = (T p).dh2 d * (T p).xn2 d := by
  unfold kernelRun0_B.sl.r_20
  exact Body.pay64 T _ _ _ (r_5 H) (r_18 H)

/-- The gradient of the MLP half's input. -/
theorem r_21 (H : Ok T x0 x1 x2 x3 x4 x5 x6) : ∀ p d, (kernelRun0_B.sl.r_21 (F := Ideal) c arg2 harg2 arg3 harg3 arg4 harg4 arg5 harg5 arg6 harg6 arg7 harg7 arg8 harg8 arg12 arg13 arg17 x0 x1 x2 x3 x4 x5 x6) (ix2 p d) = (T p).dx1 d := by
  unfold kernelRun0_B.sl.r_21
  exact Body.pay66 T _ _ _ _ _ (r_1 H) (r_4 H) (r_5 H) (r_14 H) (r_18 H)

end Cert.Words

end
-- ==== Proof.Outs.lean ====
module

public import proofs.«01_k».proof.Proof.Words
public import Idealize.ShloMosaic.Lib.WritesUnit

/-
  What a grid point leaves in each result's block, in each of the three kinds of point: the six blocks stored whole, and the two
  accumulators, whose rows grow by the tile's sums (from zero at the points that clear them).
-/

@[expose] public section

set_option maxRecDepth 16384

noncomputable section

open Idealize.ShloMosaic Cert.KernelIdeal Cert.KernelIdeal.Gen Cert.RowMath Cert.Words
open Idealize.ShloMosaic.TcCoe Idealize.SL.Sem

namespace Cert.Outs

/-- One store of the whole block, read back. -/
theorem whole_store {sig : RefSig} {κ : Kind} {sp : Space} {s : Shape} {e : EltTy} (v : View sig κ sp s e) {off : Fin s.rank → ℕ}
    (inb : ∀ a, off a + s.size a ≤ s.size a) (w : s.Idx → Elt Ideal e) (h : ∀ a, off a = 0) (y : s.Idx) :
    v.read (Elt Ideal) (v.writes (Elt Ideal) v.junk [⟨Rect.unit off s.size inb, w⟩]) y = w y := by
  rw [View.read_writes_junk_eq_canon, View.canon_cons_unit_lit inb w [] h]

/-- The last store of one row of a modulation accumulator, read back at any row. -/
theorem row_cons {sig : RefSig} {κ : Kind} {sp : Space} (v : View sig κ sp S1x8x1024 .f32) (f : v.ty.Contents (Elt Ideal))
    (k : ℕ) (inb : ∀ a, (![0, k, 0] : Fin 3 → ℕ) a + S1x1x1024.size a ≤ S1x8x1024.size a) (w : S1x1x1024.Idx → Elt Ideal .f32)
    (L : List (View.Piece (Elt Ideal) S1x8x1024 .f32)) (r : Fin 8) (d : Fin 1024) :
    v.read (Elt Ideal) (v.writes (Elt Ideal) f (⟨Rect.unit (s := S1x8x1024) ![0, k, 0] S1x1x1024.size inb, w⟩ :: L)) (ix3 0 r d)
      = if r.val = k then w (ix3 0 0 d) else v.read (Elt Ideal) (v.writes (Elt Ideal) f L) (ix3 0 r d) := by
  split
  · next h => exact View.read_writes_cons_unit_of_mem v f inb w L _ (ix3 0 0 d) rfl (fun a => by fin_cases a <;> simp [h])
  · next h => exact View.read_writes_cons_unit_of_not_mem v f inb w L _ rfl 1 (by simp; omega)

/-- The last store of one row of the head accumulator, read back at any row. -/
theorem head_cons {sig : RefSig} {κ : Kind} {sp : Space} (v : View sig κ sp S8x1024 .f32) (f : v.ty.Contents (Elt Ideal))
    (k : ℕ) (inb : ∀ a, (![k, 0] : Fin 2 → ℕ) a + S1x1024.size a ≤ S8x1024.size a) (w : S1x1024.Idx → Elt Ideal .f32)
    (L : List (View.Piece (Elt Ideal) S8x1024 .f32)) (r : Fin 8) (d : Fin 1024) :
    v.read (Elt Ideal) (v.writes (Elt Ideal) f (⟨Rect.unit (s := S8x1024) ![k, 0] S1x1024.size inb, w⟩ :: L)) (ix2 r d)
      = if r.val = k then w (ix2 0 d) else v.read (Elt Ideal) (v.writes (Elt Ideal) f L) (ix2 r d) := by
  split
  · next h => exact View.read_writes_cons_unit_of_mem v f inb w L _ (ix2 0 d) rfl (fun a => by fin_cases a <;> simp [h])
  · next h => exact View.read_writes_cons_unit_of_not_mem v f inb w L _ rfl 0 (by simp; omega)

/-- A load of one row of what the stores left, where the last store is of another row. -/
theorem cov_row {sig : RefSig} {κ : Kind} {sp : Space} (v : View sig κ sp S1x8x1024 .f32) (k : ℕ) (hk : k < 8)
    (inb : ∀ a, (![0, k, 0] : Fin 3 → ℕ) a + S1x1x1024.size a ≤ S1x8x1024.size a)
    (L : List (View.Piece (Elt Ideal) S1x8x1024 .f32)) (d : Fin 1024) :
    v.readCov L (Rect.unit (s := S1x8x1024) ![0, k, 0] S1x1x1024.size inb).toLoadRect (ix3 0 0 d)
      = v.read (Elt Ideal) (v.writes (Elt Ideal) v.junk L) (ix3 0 ⟨k, hk⟩ d) := by
  rw [View.readCov_eq_canon', View.read_writes_junk_eq_canon]
  refine congrArg (View.canon L) (ix3_eq _ _ _ _ ?_ ?_ ?_)
  all_goals simp

/-- The same for the head accumulator. -/
theorem cov_head {sig : RefSig} {κ : Kind} {sp : Space} (v : View sig κ sp S8x1024 .f32) (k : ℕ) (hk : k < 8)
    (inb : ∀ a, (![k, 0] : Fin 2 → ℕ) a + S1x1024.size a ≤ S8x1024.size a)
    (L : List (View.Piece (Elt Ideal) S8x1024 .f32)) (d : Fin 1024) :
    v.readCov L (Rect.unit (s := S8x1024) ![k, 0] S1x1024.size inb).toLoadRect (ix2 0 d)
      = v.read (Elt Ideal) (v.writes (Elt Ideal) v.junk L) (ix2 ⟨k, hk⟩ d) := by
  rw [View.readCov_eq_canon', View.read_writes_junk_eq_canon]
  refine congrArg (View.canon L) (ix2_eq _ _ _ ?_ ?_)
  all_goals simp

/-- The cleared modulation accumulator reads zero. -/
theorem zero_row {sig : RefSig} {κ : Kind} {sp : Space} (v : View sig κ sp S1x8x1024 .f32) (r : Fin 8) (d : Fin 1024) :
    v.read (Elt Ideal) (v.writes (Elt Ideal) v.junk [⟨Rect.unit (s := S1x8x1024) ![0, 0, 0] S1x8x1024.size inb_S1x8x1024_S1x8x1024_0_0_0, k0_pay43 (F := Ideal)⟩]) (ix3 0 r d) = (0 : EReal) :=
  (whole_store v _ _ (by decide) _).trans (Body.pay43 r d)

/-- The cleared head accumulator reads zero. -/
theorem zero_head {sig : RefSig} {κ : Kind} {sp : Space} (v : View sig κ sp S8x1024 .f32) (r : Fin 8) (d : Fin 1024) :
    v.read (Elt Ideal) (v.writes (Elt Ideal) v.junk [⟨Rect.unit (s := S8x1024) ![0, 0] S8x1024.size inb_S8x1024_S8x1024_0_0, k0_pay42 (F := Ideal)⟩]) (ix2 r d) = (0 : EReal) :=
  (whole_store v _ _ (by decide) _).trans (Body.pay42 r d)

/-- Four row stores over an accumulator whose rows read `old`, each row the old one plus its sum over the tile. -/
theorem rows4 {sig : RefSig} {κ : Kind} {sp : Space} (T : Fin 256 → Tok) (v : View sig κ sp S1x8x1024 .f32) (f : v.ty.Contents (Elt Ideal))
    (old : Fin 8 → Fin 1024 → EReal) (i0 i1 i2 i3) (w0 w1 w2 w3 : S1x1x1024.Idx → Elt Ideal .f32) (L : List (View.Piece (Elt Ideal) S1x8x1024 .f32))
    (h0 : ∀ d, w0 (ix3 0 0 d) = old 0 d + ∑ p, (T p).dh2 d) (h1 : ∀ d, w1 (ix3 0 0 d) = old 1 d + ∑ p, (T p).dh2 d * (T p).xn2 d)
    (h2 : ∀ d, w2 (ix3 0 0 d) = old 2 d + ∑ p, (T p).dx2 d * (T p).y2 d) (h3 : ∀ d, w3 (ix3 0 0 d) = old 3 d + ∑ p, (T p).dx1 d * (T p).y d)
    (hL : ∀ r d, v.read (Elt Ideal) (v.writes (Elt Ideal) f L) (ix3 0 r d) = old r d) (r : Fin 8) (d : Fin 1024) :
    v.read (Elt Ideal) (v.writes (Elt Ideal) f
      (⟨Rect.unit (s := S1x8x1024) ![0, 3, 0] S1x1x1024.size i3, w3⟩ :: ⟨Rect.unit (s := S1x8x1024) ![0, 1, 0] S1x1x1024.size i1, w1⟩ ::
       ⟨Rect.unit (s := S1x8x1024) ![0, 0, 0] S1x1x1024.size i0, w0⟩ :: ⟨Rect.unit (s := S1x8x1024) ![0, 2, 0] S1x1x1024.size i2, w2⟩ :: L)) (ix3 0 r d)
      = old r d + ∑ p, (T p).dmod r d := by
  rw [row_cons, row_cons, row_cons, row_cons, h0, h1, h2, h3, hL]
  fin_cases r <;> simp [Tok.dmod]

/-- Two row stores over a head accumulator whose rows read `old`, each row the old one plus its sum over the tile. -/
theorem rows2 {sig : RefSig} {κ : Kind} {sp : Space} (T : Fin 256 → Tok) (v : View sig κ sp S8x1024 .f32) (f : v.ty.Contents (Elt Ideal))
    (old : Fin 8 → Fin 1024 → EReal) (i0 i1) (w0 w1 : S1x1024.Idx → Elt Ideal .f32) (L : List (View.Piece (Elt Ideal) S8x1024 .f32))
    (h0 : ∀ d, w0 (ix2 0 d) = old 0 d + ∑ p, (T p).dout d * (T p).xn3 d) (h1 : ∀ d, w1 (ix2 0 d) = old 1 d + ∑ p, (T p).diff d * (T p).diff d)
    (hL : ∀ r d, v.read (Elt Ideal) (v.writes (Elt Ideal) f L) (ix2 r d) = old r d) (r : Fin 8) (d : Fin 1024) :
    v.read (Elt Ideal) (v.writes (Elt Ideal) f
      (⟨Rect.unit (s := S8x1024) ![1, 0] S1x1024.size i1, w1⟩ :: ⟨Rect.unit (s := S8x1024) ![0, 0] S1x1024.size i0, w0⟩ :: L)) (ix2 r d)
      = old r d + ∑ p, (T p).head r d := by
  rw [head_cons, head_cons, h0, h1, hL]
  fin_cases r <;> simp [Tok.head]

variable {T : Fin 256 → Tok} {c : Dev nD} {i : grid0.Coords}
  {arg2 : Memref sig .tc .vmem S1x256x1024 .f32} {harg2 : arg2.IsWhole}
  {arg3 : Memref sig .tc .vmem S1x256x1024 .f32} {harg3 : arg3.IsWhole}
  {arg4 : Memref sig .tc .vmem S1x256x1024 .f32} {harg4 : arg4.IsWhole}
  {arg5 : Memref sig .tc .vmem S1x6x1024 .f32} {harg5 : arg5.IsWhole}
  {arg6 : Memref sig .tc .vmem S8x512x1024 .bf16} {harg6 : arg6.IsWhole}
  {arg7 : Memref sig .tc .vmem S8x512x1024 .bf16} {harg7 : arg7.IsWhole}
  {arg8 : Memref sig .tc .vmem S1x1024 .f32} {harg8 : arg8.IsWhole}
  {arg9 : Memref sig .tc .vmem S1x256x1024 .f32} {harg9 : arg9.IsWhole}
  {arg10 : Memref sig .tc .vmem S1x256x1024 .bf16} {harg10 : arg10.IsWhole}
  {arg11 : Memref sig .tc .vmem S1x256x1024 .bf16} {harg11 : arg11.IsWhole}
  {arg12 : Memref sig .tc .vmem S1x256x4096 .bf16} {harg12 : arg12.IsWhole}
  {arg13 : Memref sig .tc .vmem S1x256x4096 .bf16} {harg13 : arg13.IsWhole}
  {arg14 : Memref sig .tc .vmem S1x8x1024 .f32} {harg14 : arg14.IsWhole}
  {arg15 : Memref sig .tc .vmem S8x1024 .f32} {harg15 : arg15.IsWhole}
  {arg16 : Memref sig .tc .vmem S1x256x1024 .bf16} {harg16 : arg16.IsWhole}
  {arg17 : Memref sig .tc .vmem S256x4096 .f32} {harg17 : arg17.IsWhole}
  {x0 x1 x2 : Vec Ideal S1x256x1024 .f32} {x3 : Vec Ideal S1x6x1024 .f32}
  {x4 x5 : Vec Ideal S8x512x1024 .bf16} {x6 : Vec Ideal S1x1024 .f32} {xo12 : Vec Ideal S1x8x1024 .f32} {xo13 : Vec Ideal S8x1024 .f32}

/-- The row of the second gate, just cleared. -/
theorem v201_A (d : Fin 1024) : (kernelRun0_A.sl.v201 (F := Ideal) c arg14) (ix3 0 0 d) = (0 : EReal) := by
  unfold kernelRun0_A.sl.v201 kernelRun0_A.sl.H12_1
  rw [cov_row _ 2 (by omega), zero_row]

/-- The row of the second shift, just cleared. -/
theorem v310_A (d : Fin 1024) : (kernelRun0_A.sl.v310 (F := Ideal) c arg2 harg2 arg3 harg3 arg4 harg4 arg5 harg5 arg6 harg6 arg7 harg7 arg8 harg8 arg12 arg14 x0 x1 x2 x3 x4 x5 x6) (ix3 0 0 d) = (0 : EReal) := by
  unfold kernelRun0_A.sl.v310 kernelRun0_A.sl.H12_2 kernelRun0_A.sl.H12_1
  rw [cov_row _ 0 (by omega), row_cons, if_neg (by decide), zero_row]

/-- The row of the second scale, just cleared. -/
theorem v318_A (d : Fin 1024) : (kernelRun0_A.sl.v318 (F := Ideal) c arg2 harg2 arg3 harg3 arg4 harg4 arg5 harg5 arg6 harg6 arg7 harg7 arg8 harg8 arg12 arg13 arg14 arg17 x0 x1 x2 x3 x4 x5 x6) (ix3 0 0 d) = (0 : EReal) := by
  unfold kernelRun0_A.sl.v318 kernelRun0_A.sl.H12_3 kernelRun0_A.sl.H12_2 kernelRun0_A.sl.H12_1
  rw [cov_row _ 1 (by omega), row_cons, if_neg (by decide), row_cons, if_neg (by decide), zero_row]

/-- The row of the first gate, just cleared. -/
theorem v353_A (d : Fin 1024) : (kernelRun0_A.sl.v353 (F := Ideal) c arg2 harg2 arg3 harg3 arg4 harg4 arg5 harg5 arg6 harg6 arg7 harg7 arg8 harg8 arg12 arg13 arg14 arg17 x0 x1 x2 x3 x4 x5 x6) (ix3 0 0 d) = (0 : EReal) := by
  unfold kernelRun0_A.sl.v353 kernelRun0_A.sl.H12_4 kernelRun0_A.sl.H12_3 kernelRun0_A.sl.H12_2 kernelRun0_A.sl.H12_1
  rw [cov_row _ 3 (by omega), row_cons, if_neg (by decide), row_cons, if_neg (by decide), row_cons, if_neg (by decide), zero_row]

/-- The row of the second scale as one row. -/
theorem r_19_A (d : Fin 1024) : (kernelRun0_A.sl.r_19 (F := Ideal) c arg2 harg2 arg3 harg3 arg4 harg4 arg5 harg5 arg6 harg6 arg7 harg7 arg8 harg8 arg12 arg13 arg14 arg17 x0 x1 x2 x3 x4 x5 x6) (ix2 0 d) = (0 : EReal) := by
  unfold kernelRun0_A.sl.r_19
  exact (Body.pay63 _ d).trans (v318_A d)

/-- The row of the first gate as one row. -/
theorem r_22_A (d : Fin 1024) : (kernelRun0_A.sl.r_22 (F := Ideal) c arg2 harg2 arg3 harg3 arg4 harg4 arg5 harg5 arg6 harg6 arg7 harg7 arg8 harg8 arg12 arg13 arg14 arg17 x0 x1 x2 x3 x4 x5 x6) (ix2 0 d) = (0 : EReal) := by
  unfold kernelRun0_A.sl.r_22
  exact (Body.pay69 _ d).trans (v353_A d)

/-- The row of the second gate, just cleared. -/
theorem v201_C (d : Fin 1024) : (kernelRun0_C.sl.v201 (F := Ideal) c arg14) (ix3 0 0 d) = (0 : EReal) := by
  unfold kernelRun0_C.sl.v201 kernelRun0_C.sl.H12_1
  rw [cov_row _ 2 (by omega), zero_row]

/-- The row of the second shift, just cleared. -/
theorem v310_C (d : Fin 1024) : (kernelRun0_C.sl.v310 (F := Ideal) c arg2 harg2 arg3 harg3 arg4 harg4 arg5 harg5 arg6 harg6 arg7 harg7 arg8 harg8 arg12 arg14 x0 x1 x2 x3 x4 x5 x6) (ix3 0 0 d) = (0 : EReal) := by
  unfold kernelRun0_C.sl.v310 kernelRun0_C.sl.H12_2 kernelRun0_C.sl.H12_1
  rw [cov_row _ 0 (by omega), row_cons, if_neg (by decide), zero_row]

/-- The row of the second scale, just cleared. -/
theorem v318_C (d : Fin 1024) : (kernelRun0_C.sl.v318 (F := Ideal) c arg2 harg2 arg3 harg3 arg4 harg4 arg5 harg5 arg6 harg6 arg7 harg7 arg8 harg8 arg12 arg13 arg14 arg17 x0 x1 x2 x3 x4 x5 x6) (ix3 0 0 d) = (0 : EReal) := by
  unfold kernelRun0_C.sl.v318 kernelRun0_C.sl.H12_3 kernelRun0_C.sl.H12_2 kernelRun0_C.sl.H12_1
  rw [cov_row _ 1 (by omega), row_cons, if_neg (by decide), row_cons, if_neg (by decide), zero_row]

/-- The row of the first gate, just cleared. -/
theorem v353_C (d : Fin 1024) : (kernelRun0_C.sl.v353 (F := Ideal) c arg2 harg2 arg3 harg3 arg4 harg4 arg5 harg5 arg6 harg6 arg7 harg7 arg8 harg8 arg12 arg13 arg14 arg17 x0 x1 x2 x3 x4 x5 x6) (ix3 0 0 d) = (0 : EReal) := by
  unfold kernelRun0_C.sl.v353 kernelRun0_C.sl.H12_4 kernelRun0_C.sl.H12_3 kernelRun0_C.sl.H12_2 kernelRun0_C.sl.H12_1
  rw [cov_row _ 3 (by omega), row_cons, if_neg (by decide), row_cons, if_neg (by decide), row_cons, if_neg (by decide), zero_row]

/-- The row of the second scale as one row. -/
theorem r_19_C (d : Fin 1024) : (kernelRun0_C.sl.r_19 (F := Ideal) c arg2 harg2 arg3 harg3 arg4 harg4 arg5 harg5 arg6 harg6 arg7 harg7 arg8 harg8 arg12 arg13 arg14 arg17 x0 x1 x2 x3 x4 x5 x6) (ix2 0 d) = (0 : EReal) := by
  unfold kernelRun0_C.sl.r_19
  exact (Body.pay63 _ d).trans (v318_C d)

/-- The row of the first gate as one row. -/
theorem r_22_C (d : Fin 1024) : (kernelRun0_C.sl.r_22 (F := Ideal) c arg2 harg2 arg3 harg3 arg4 harg4 arg5 harg5 arg6 harg6 arg7 harg7 arg8 harg8 arg12 arg13 arg14 arg17 x0 x1 x2 x3 x4 x5 x6) (ix2 0 d) = (0 : EReal) := by
  unfold kernelRun0_C.sl.r_22
  exact (Body.pay69 _ d).trans (v353_C d)

/-- The head row of the gain's gradient, just cleared. -/
theorem v175_A (d : Fin 1024) : (kernelRun0_A.sl.v175 (F := Ideal) c arg15) (ix2 0 d) = (0 : EReal) := by
  unfold kernelRun0_A.sl.v175 kernelRun0_A.sl.H13_1
  rw [cov_head _ 0 (by omega), zero_head]

/-- The head row of the squared error, just cleared. -/
theorem v182_A (d : Fin 1024) : (kernelRun0_A.sl.v182 (F := Ideal) c arg2 harg2 arg3 harg3 arg4 harg4 arg5 harg5 arg6 harg6 arg7 harg7 arg8 harg8 arg12 arg15 x0 x1 x2 x3 x4 x5 x6) (ix2 0 d) = (0 : EReal) := by
  unfold kernelRun0_A.sl.v182 kernelRun0_A.sl.H13_2 kernelRun0_A.sl.H13_1
  rw [cov_head _ 1 (by omega), head_cons, if_neg (by decide), zero_head]

/-- The stores of the gradient of the MLP half's input at the first point. -/
theorem pieces_A_7 {hc0 : cond0_0 i} {hc1 : cond0_1 i} :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6).1 = [⟨Rect.unit (s := S1x256x1024) ![0, 0, 0] S1x256x1024.size inb_S1x256x1024_S1x256x1024_0_0_0, k0_pay67 (kernelRun0_B.sl.r_1 (F := Ideal) c arg5 harg5 x3) (kernelRun0_B.sl.r_4 (F := Ideal) c arg2 harg2 arg3 harg3 arg5 harg5 x0 x1 x3) (kernelRun0_B.sl.r_5 (F := Ideal) c arg2 harg2 arg3 harg3 arg5 harg5 x0 x1 x3) (kernelRun0_B.sl.r_14 (F := Ideal) c arg2 harg2 arg3 harg3 arg4 harg4 arg5 harg5 arg6 harg6 arg7 harg7 arg8 harg8 arg12 x0 x1 x2 x3 x4 x5 x6) (kernelRun0_B.sl.r_18 (F := Ideal) c arg2 harg2 arg3 harg3 arg4 harg4 arg5 harg5 arg6 harg6 arg7 harg7 arg8 harg8 arg12 arg13 arg17 x0 x1 x2 x3 x4 x5 x6)⟩] := rfl

/-- The block of the gradient of the MLP half's input at the first point. -/
theorem out_A_7 {hc0 : cond0_0 i} {hc1 : cond0_1 i} (H : Ok T x0 x1 x2 x3 x4 x5 x6) (p : Fin 256) (d : Fin 1024) :
    out0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 (ix3 0 p d) = (T p).dx1 d := by
  unfold out0_A_7
  rw [pieces_A_7]
  exact (whole_store VO0_7 _ _ (by decide) _).trans (Body.pay67 T _ _ _ _ _ (r_21 (c := c) (arg2 := arg2) (harg2 := harg2) H) p d)

/-- The stores of the modulated norm at the first point. -/
theorem pieces_A_8 {hc0 : cond0_0 i} {hc1 : cond0_1 i} :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6).2.1 = [⟨Rect.unit (s := S1x256x1024) ![0, 0, 0] S1x256x1024.size inb_S1x256x1024_S1x256x1024_0_0_0, k0_pay9 (kernelRun0_B.sl.r_6 (F := Ideal) c arg2 harg2 arg3 harg3 arg5 harg5 x0 x1 x3)⟩] := rfl

/-- The block of the modulated norm at the first point. -/
theorem out_A_8 {hc0 : cond0_0 i} {hc1 : cond0_1 i} (H : Ok T x0 x1 x2 x3 x4 x5 x6) (p : Fin 256) (d : Fin 1024) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 (ix3 0 p d) = (T p).h2 d := by
  unfold out0_A_8
  rw [pieces_A_8]
  exact (whole_store VO0_8 _ _ (by decide) _).trans (Body.pay9 T _ (r_6 H) p d)

/-- The stores of the gradient of the second product at the first point. -/
theorem pieces_A_9 {hc0 : cond0_0 i} {hc1 : cond0_1 i} :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6).2.2.1 = [⟨Rect.unit (s := S1x256x1024) ![0, 0, 0] S1x256x1024.size inb_S1x256x1024_S1x256x1024_0_0_0, k0_pay50 (kernelRun0_B.sl.r_2 (F := Ideal) c arg5 harg5 x3) (kernelRun0_B.sl.r_10 (F := Ideal) c arg2 harg2 arg3 harg3 arg5 harg5 arg6 harg6 arg7 harg7 arg12 x0 x1 x3 x4 x5) (kernelRun0_B.sl.r_13 (F := Ideal) c arg2 harg2 arg3 harg3 arg4 harg4 arg5 harg5 arg6 harg6 arg7 harg7 arg8 harg8 arg12 x0 x1 x2 x3 x4 x5 x6)⟩] := rfl

/-- The block of the gradient of the second product at the first point. -/
theorem out_A_9 {hc0 : cond0_0 i} {hc1 : cond0_1 i} (H : Ok T x0 x1 x2 x3 x4 x5 x6) (p : Fin 256) (d : Fin 1024) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 (ix3 0 p d) = (T p).dy2 d := by
  unfold out0_A_9
  rw [pieces_A_9]
  exact (whole_store VO0_9 _ _ (by decide) _).trans (Body.pay50 T _ _ _ (Body.pay49 T _ _ _ (r_2 H) (r_10 H) (r_13 H)) p d)

/-- The stores of the squared hidden layer at the first point. -/
theorem pieces_A_10 {hc0 : cond0_0 i} {hc1 : cond0_1 i} :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6).2.2.2.1 = (kernelRun0_B.sl.H10_8 (F := Ideal) c arg2 harg2 arg3 harg3 arg5 harg5 arg6 harg6 x0 x1 x3 x4) := rfl

/-- The block of the squared hidden layer at the first point. -/
theorem out_A_10 {hc0 : cond0_0 i} {hc1 : cond0_1 i} (H : Ok T x0 x1 x2 x3 x4 x5 x6) (p : Fin 256) (d : Fin 4096) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 (ix3 0 p d) = (T p).u d := by
  unfold out0_A_10
  rw [pieces_A_10]
  exact (congrFun (View.read_writes_junk_eq_canon VO0_10 _) _).trans (H10_8 H p d)

/-- The stores of the gradient of the hidden layer at the first point. -/
theorem pieces_A_11 {hc0 : cond0_0 i} {hc1 : cond0_1 i} :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6).2.2.2.2.1 = (kernelRun0_B.sl.H11_8 (F := Ideal) c arg2 harg2 arg3 harg3 arg4 harg4 arg5 harg5 arg6 harg6 arg7 harg7 arg8 harg8 arg12 arg17 x0 x1 x2 x3 x4 x5 x6) := rfl

/-- The block of the gradient of the hidden layer at the first point. -/
theorem out_A_11 {hc0 : cond0_0 i} {hc1 : cond0_1 i} (H : Ok T x0 x1 x2 x3 x4 x5 x6) (p : Fin 256) (d : Fin 4096) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 (ix3 0 p d) = (T p).dz d := by
  unfold out0_A_11
  rw [pieces_A_11]
  exact (congrFun (View.read_writes_junk_eq_canon VO0_11 _) _).trans (H11_8 H p d)

/-- The stores of the gradient of the mixer's output at the first point. -/
theorem pieces_A_14 {hc0 : cond0_0 i} {hc1 : cond0_1 i} :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6).2.2.2.2.2.2.2.1 = [⟨Rect.unit (s := S1x256x1024) ![0, 0, 0] S1x256x1024.size inb_S1x256x1024_S1x256x1024_0_0_0, k0_pay68 (kernelRun0_B.sl.r_1 (F := Ideal) c arg5 harg5 x3) (kernelRun0_B.sl.r_4 (F := Ideal) c arg2 harg2 arg3 harg3 arg5 harg5 x0 x1 x3) (kernelRun0_B.sl.r_5 (F := Ideal) c arg2 harg2 arg3 harg3 arg5 harg5 x0 x1 x3) (kernelRun0_B.sl.r_14 (F := Ideal) c arg2 harg2 arg3 harg3 arg4 harg4 arg5 harg5 arg6 harg6 arg7 harg7 arg8 harg8 arg12 x0 x1 x2 x3 x4 x5 x6) (kernelRun0_B.sl.r_18 (F := Ideal) c arg2 harg2 arg3 harg3 arg4 harg4 arg5 harg5 arg6 harg6 arg7 harg7 arg8 harg8 arg12 arg13 arg17 x0 x1 x2 x3 x4 x5 x6) (View.readAt (Elt Ideal) arg5.view (Rect.unit (s := S1x6x1024) ![0, 2, 0] S1x1x1024.size inb_S1x6x1024_S1x1x1024_0_2_0).toLoadRect (harg5.unread x3))⟩] := rfl

/-- The block of the gradient of the mixer's output at the first point. -/
theorem out_A_14 {hc0 : cond0_0 i} {hc1 : cond0_1 i} (H : Ok T x0 x1 x2 x3 x4 x5 x6) (p : Fin 256) (d : Fin 1024) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 (ix3 0 p d) = (T p).dy1 d := by
  unfold out0_A_14
  rw [pieces_A_14]
  exact (whole_store VO0_14 _ _ (by decide) _).trans (Body.pay68 T _ _ _ _ _ _ (r_21 (c := c) (arg2 := arg2) (harg2 := harg2) H) (fun p d => (rd_row _ _ 2 (by omega) _ d).trans (H.hm p 2 d)) p d)

/-- The stores of the modulation rows' gradient at the first point. -/
theorem pieces_A_12 {hc0 : cond0_0 i} {hc1 : cond0_1 i} :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6).2.2.2.2.2.1 = ⟨Rect.unit (s := S1x8x1024) ![0, 3, 0] S1x1x1024.size inb_S1x8x1024_S1x1x1024_0_3_0, k0_pay1 (kernelRun0_B.sl.r_21 (F := Ideal) c arg2 harg2 arg3 harg3 arg4 harg4 arg5 harg5 arg6 harg6 arg7 harg7 arg8 harg8 arg12 arg13 arg17 x0 x1 x2 x3 x4 x5 x6) (kernelRun0_A.sl.r_22 (F := Ideal) c arg2 harg2 arg3 harg3 arg4 harg4 arg5 harg5 arg6 harg6 arg7 harg7 arg8 harg8 arg12 arg13 arg14 arg17 x0 x1 x2 x3 x4 x5 x6) (kernelRun0_B.sl.r_23 (F := Ideal) c arg3 harg3 x1)⟩ ::
    ⟨Rect.unit (s := S1x8x1024) ![0, 1, 0] S1x1x1024.size inb_S1x8x1024_S1x1x1024_0_1_0, k0_pay65 (kernelRun0_A.sl.r_19 (F := Ideal) c arg2 harg2 arg3 harg3 arg4 harg4 arg5 harg5 arg6 harg6 arg7 harg7 arg8 harg8 arg12 arg13 arg14 arg17 x0 x1 x2 x3 x4 x5 x6) (kernelRun0_B.sl.r_20 (F := Ideal) c arg2 harg2 arg3 harg3 arg4 harg4 arg5 harg5 arg6 harg6 arg7 harg7 arg8 harg8 arg12 arg13 arg17 x0 x1 x2 x3 x4 x5 x6)⟩ ::
    ⟨Rect.unit (s := S1x8x1024) ![0, 0, 0] S1x1x1024.size inb_S1x8x1024_S1x1x1024_0_0_0, k0_pay62 (kernelRun0_B.sl.v304 (F := Ideal) c arg2 harg2 arg3 harg3 arg4 harg4 arg5 harg5 arg6 harg6 arg7 harg7 arg8 harg8 arg12 arg13 arg17 x0 x1 x2 x3 x4 x5 x6) (View.readAt (Elt Ideal) arg6.view (Rect.unit (s := S8x512x1024) ![0, 0, 0] S8x512x1024.size inb_S8x512x1024_S8x512x1024_0_0_0).toLoadRect (harg6.unread x4)) (kernelRun0_A.sl.v310 (F := Ideal) c arg2 harg2 arg3 harg3 arg4 harg4 arg5 harg5 arg6 harg6 arg7 harg7 arg8 harg8 arg12 arg14 x0 x1 x2 x3 x4 x5 x6)⟩ ::
    ⟨Rect.unit (s := S1x8x1024) ![0, 2, 0] S1x1x1024.size inb_S1x8x1024_S1x1x1024_0_2_0, k0_pay48 (kernelRun0_B.sl.r_9 (F := Ideal) c arg2 harg2 arg3 harg3 arg5 harg5 arg6 harg6 arg7 harg7 arg12 x0 x1 x3 x4 x5) (kernelRun0_B.sl.r_10 (F := Ideal) c arg2 harg2 arg3 harg3 arg5 harg5 arg6 harg6 arg7 harg7 arg12 x0 x1 x3 x4 x5) (kernelRun0_B.sl.r_13 (F := Ideal) c arg2 harg2 arg3 harg3 arg4 harg4 arg5 harg5 arg6 harg6 arg7 harg7 arg8 harg8 arg12 x0 x1 x2 x3 x4 x5 x6) (kernelRun0_A.sl.v201 (F := Ideal) c arg14)⟩ :: [⟨Rect.unit (s := S1x8x1024) ![0, 0, 0] S1x8x1024.size inb_S1x8x1024_S1x8x1024_0_0_0, k0_pay43 (F := Ideal)⟩] := rfl

/-- The block of the modulation rows' gradient at the first point. -/
theorem out_A_12 {hc0 : cond0_0 i} {hc1 : cond0_1 i} (H : Ok T x0 x1 x2 x3 x4 x5 x6) (r : Fin 8) (d : Fin 1024) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 (ix3 0 r d) = ∑ p, (T p).dmod r d := by
  unfold out0_A_12
  rw [pieces_A_12]
  refine (rows4 T VO0_12 VO0_12.junk (fun _ _ => 0) _ _ _ _ _ _ _ _ _
    (fun d => (Body.pay62 T _ _ _ (r_18 H) d).trans (congrArg (· + _) (v310_A d)))
    (fun d => (Body.pay65 T _ _ (r_20 H) d).trans (congrArg (· + _) (r_19_A d)))
    (fun d => (Body.pay48 T _ _ _ _ (r_9 H) (r_10 H) (r_13 H) d).trans (congrArg (· + _) (v201_A d)))
    (fun d => (Body.pay1 T _ _ _ (r_21 H) (by unfold kernelRun0_B.sl.r_23; rw [rd_full]; exact H.hy) d).trans (congrArg (· + _) (r_22_A d)))
    (fun r d => zero_row _ r d) r d).trans (zero_add _)

/-- The stores of the head at the first point. -/
theorem pieces_A_13 {hc0 : cond0_0 i} {hc1 : cond0_1 i} :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6).2.2.2.2.2.2.1 = ⟨Rect.unit (s := S8x1024) ![1, 0] S1x1024.size inb_S8x1024_S1x1024_1_0, k0_pay45 (kernelRun0_B.sl.r_12 (F := Ideal) c arg2 harg2 arg3 harg3 arg5 harg5 arg6 harg6 arg7 harg7 arg8 harg8 arg12 x0 x1 x3 x4 x5 x6) (View.readAt (Elt Ideal) arg4.view (Rect.unit (s := S1x256x1024) ![0, 0, 0] S1x256x1024.size inb_S1x256x1024_S1x256x1024_0_0_0).toLoadRect (harg4.unread x2)) (kernelRun0_A.sl.v182 (F := Ideal) c arg2 harg2 arg3 harg3 arg4 harg4 arg5 harg5 arg6 harg6 arg7 harg7 arg8 harg8 arg12 arg15 x0 x1 x2 x3 x4 x5 x6)⟩ ::
    ⟨Rect.unit (s := S8x1024) ![0, 0] S1x1024.size inb_S8x1024_S1x1024_0_0, k0_pay44 (kernelRun0_B.sl.r_11 (F := Ideal) c arg2 harg2 arg3 harg3 arg5 harg5 arg6 harg6 arg7 harg7 arg12 x0 x1 x3 x4 x5) (kernelRun0_B.sl.r_12 (F := Ideal) c arg2 harg2 arg3 harg3 arg5 harg5 arg6 harg6 arg7 harg7 arg8 harg8 arg12 x0 x1 x3 x4 x5 x6) (View.readAt (Elt Ideal) arg4.view (Rect.unit (s := S1x256x1024) ![0, 0, 0] S1x256x1024.size inb_S1x256x1024_S1x256x1024_0_0_0).toLoadRect (harg4.unread x2)) (kernelRun0_A.sl.v175 (F := Ideal) c arg15)⟩ :: [⟨Rect.unit (s := S8x1024) ![0, 0] S8x1024.size inb_S8x1024_S8x1024_0_0, k0_pay42 (F := Ideal)⟩] := rfl

/-- The block of the head at the first point. -/
theorem out_A_13 {hc0 : cond0_0 i} {hc1 : cond0_1 i} (H : Ok T x0 x1 x2 x3 x4 x5 x6) (r : Fin 8) (d : Fin 1024) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 (ix2 r d) = ∑ p, (T p).head r d := by
  unfold out0_A_13
  rw [pieces_A_13]
  refine (rows2 T VO0_13 VO0_13.junk (fun _ _ => 0) _ _ _ _ _
    (fun d => (Body.pay44 T _ _ _ _ (r_11 H) (r_12 H) (by rw [rd_full]; exact H.ht) d).trans (congrArg (· + _) (v175_A d)))
    (fun d => (Body.pay45 T _ _ _ (r_12 H) (by rw [rd_full]; exact H.ht) d).trans (congrArg (· + _) (v182_A d)))
    (fun r d => zero_head _ r d) r d).trans (zero_add _)

/-- The stores of the gradient of the MLP half's input at a point that clears nothing. -/
theorem pieces_B_7 {hc0 : ¬cond0_0 i} {hc1 : ¬cond0_1 i} :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo12 xo13).1 = [⟨Rect.unit (s := S1x256x1024) ![0, 0, 0] S1x256x1024.size inb_S1x256x1024_S1x256x1024_0_0_0, k0_pay67 (kernelRun0_B.sl.r_1 (F := Ideal) c arg5 harg5 x3) (kernelRun0_B.sl.r_4 (F := Ideal) c arg2 harg2 arg3 harg3 arg5 harg5 x0 x1 x3) (kernelRun0_B.sl.r_5 (F := Ideal) c arg2 harg2 arg3 harg3 arg5 harg5 x0 x1 x3) (kernelRun0_B.sl.r_14 (F := Ideal) c arg2 harg2 arg3 harg3 arg4 harg4 arg5 harg5 arg6 harg6 arg7 harg7 arg8 harg8 arg12 x0 x1 x2 x3 x4 x5 x6) (kernelRun0_B.sl.r_18 (F := Ideal) c arg2 harg2 arg3 harg3 arg4 harg4 arg5 harg5 arg6 harg6 arg7 harg7 arg8 harg8 arg12 arg13 arg17 x0 x1 x2 x3 x4 x5 x6)⟩] := rfl

/-- The block of the gradient of the MLP half's input at a point that clears nothing. -/
theorem out_B_7 {hc0 : ¬cond0_0 i} {hc1 : ¬cond0_1 i} (H : Ok T x0 x1 x2 x3 x4 x5 x6) (p : Fin 256) (d : Fin 1024) :
    out0_B_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo12 xo13 (ix3 0 p d) = (T p).dx1 d := by
  unfold out0_B_7
  rw [pieces_B_7]
  exact (whole_store VO0_7 _ _ (by decide) _).trans (Body.pay67 T _ _ _ _ _ (r_21 (c := c) (arg2 := arg2) (harg2 := harg2) H) p d)

/-- The stores of the modulated norm at a point that clears nothing. -/
theorem pieces_B_8 {hc0 : ¬cond0_0 i} {hc1 : ¬cond0_1 i} :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo12 xo13).2.1 = [⟨Rect.unit (s := S1x256x1024) ![0, 0, 0] S1x256x1024.size inb_S1x256x1024_S1x256x1024_0_0_0, k0_pay9 (kernelRun0_B.sl.r_6 (F := Ideal) c arg2 harg2 arg3 harg3 arg5 harg5 x0 x1 x3)⟩] := rfl

/-- The block of the modulated norm at a point that clears nothing. -/
theorem out_B_8 {hc0 : ¬cond0_0 i} {hc1 : ¬cond0_1 i} (H : Ok T x0 x1 x2 x3 x4 x5 x6) (p : Fin 256) (d : Fin 1024) :
    out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo12 xo13 (ix3 0 p d) = (T p).h2 d := by
  unfold out0_B_8
  rw [pieces_B_8]
  exact (whole_store VO0_8 _ _ (by decide) _).trans (Body.pay9 T _ (r_6 H) p d)

/-- The stores of the gradient of the second product at a point that clears nothing. -/
theorem pieces_B_9 {hc0 : ¬cond0_0 i} {hc1 : ¬cond0_1 i} :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo12 xo13).2.2.1 = [⟨Rect.unit (s := S1x256x1024) ![0, 0, 0] S1x256x1024.size inb_S1x256x1024_S1x256x1024_0_0_0, k0_pay50 (kernelRun0_B.sl.r_2 (F := Ideal) c arg5 harg5 x3) (kernelRun0_B.sl.r_10 (F := Ideal) c arg2 harg2 arg3 harg3 arg5 harg5 arg6 harg6 arg7 harg7 arg12 x0 x1 x3 x4 x5) (kernelRun0_B.sl.r_13 (F := Ideal) c arg2 harg2 arg3 harg3 arg4 harg4 arg5 harg5 arg6 harg6 arg7 harg7 arg8 harg8 arg12 x0 x1 x2 x3 x4 x5 x6)⟩] := rfl

/-- The block of the gradient of the second product at a point that clears nothing. -/
theorem out_B_9 {hc0 : ¬cond0_0 i} {hc1 : ¬cond0_1 i} (H : Ok T x0 x1 x2 x3 x4 x5 x6) (p : Fin 256) (d : Fin 1024) :
    out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo12 xo13 (ix3 0 p d) = (T p).dy2 d := by
  unfold out0_B_9
  rw [pieces_B_9]
  exact (whole_store VO0_9 _ _ (by decide) _).trans (Body.pay50 T _ _ _ (Body.pay49 T _ _ _ (r_2 H) (r_10 H) (r_13 H)) p d)

/-- The stores of the squared hidden layer at a point that clears nothing. -/
theorem pieces_B_10 {hc0 : ¬cond0_0 i} {hc1 : ¬cond0_1 i} :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo12 xo13).2.2.2.1 = (kernelRun0_B.sl.H10_8 (F := Ideal) c arg2 harg2 arg3 harg3 arg5 harg5 arg6 harg6 x0 x1 x3 x4) := rfl

/-- The block of the squared hidden layer at a point that clears nothing. -/
theorem out_B_10 {hc0 : ¬cond0_0 i} {hc1 : ¬cond0_1 i} (H : Ok T x0 x1 x2 x3 x4 x5 x6) (p : Fin 256) (d : Fin 4096) :
    out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo12 xo13 (ix3 0 p d) = (T p).u d := by
  unfold out0_B_10
  rw [pieces_B_10]
  exact (congrFun (View.read_writes_junk_eq_canon VO0_10 _) _).trans (H10_8 H p d)

/-- The stores of the gradient of the hidden layer at a point that clears nothing. -/
theorem pieces_B_11 {hc0 : ¬cond0_0 i} {hc1 : ¬cond0_1 i} :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo12 xo13).2.2.2.2.1 = (kernelRun0_B.sl.H11_8 (F := Ideal) c arg2 harg2 arg3 harg3 arg4 harg4 arg5 harg5 arg6 harg6 arg7 harg7 arg8 harg8 arg12 arg17 x0 x1 x2 x3 x4 x5 x6) := rfl

/-- The block of the gradient of the hidden layer at a point that clears nothing. -/
theorem out_B_11 {hc0 : ¬cond0_0 i} {hc1 : ¬cond0_1 i} (H : Ok T x0 x1 x2 x3 x4 x5 x6) (p : Fin 256) (d : Fin 4096) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo12 xo13 (ix3 0 p d) = (T p).dz d := by
  unfold out0_B_11
  rw [pieces_B_11]
  exact (congrFun (View.read_writes_junk_eq_canon VO0_11 _) _).trans (H11_8 H p d)

/-- The stores of the gradient of the mixer's output at a point that clears nothing. -/
theorem pieces_B_14 {hc0 : ¬cond0_0 i} {hc1 : ¬cond0_1 i} :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo12 xo13).2.2.2.2.2.2.2.1 = [⟨Rect.unit (s := S1x256x1024) ![0, 0, 0] S1x256x1024.size inb_S1x256x1024_S1x256x1024_0_0_0, k0_pay68 (kernelRun0_B.sl.r_1 (F := Ideal) c arg5 harg5 x3) (kernelRun0_B.sl.r_4 (F := Ideal) c arg2 harg2 arg3 harg3 arg5 harg5 x0 x1 x3) (kernelRun0_B.sl.r_5 (F := Ideal) c arg2 harg2 arg3 harg3 arg5 harg5 x0 x1 x3) (kernelRun0_B.sl.r_14 (F := Ideal) c arg2 harg2 arg3 harg3 arg4 harg4 arg5 harg5 arg6 harg6 arg7 harg7 arg8 harg8 arg12 x0 x1 x2 x3 x4 x5 x6) (kernelRun0_B.sl.r_18 (F := Ideal) c arg2 harg2 arg3 harg3 arg4 harg4 arg5 harg5 arg6 harg6 arg7 harg7 arg8 harg8 arg12 arg13 arg17 x0 x1 x2 x3 x4 x5 x6) (View.readAt (Elt Ideal) arg5.view (Rect.unit (s := S1x6x1024) ![0, 2, 0] S1x1x1024.size inb_S1x6x1024_S1x1x1024_0_2_0).toLoadRect (harg5.unread x3))⟩] := rfl

/-- The block of the gradient of the mixer's output at a point that clears nothing. -/
theorem out_B_14 {hc0 : ¬cond0_0 i} {hc1 : ¬cond0_1 i} (H : Ok T x0 x1 x2 x3 x4 x5 x6) (p : Fin 256) (d : Fin 1024) :
    out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo12 xo13 (ix3 0 p d) = (T p).dy1 d := by
  unfold out0_B_14
  rw [pieces_B_14]
  exact (whole_store VO0_14 _ _ (by decide) _).trans (Body.pay68 T _ _ _ _ _ _ (r_21 (c := c) (arg2 := arg2) (harg2 := harg2) H) (fun p d => (rd_row _ _ 2 (by omega) _ d).trans (H.hm p 2 d)) p d)

/-- The stores of the modulation rows' gradient at a point that clears nothing. -/
theorem pieces_B_12 {hc0 : ¬cond0_0 i} {hc1 : ¬cond0_1 i} :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo12 xo13).2.2.2.2.2.1 = ⟨Rect.unit (s := S1x8x1024) ![0, 3, 0] S1x1x1024.size inb_S1x8x1024_S1x1x1024_0_3_0, k0_pay1 (kernelRun0_B.sl.r_21 (F := Ideal) c arg2 harg2 arg3 harg3 arg4 harg4 arg5 harg5 arg6 harg6 arg7 harg7 arg8 harg8 arg12 arg13 arg17 x0 x1 x2 x3 x4 x5 x6) (kernelRun0_B.sl.r_22 (F := Ideal) c arg14 harg14 xo12) (kernelRun0_B.sl.r_23 (F := Ideal) c arg3 harg3 x1)⟩ ::
    ⟨Rect.unit (s := S1x8x1024) ![0, 1, 0] S1x1x1024.size inb_S1x8x1024_S1x1x1024_0_1_0, k0_pay65 (kernelRun0_B.sl.r_19 (F := Ideal) c arg14 harg14 xo12) (kernelRun0_B.sl.r_20 (F := Ideal) c arg2 harg2 arg3 harg3 arg4 harg4 arg5 harg5 arg6 harg6 arg7 harg7 arg8 harg8 arg12 arg13 arg17 x0 x1 x2 x3 x4 x5 x6)⟩ ::
    ⟨Rect.unit (s := S1x8x1024) ![0, 0, 0] S1x1x1024.size inb_S1x8x1024_S1x1x1024_0_0_0, k0_pay62 (kernelRun0_B.sl.v304 (F := Ideal) c arg2 harg2 arg3 harg3 arg4 harg4 arg5 harg5 arg6 harg6 arg7 harg7 arg8 harg8 arg12 arg13 arg17 x0 x1 x2 x3 x4 x5 x6) (View.readAt (Elt Ideal) arg6.view (Rect.unit (s := S8x512x1024) ![0, 0, 0] S8x512x1024.size inb_S8x512x1024_S8x512x1024_0_0_0).toLoadRect (harg6.unread x4)) (kernelRun0_B.sl.v310 (F := Ideal) c arg14 harg14 xo12)⟩ ::
    ⟨Rect.unit (s := S1x8x1024) ![0, 2, 0] S1x1x1024.size inb_S1x8x1024_S1x1x1024_0_2_0, k0_pay48 (kernelRun0_B.sl.r_9 (F := Ideal) c arg2 harg2 arg3 harg3 arg5 harg5 arg6 harg6 arg7 harg7 arg12 x0 x1 x3 x4 x5) (kernelRun0_B.sl.r_10 (F := Ideal) c arg2 harg2 arg3 harg3 arg5 harg5 arg6 harg6 arg7 harg7 arg12 x0 x1 x3 x4 x5) (kernelRun0_B.sl.r_13 (F := Ideal) c arg2 harg2 arg3 harg3 arg4 harg4 arg5 harg5 arg6 harg6 arg7 harg7 arg8 harg8 arg12 x0 x1 x2 x3 x4 x5 x6) (View.readAt (Elt Ideal) arg14.view (Rect.unit (s := S1x8x1024) ![0, 2, 0] S1x1x1024.size inb_S1x8x1024_S1x1x1024_0_2_0).toLoadRect (harg14.unread xo12))⟩ :: [] := rfl

/-- The block of the modulation rows' gradient at a point that clears nothing. -/
theorem out_B_12 {hc0 : ¬cond0_0 i} {hc1 : ¬cond0_1 i} (H : Ok T x0 x1 x2 x3 x4 x5 x6) (r : Fin 8) (d : Fin 1024) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo12 xo13 (ix3 0 r d) = xo12 (ix3 0 r d) + ∑ p, (T p).dmod r d := by
  unfold out0_B_12
  rw [pieces_B_12]
  refine (rows4 T arg14.view (harg14.unread xo12) (fun r d => xo12 (ix3 0 r d)) _ _ _ _ _ _ _ _ _
    (fun d => (Body.pay62 T _ _ _ (r_18 H) d).trans (congrArg (· + _) ((rd_acc _ _ 0 (by omega) _ d))))
    (fun d => (Body.pay65 T _ _ (r_20 H) d).trans (congrArg (· + _) ((Body.pay63 _ d).trans (rd_acc _ _ 1 (by omega) _ d))))
    (fun d => (Body.pay48 T _ _ _ _ (r_9 H) (r_10 H) (r_13 H) d).trans (congrArg (· + _) ((rd_acc _ _ 2 (by omega) _ d))))
    (fun d => (Body.pay1 T _ _ _ (r_21 H) (by unfold kernelRun0_B.sl.r_23; rw [rd_full]; exact H.hy) d).trans (congrArg (· + _) ((Body.pay69 _ d).trans (rd_acc _ _ 3 (by omega) _ d))))
    (fun r d => by rw [View.writes_nil, Memref.IsWhole.read_unread]) r d)

/-- The stores of the head at a point that clears nothing. -/
theorem pieces_B_13 {hc0 : ¬cond0_0 i} {hc1 : ¬cond0_1 i} :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo12 xo13).2.2.2.2.2.2.1 = ⟨Rect.unit (s := S8x1024) ![1, 0] S1x1024.size inb_S8x1024_S1x1024_1_0, k0_pay45 (kernelRun0_B.sl.r_12 (F := Ideal) c arg2 harg2 arg3 harg3 arg5 harg5 arg6 harg6 arg7 harg7 arg8 harg8 arg12 x0 x1 x3 x4 x5 x6) (View.readAt (Elt Ideal) arg4.view (Rect.unit (s := S1x256x1024) ![0, 0, 0] S1x256x1024.size inb_S1x256x1024_S1x256x1024_0_0_0).toLoadRect (harg4.unread x2)) (kernelRun0_B.sl.v182 (F := Ideal) c arg15 harg15 xo13)⟩ ::
    ⟨Rect.unit (s := S8x1024) ![0, 0] S1x1024.size inb_S8x1024_S1x1024_0_0, k0_pay44 (kernelRun0_B.sl.r_11 (F := Ideal) c arg2 harg2 arg3 harg3 arg5 harg5 arg6 harg6 arg7 harg7 arg12 x0 x1 x3 x4 x5) (kernelRun0_B.sl.r_12 (F := Ideal) c arg2 harg2 arg3 harg3 arg5 harg5 arg6 harg6 arg7 harg7 arg8 harg8 arg12 x0 x1 x3 x4 x5 x6) (View.readAt (Elt Ideal) arg4.view (Rect.unit (s := S1x256x1024) ![0, 0, 0] S1x256x1024.size inb_S1x256x1024_S1x256x1024_0_0_0).toLoadRect (harg4.unread x2)) (View.readAt (Elt Ideal) arg15.view (Rect.unit (s := S8x1024) ![0, 0] S1x1024.size inb_S8x1024_S1x1024_0_0).toLoadRect (harg15.unread xo13))⟩ :: [] := rfl

/-- The block of the head at a point that clears nothing. -/
theorem out_B_13 {hc0 : ¬cond0_0 i} {hc1 : ¬cond0_1 i} (H : Ok T x0 x1 x2 x3 x4 x5 x6) (r : Fin 8) (d : Fin 1024) :
    out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo12 xo13 (ix2 r d) = xo13 (ix2 r d) + ∑ p, (T p).head r d := by
  unfold out0_B_13
  rw [pieces_B_13]
  refine (rows2 T arg15.view (harg15.unread xo13) (fun r d => xo13 (ix2 r d)) _ _ _ _ _
    (fun d => (Body.pay44 T _ _ _ _ (r_11 H) (r_12 H) (by rw [rd_full]; exact H.ht) d).trans (congrArg (· + _) ((rd_head _ _ 0 (by omega) _ d))))
    (fun d => (Body.pay45 T _ _ _ (r_12 H) (by rw [rd_full]; exact H.ht) d).trans (congrArg (· + _) ((rd_head _ _ 1 (by omega) _ d))))
    (fun r d => by rw [View.writes_nil, Memref.IsWhole.read_unread]) r d)

/-- The stores of the gradient of the MLP half's input at a sequence's first point. -/
theorem pieces_C_7 {hc0 : ¬cond0_0 i} {hc1 : cond0_1 i} :
    (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo13).1 = [⟨Rect.unit (s := S1x256x1024) ![0, 0, 0] S1x256x1024.size inb_S1x256x1024_S1x256x1024_0_0_0, k0_pay67 (kernelRun0_B.sl.r_1 (F := Ideal) c arg5 harg5 x3) (kernelRun0_B.sl.r_4 (F := Ideal) c arg2 harg2 arg3 harg3 arg5 harg5 x0 x1 x3) (kernelRun0_B.sl.r_5 (F := Ideal) c arg2 harg2 arg3 harg3 arg5 harg5 x0 x1 x3) (kernelRun0_B.sl.r_14 (F := Ideal) c arg2 harg2 arg3 harg3 arg4 harg4 arg5 harg5 arg6 harg6 arg7 harg7 arg8 harg8 arg12 x0 x1 x2 x3 x4 x5 x6) (kernelRun0_B.sl.r_18 (F := Ideal) c arg2 harg2 arg3 harg3 arg4 harg4 arg5 harg5 arg6 harg6 arg7 harg7 arg8 harg8 arg12 arg13 arg17 x0 x1 x2 x3 x4 x5 x6)⟩] := rfl

/-- The block of the gradient of the MLP half's input at a sequence's first point. -/
theorem out_C_7 {hc0 : ¬cond0_0 i} {hc1 : cond0_1 i} (H : Ok T x0 x1 x2 x3 x4 x5 x6) (p : Fin 256) (d : Fin 1024) :
    out0_C_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo13 (ix3 0 p d) = (T p).dx1 d := by
  unfold out0_C_7
  rw [pieces_C_7]
  exact (whole_store VO0_7 _ _ (by decide) _).trans (Body.pay67 T _ _ _ _ _ (r_21 (c := c) (arg2 := arg2) (harg2 := harg2) H) p d)

/-- The stores of the modulated norm at a sequence's first point. -/
theorem pieces_C_8 {hc0 : ¬cond0_0 i} {hc1 : cond0_1 i} :
    (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo13).2.1 = [⟨Rect.unit (s := S1x256x1024) ![0, 0, 0] S1x256x1024.size inb_S1x256x1024_S1x256x1024_0_0_0, k0_pay9 (kernelRun0_B.sl.r_6 (F := Ideal) c arg2 harg2 arg3 harg3 arg5 harg5 x0 x1 x3)⟩] := rfl

/-- The block of the modulated norm at a sequence's first point. -/
theorem out_C_8 {hc0 : ¬cond0_0 i} {hc1 : cond0_1 i} (H : Ok T x0 x1 x2 x3 x4 x5 x6) (p : Fin 256) (d : Fin 1024) :
    out0_C_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo13 (ix3 0 p d) = (T p).h2 d := by
  unfold out0_C_8
  rw [pieces_C_8]
  exact (whole_store VO0_8 _ _ (by decide) _).trans (Body.pay9 T _ (r_6 H) p d)

/-- The stores of the gradient of the second product at a sequence's first point. -/
theorem pieces_C_9 {hc0 : ¬cond0_0 i} {hc1 : cond0_1 i} :
    (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo13).2.2.1 = [⟨Rect.unit (s := S1x256x1024) ![0, 0, 0] S1x256x1024.size inb_S1x256x1024_S1x256x1024_0_0_0, k0_pay50 (kernelRun0_B.sl.r_2 (F := Ideal) c arg5 harg5 x3) (kernelRun0_B.sl.r_10 (F := Ideal) c arg2 harg2 arg3 harg3 arg5 harg5 arg6 harg6 arg7 harg7 arg12 x0 x1 x3 x4 x5) (kernelRun0_B.sl.r_13 (F := Ideal) c arg2 harg2 arg3 harg3 arg4 harg4 arg5 harg5 arg6 harg6 arg7 harg7 arg8 harg8 arg12 x0 x1 x2 x3 x4 x5 x6)⟩] := rfl

/-- The block of the gradient of the second product at a sequence's first point. -/
theorem out_C_9 {hc0 : ¬cond0_0 i} {hc1 : cond0_1 i} (H : Ok T x0 x1 x2 x3 x4 x5 x6) (p : Fin 256) (d : Fin 1024) :
    out0_C_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo13 (ix3 0 p d) = (T p).dy2 d := by
  unfold out0_C_9
  rw [pieces_C_9]
  exact (whole_store VO0_9 _ _ (by decide) _).trans (Body.pay50 T _ _ _ (Body.pay49 T _ _ _ (r_2 H) (r_10 H) (r_13 H)) p d)

/-- The stores of the squared hidden layer at a sequence's first point. -/
theorem pieces_C_10 {hc0 : ¬cond0_0 i} {hc1 : cond0_1 i} :
    (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo13).2.2.2.1 = (kernelRun0_B.sl.H10_8 (F := Ideal) c arg2 harg2 arg3 harg3 arg5 harg5 arg6 harg6 x0 x1 x3 x4) := rfl

/-- The block of the squared hidden layer at a sequence's first point. -/
theorem out_C_10 {hc0 : ¬cond0_0 i} {hc1 : cond0_1 i} (H : Ok T x0 x1 x2 x3 x4 x5 x6) (p : Fin 256) (d : Fin 4096) :
    out0_C_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo13 (ix3 0 p d) = (T p).u d := by
  unfold out0_C_10
  rw [pieces_C_10]
  exact (congrFun (View.read_writes_junk_eq_canon VO0_10 _) _).trans (H10_8 H p d)

/-- The stores of the gradient of the hidden layer at a sequence's first point. -/
theorem pieces_C_11 {hc0 : ¬cond0_0 i} {hc1 : cond0_1 i} :
    (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo13).2.2.2.2.1 = (kernelRun0_B.sl.H11_8 (F := Ideal) c arg2 harg2 arg3 harg3 arg4 harg4 arg5 harg5 arg6 harg6 arg7 harg7 arg8 harg8 arg12 arg17 x0 x1 x2 x3 x4 x5 x6) := rfl

/-- The block of the gradient of the hidden layer at a sequence's first point. -/
theorem out_C_11 {hc0 : ¬cond0_0 i} {hc1 : cond0_1 i} (H : Ok T x0 x1 x2 x3 x4 x5 x6) (p : Fin 256) (d : Fin 4096) :
    out0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo13 (ix3 0 p d) = (T p).dz d := by
  unfold out0_C_11
  rw [pieces_C_11]
  exact (congrFun (View.read_writes_junk_eq_canon VO0_11 _) _).trans (H11_8 H p d)

/-- The stores of the gradient of the mixer's output at a sequence's first point. -/
theorem pieces_C_14 {hc0 : ¬cond0_0 i} {hc1 : cond0_1 i} :
    (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo13).2.2.2.2.2.2.2.1 = [⟨Rect.unit (s := S1x256x1024) ![0, 0, 0] S1x256x1024.size inb_S1x256x1024_S1x256x1024_0_0_0, k0_pay68 (kernelRun0_B.sl.r_1 (F := Ideal) c arg5 harg5 x3) (kernelRun0_B.sl.r_4 (F := Ideal) c arg2 harg2 arg3 harg3 arg5 harg5 x0 x1 x3) (kernelRun0_B.sl.r_5 (F := Ideal) c arg2 harg2 arg3 harg3 arg5 harg5 x0 x1 x3) (kernelRun0_B.sl.r_14 (F := Ideal) c arg2 harg2 arg3 harg3 arg4 harg4 arg5 harg5 arg6 harg6 arg7 harg7 arg8 harg8 arg12 x0 x1 x2 x3 x4 x5 x6) (kernelRun0_B.sl.r_18 (F := Ideal) c arg2 harg2 arg3 harg3 arg4 harg4 arg5 harg5 arg6 harg6 arg7 harg7 arg8 harg8 arg12 arg13 arg17 x0 x1 x2 x3 x4 x5 x6) (View.readAt (Elt Ideal) arg5.view (Rect.unit (s := S1x6x1024) ![0, 2, 0] S1x1x1024.size inb_S1x6x1024_S1x1x1024_0_2_0).toLoadRect (harg5.unread x3))⟩] := rfl

/-- The block of the gradient of the mixer's output at a sequence's first point. -/
theorem out_C_14 {hc0 : ¬cond0_0 i} {hc1 : cond0_1 i} (H : Ok T x0 x1 x2 x3 x4 x5 x6) (p : Fin 256) (d : Fin 1024) :
    out0_C_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo13 (ix3 0 p d) = (T p).dy1 d := by
  unfold out0_C_14
  rw [pieces_C_14]
  exact (whole_store VO0_14 _ _ (by decide) _).trans (Body.pay68 T _ _ _ _ _ _ (r_21 (c := c) (arg2 := arg2) (harg2 := harg2) H) (fun p d => (rd_row _ _ 2 (by omega) _ d).trans (H.hm p 2 d)) p d)

/-- The stores of the modulation rows' gradient at a sequence's first point. -/
theorem pieces_C_12 {hc0 : ¬cond0_0 i} {hc1 : cond0_1 i} :
    (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo13).2.2.2.2.2.1 = ⟨Rect.unit (s := S1x8x1024) ![0, 3, 0] S1x1x1024.size inb_S1x8x1024_S1x1x1024_0_3_0, k0_pay1 (kernelRun0_B.sl.r_21 (F := Ideal) c arg2 harg2 arg3 harg3 arg4 harg4 arg5 harg5 arg6 harg6 arg7 harg7 arg8 harg8 arg12 arg13 arg17 x0 x1 x2 x3 x4 x5 x6) (kernelRun0_C.sl.r_22 (F := Ideal) c arg2 harg2 arg3 harg3 arg4 harg4 arg5 harg5 arg6 harg6 arg7 harg7 arg8 harg8 arg12 arg13 arg14 arg17 x0 x1 x2 x3 x4 x5 x6) (kernelRun0_B.sl.r_23 (F := Ideal) c arg3 harg3 x1)⟩ ::
    ⟨Rect.unit (s := S1x8x1024) ![0, 1, 0] S1x1x1024.size inb_S1x8x1024_S1x1x1024_0_1_0, k0_pay65 (kernelRun0_C.sl.r_19 (F := Ideal) c arg2 harg2 arg3 harg3 arg4 harg4 arg5 harg5 arg6 harg6 arg7 harg7 arg8 harg8 arg12 arg13 arg14 arg17 x0 x1 x2 x3 x4 x5 x6) (kernelRun0_B.sl.r_20 (F := Ideal) c arg2 harg2 arg3 harg3 arg4 harg4 arg5 harg5 arg6 harg6 arg7 harg7 arg8 harg8 arg12 arg13 arg17 x0 x1 x2 x3 x4 x5 x6)⟩ ::
    ⟨Rect.unit (s := S1x8x1024) ![0, 0, 0] S1x1x1024.size inb_S1x8x1024_S1x1x1024_0_0_0, k0_pay62 (kernelRun0_B.sl.v304 (F := Ideal) c arg2 harg2 arg3 harg3 arg4 harg4 arg5 harg5 arg6 harg6 arg7 harg7 arg8 harg8 arg12 arg13 arg17 x0 x1 x2 x3 x4 x5 x6) (View.readAt (Elt Ideal) arg6.view (Rect.unit (s := S8x512x1024) ![0, 0, 0] S8x512x1024.size inb_S8x512x1024_S8x512x1024_0_0_0).toLoadRect (harg6.unread x4)) (kernelRun0_C.sl.v310 (F := Ideal) c arg2 harg2 arg3 harg3 arg4 harg4 arg5 harg5 arg6 harg6 arg7 harg7 arg8 harg8 arg12 arg14 x0 x1 x2 x3 x4 x5 x6)⟩ ::
    ⟨Rect.unit (s := S1x8x1024) ![0, 2, 0] S1x1x1024.size inb_S1x8x1024_S1x1x1024_0_2_0, k0_pay48 (kernelRun0_B.sl.r_9 (F := Ideal) c arg2 harg2 arg3 harg3 arg5 harg5 arg6 harg6 arg7 harg7 arg12 x0 x1 x3 x4 x5) (kernelRun0_B.sl.r_10 (F := Ideal) c arg2 harg2 arg3 harg3 arg5 harg5 arg6 harg6 arg7 harg7 arg12 x0 x1 x3 x4 x5) (kernelRun0_B.sl.r_13 (F := Ideal) c arg2 harg2 arg3 harg3 arg4 harg4 arg5 harg5 arg6 harg6 arg7 harg7 arg8 harg8 arg12 x0 x1 x2 x3 x4 x5 x6) (kernelRun0_C.sl.v201 (F := Ideal) c arg14)⟩ :: [⟨Rect.unit (s := S1x8x1024) ![0, 0, 0] S1x8x1024.size inb_S1x8x1024_S1x8x1024_0_0_0, k0_pay43 (F := Ideal)⟩] := rfl

/-- The block of the modulation rows' gradient at a sequence's first point. -/
theorem out_C_12 {hc0 : ¬cond0_0 i} {hc1 : cond0_1 i} (H : Ok T x0 x1 x2 x3 x4 x5 x6) (r : Fin 8) (d : Fin 1024) :
    out0_C_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo13 (ix3 0 r d) = ∑ p, (T p).dmod r d := by
  unfold out0_C_12
  rw [pieces_C_12]
  refine (rows4 T VO0_12 VO0_12.junk (fun _ _ => 0) _ _ _ _ _ _ _ _ _
    (fun d => (Body.pay62 T _ _ _ (r_18 H) d).trans (congrArg (· + _) (v310_C d)))
    (fun d => (Body.pay65 T _ _ (r_20 H) d).trans (congrArg (· + _) (r_19_C d)))
    (fun d => (Body.pay48 T _ _ _ _ (r_9 H) (r_10 H) (r_13 H) d).trans (congrArg (· + _) (v201_C d)))
    (fun d => (Body.pay1 T _ _ _ (r_21 H) (by unfold kernelRun0_B.sl.r_23; rw [rd_full]; exact H.hy) d).trans (congrArg (· + _) (r_22_C d)))
    (fun r d => zero_row _ r d) r d).trans (zero_add _)

/-- The stores of the head at a sequence's first point. -/
theorem pieces_C_13 {hc0 : ¬cond0_0 i} {hc1 : cond0_1 i} :
    (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo13).2.2.2.2.2.2.1 = ⟨Rect.unit (s := S8x1024) ![1, 0] S1x1024.size inb_S8x1024_S1x1024_1_0, k0_pay45 (kernelRun0_B.sl.r_12 (F := Ideal) c arg2 harg2 arg3 harg3 arg5 harg5 arg6 harg6 arg7 harg7 arg8 harg8 arg12 x0 x1 x3 x4 x5 x6) (View.readAt (Elt Ideal) arg4.view (Rect.unit (s := S1x256x1024) ![0, 0, 0] S1x256x1024.size inb_S1x256x1024_S1x256x1024_0_0_0).toLoadRect (harg4.unread x2)) (kernelRun0_C.sl.v182 (F := Ideal) c arg15 harg15 xo13)⟩ ::
    ⟨Rect.unit (s := S8x1024) ![0, 0] S1x1024.size inb_S8x1024_S1x1024_0_0, k0_pay44 (kernelRun0_B.sl.r_11 (F := Ideal) c arg2 harg2 arg3 harg3 arg5 harg5 arg6 harg6 arg7 harg7 arg12 x0 x1 x3 x4 x5) (kernelRun0_B.sl.r_12 (F := Ideal) c arg2 harg2 arg3 harg3 arg5 harg5 arg6 harg6 arg7 harg7 arg8 harg8 arg12 x0 x1 x3 x4 x5 x6) (View.readAt (Elt Ideal) arg4.view (Rect.unit (s := S1x256x1024) ![0, 0, 0] S1x256x1024.size inb_S1x256x1024_S1x256x1024_0_0_0).toLoadRect (harg4.unread x2)) (View.readAt (Elt Ideal) arg15.view (Rect.unit (s := S8x1024) ![0, 0] S1x1024.size inb_S8x1024_S1x1024_0_0).toLoadRect (harg15.unread xo13))⟩ :: [] := rfl

/-- The block of the head at a sequence's first point. -/
theorem out_C_13 {hc0 : ¬cond0_0 i} {hc1 : cond0_1 i} (H : Ok T x0 x1 x2 x3 x4 x5 x6) (r : Fin 8) (d : Fin 1024) :
    out0_C_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xo13 (ix2 r d) = xo13 (ix2 r d) + ∑ p, (T p).head r d := by
  unfold out0_C_13
  rw [pieces_C_13]
  refine (rows2 T arg15.view (harg15.unread xo13) (fun r d => xo13 (ix2 r d)) _ _ _ _ _
    (fun d => (Body.pay44 T _ _ _ _ (r_11 H) (r_12 H) (by rw [rd_full]; exact H.ht) d).trans (congrArg (· + _) ((rd_head _ _ 0 (by omega) _ d))))
    (fun d => (Body.pay45 T _ _ _ (r_12 H) (by rw [rd_full]; exact H.ht) d).trans (congrArg (· + _) ((rd_head _ _ 1 (by omega) _ d))))
    (fun r d => by rw [View.writes_nil, Memref.IsWhole.read_unread]) r d)

end Cert.Outs

end

end
-- ==== Proof.RefRead.lean ====
module

public import proofs.«01_k».proof.Proof.Gen.ReferenceIdeal.Read
public import proofs.«01_k».proof.Proof.RowMath
public import Idealize.ShloMosaic.Lib.Pipeline.ValueKit

/-
  The reference's arrays read at an index: each is the arithmetic of one token (`Cert.RowMath.Tok`) at that token's rows,
  or a sum of it over the tokens.
-/

@[expose] public section

set_option maxRecDepth 16384

noncomputable section

open Idealize.ShloMosaic Cert.ReferenceIdeal Cert.ReferenceIdeal.Read Cert.RowMath

namespace Cert.RefRead

variable (x0 x1 : FVec Ideal S2x4096x1024 .f32) (x2 : FVec Ideal S2x6144 .f32) (x3 : FVec Ideal S1x1024x4096 .f32)
  (x4 : FVec Ideal S1x4096x1024 .f32) (x5 : FVec Ideal S1024 .f32) (x6 : FVec Ideal S2x4096x1024 .f32)

/-- Token `s` of sequence `b`: its rows of the arguments and the weights. -/
def tok (b : Fin 2) (s : Fin 4096) : Tok where
  x d := x0 (ix3 b s d)
  y d := x1 (ix3 b s d)
  t d := x6 (ix3 b s d)
  m r d := x2 (ix2 b ⟨1024 * r.val + d.val, by omega⟩)
  w1 f d := x3 (ix3 0 d f)
  w2 f d := x4 (ix3 0 f d)
  g d := x5 (ix1 d)

/-- An activation's element at its token's row. -/
theorem at3 (X : FVec Ideal S2x4096x1024 .f32) (i : S2x4096x1024.Idx) : X i = X (ix3 (i 0) (i 1) (i 2)) := by blk_ext
/-- The token mixer's gate, broadcast over the tokens. -/
theorem m2 (i) : val_main_v7 (F := Ideal) x2 i = (tok x0 x1 x2 x3 x4 x5 x6 (i 0) (i 1)).m 2 (i 2) := by
  simp only [val_main_v7_apply, val_main_v6_apply, val_main_v2_apply]; unfold tok; blk_ext
/-- The same gate where the backward pass reads it. -/
theorem m2' (i) : val_main_v132 (F := Ideal) x2 i = (tok x0 x1 x2 x3 x4 x5 x6 (i 0) (i 1)).m 2 (i 2) := by
  simp only [val_main_v132_apply, val_main_v6_apply, val_main_v2_apply]; unfold tok; blk_ext
/-- The channel mixer's shift. -/
theorem m3 (i) : val_main_v29 (F := Ideal) x2 i = (tok x0 x1 x2 x3 x4 x5 x6 (i 0) (i 1)).m 3 (i 2) := by
  simp only [val_main_v29_apply, val_main_v28_apply, val_main_v3_apply]; unfold tok; blk_ext
/-- The channel mixer's scale, one added. -/
theorem m4 (i) : val_main_v26 (F := Ideal) x2 i = Ideal.ofBits .f32 0x3F800000#32 + (tok x0 x1 x2 x3 x4 x5 x6 (i 0) (i 1)).m 4 (i 2) := by
  simp only [val_main_v26_apply, val_main_v25_apply, val_main_v24_apply, val_main_cst_3_apply, val_main_v23_apply, val_main_v4_apply, Ideal.addf_def, Ideal.ofBits_def]; unfold tok; congr 1; blk_ext
/-- The same where the backward pass reads it. -/
theorem m4' (i) : val_main_v114 (F := Ideal) x2 i = Ideal.ofBits .f32 0x3F800000#32 + (tok x0 x1 x2 x3 x4 x5 x6 (i 0) (i 1)).m 4 (i 2) := by
  simp only [val_main_v114_apply, val_main_v25_apply, val_main_v24_apply, val_main_cst_3_apply, val_main_v23_apply, val_main_v4_apply, Ideal.addf_def, Ideal.ofBits_def]; unfold tok; congr 1; blk_ext
/-- The channel mixer's gate. -/
theorem m5 (i) : val_main_v43 (F := Ideal) x2 i = (tok x0 x1 x2 x3 x4 x5 x6 (i 0) (i 1)).m 5 (i 2) := by
  simp only [val_main_v43_apply, val_main_v42_apply, val_main_v5_apply]; unfold tok; blk_ext
/-- The same gate where the backward pass reads it. -/
theorem m5' (i) : val_main_v97 (F := Ideal) x2 i = (tok x0 x1 x2 x3 x4 x5 x6 (i 0) (i 1)).m 5 (i 2) := by
  simp only [val_main_v97_apply, val_main_v42_apply, val_main_v5_apply]; unfold tok; blk_ext
/-- The final gain. -/
theorem gf (i) : val_main_v60 (F := Ideal) x5 i = (tok x0 x1 x2 x3 x4 x5 x6 (i 0) (i 1)).g (i 2) := by
  simp only [val_main_v60_apply, val_main_v59_apply]; unfold tok; blk_ext
/-- The same gain where the backward pass reads it. -/
theorem gf' (i) : val_main_v80 (F := Ideal) x5 i = (tok x0 x1 x2 x3 x4 x5 x6 (i 0) (i 1)).g (i 2) := by
  simp only [val_main_v80_apply, val_main_v59_apply]; unfold tok; blk_ext

/-- The residual stream after the token mixer. -/
theorem v9 (i) : val_main_v9 (F := Ideal) x0 x1 x2 i = (tok x0 x1 x2 x3 x4 x5 x6 (i 0) (i 1)).x1 (i 2) := by
  rw [val_main_v9_apply, val_main_v8_apply, m2 x0 x1 x2 x3 x4 x5 x6 i, at3 x0 i, at3 x1 i]; rfl
/-- The reciprocal root of its mean square. -/
theorem v17 (i) : val_main_v17 (F := Ideal) x0 x1 x2 i = rs (tok x0 x1 x2 x3 x4 x5 x6 (i 0) (i 1)).x1 := by
  simp only [val_main_v17_apply, val_main_v16_apply, val_main_v15_apply, val_main_cst_1_apply, val_main_v14_apply, val_main_v13_apply, val_main_cst_0_apply,
    val_main_v12_apply, val_main_v11_apply, val_main_v10_apply, val_main_cst_apply, v9 x0 x1 x2 x3 x4 x5 x6,
    Ideal.addf_def, Ideal.mulf_def, Ideal.ofBits_def, Ideal.hostDivf_def, Ideal.hostUnary_rsqrt_def, ofBits_zero, zero_add]
  rfl
/-- Its normalised row. -/
theorem v22 (i) : val_main_v22 (F := Ideal) x0 x1 x2 i = (tok x0 x1 x2 x3 x4 x5 x6 (i 0) (i 1)).xn2 (i 2) := by
  rw [val_main_v22_apply, val_main_v21_apply, v17 x0 x1 x2 x3 x4 x5 x6, v9 x0 x1 x2 x3 x4 x5 x6]; rfl
/-- The modulated row. -/
theorem v30 (i) : val_main_v30 (F := Ideal) x0 x1 x2 i = (tok x0 x1 x2 x3 x4 x5 x6 (i 0) (i 1)).h2 (i 2) := by
  rw [val_main_v30_apply, val_main_v27_apply, v22 x0 x1 x2 x3 x4 x5 x6, m3 x0 x1 x2 x3 x4 x5 x6, m4 x0 x1 x2 x3 x4 x5 x6]; rfl
/-- The hidden row, cut at zero. -/
theorem v33 (i) : val_main_v33 (F := Ideal) x0 x1 x2 x3 i = (tok x0 x1 x2 x3 x4 x5 x6 (i 0) (i 1)).rz (i 2) := by
  rw [val_main_v33_apply, val_main_v32_apply, val_main_call0_v0_apply, val_main_call0_cst_apply]
  simp only [v30 x0 x1 x2 x3 x4 x5 x6, Ideal.maximumf_def, Ideal.ofBits_def, ofBits_zero, val_main_v31_apply]
  unfold Tok.rz
  congr 1
  refine Finset.sum_congr rfl fun k _ => ?_
  congr 1
  unfold tok; blk_ext
/-- The same sum before the cut. -/
theorem v32 (i) : max (val_main_v32 (F := Ideal) x0 x1 x2 x3 i) 0 = (tok x0 x1 x2 x3 x4 x5 x6 (i 0) (i 1)).rz (i 2) := by
  rw [← v33 x0 x1 x2 x3 x4 x5 x6, val_main_v33_apply, val_main_call0_v0_apply, val_main_call0_cst_apply, Ideal.maximumf_def, Ideal.ofBits_def, ofBits_zero]
/-- The squared activation. -/
theorem v37 (i) : val_main_v37 (F := Ideal) x0 x1 x2 x3 i = (tok x0 x1 x2 x3 x4 x5 x6 (i 0) (i 1)).u (i 2) := by
  rw [val_main_v37_apply, v33 x0 x1 x2 x3 x4 x5 x6]; rfl
/-- The channel mixer's output. -/
theorem v41 (i) : val_main_v41 (F := Ideal) x0 x1 x2 x3 x4 i = (tok x0 x1 x2 x3 x4 x5 x6 (i 0) (i 1)).y2 (i 2) := by
  rw [val_main_v41_apply]
  simp only [v37 x0 x1 x2 x3 x4 x5 x6, val_main_v40_apply]
  unfold Tok.y2
  refine Finset.sum_congr rfl fun k _ => ?_
  congr 1
  unfold tok; blk_ext
/-- The residual stream after the channel mixer. -/
theorem v45 (i) : val_main_v45 (F := Ideal) x0 x1 x2 x3 x4 i = (tok x0 x1 x2 x3 x4 x5 x6 (i 0) (i 1)).x2 (i 2) := by
  rw [val_main_v45_apply, val_main_v44_apply, v41 x0 x1 x2 x3 x4 x5 x6, v9 x0 x1 x2 x3 x4 x5 x6, m5 x0 x1 x2 x3 x4 x5 x6]; rfl
/-- The reciprocal root of its mean square. -/
theorem v53 (i) : val_main_v53 (F := Ideal) x0 x1 x2 x3 x4 i = rs (tok x0 x1 x2 x3 x4 x5 x6 (i 0) (i 1)).x2 := by
  simp only [val_main_v53_apply, val_main_v52_apply, val_main_v51_apply, val_main_cst_9_apply, val_main_v50_apply, val_main_v49_apply, val_main_cst_8_apply,
    val_main_v48_apply, val_main_v47_apply, val_main_v46_apply, val_main_cst_7_apply, v45 x0 x1 x2 x3 x4 x5 x6,
    Ideal.addf_def, Ideal.mulf_def, Ideal.ofBits_def, Ideal.hostDivf_def, Ideal.hostUnary_rsqrt_def, ofBits_zero, zero_add]
  rfl
/-- Its normalised row. -/
theorem v58 (i) : val_main_v58 (F := Ideal) x0 x1 x2 x3 x4 i = (tok x0 x1 x2 x3 x4 x5 x6 (i 0) (i 1)).xn3 (i 2) := by
  rw [val_main_v58_apply, val_main_v57_apply, v53 x0 x1 x2 x3 x4 x5 x6, v45 x0 x1 x2 x3 x4 x5 x6]; rfl
/-- The prediction's error. -/
theorem v62 (i) : val_main_v62 (F := Ideal) x0 x1 x2 x3 x4 x5 x6 i = (tok x0 x1 x2 x3 x4 x5 x6 (i 0) (i 1)).diff (i 2) := by
  rw [val_main_v62_apply, val_main_v61_apply, v58 x0 x1 x2 x3 x4 x5 x6, gf x0 x1 x2 x3 x4 x5 x6, at3 x6 i]; rfl
/-- The same where the head's sums read it. -/
theorem v145 (i) : val_main_v145 (F := Ideal) x0 x1 x2 x3 x4 x5 x6 i = (tok x0 x1 x2 x3 x4 x5 x6 (i 0) (i 1)).diff (i 2) := by
  rw [val_main_v145_apply, val_main_v61_apply, v58 x0 x1 x2 x3 x4 x5 x6, gf x0 x1 x2 x3 x4 x5 x6, at3 x6 i]; rfl
/-- The loss's gradient at the prediction. -/
theorem v76 (i) : val_main_v76 (F := Ideal) x0 x1 x2 x3 x4 x5 x6 i = (tok x0 x1 x2 x3 x4 x5 x6 (i 0) (i 1)).dout (i 2) := by
  simp only [val_main_v76_apply, val_main_v75_apply, val_main_v74_apply, val_main_v73_apply, val_main_cst_18_apply, val_main_v72_apply, val_main_v71_apply,
    val_main_cst_16_apply, val_main_cst_17_apply, val_main_v65_apply, val_main_v64_apply, val_main_cst_11_apply, v62,
    Ideal.mulf_def, Ideal.ofBits_def, Ideal.hostDivf_def]
  exact loss_factor _
/-- Its product with the gain. -/
theorem v81 (i) : val_main_v81 (F := Ideal) x0 x1 x2 x3 x4 x5 x6 i = (tok x0 x1 x2 x3 x4 x5 x6 (i 0) (i 1)).dxn3 (i 2) := by
  rw [val_main_v81_apply, v76, gf' x0 x1 x2 x3 x4 x5 x6]; rfl
/-- The gradient at the residual stream after the channel mixer. -/
theorem v96 (i) : val_main_v96 (F := Ideal) x0 x1 x2 x3 x4 x5 x6 i = (tok x0 x1 x2 x3 x4 x5 x6 (i 0) (i 1)).dx2 (i 2) := by
  have hm : ∀ j, val_main_v92 (F := Ideal) x0 x1 x2 x3 x4 x5 x6 j = dMean (tok x0 x1 x2 x3 x4 x5 x6 (j 0) (j 1)).x2 (tok x0 x1 x2 x3 x4 x5 x6 (j 0) (j 1)).dxn3 := by
    intro j
    simp only [val_main_v92_apply, val_main_v91_apply, val_main_v90_apply, val_main_v89_apply, val_main_cst_22_apply, val_main_cst_23_apply, val_main_v88_apply,
      val_main_v85_apply, val_main_v84_apply, val_main_v83_apply, val_main_cst_21_apply, val_main_v56_apply, val_main_v55_apply, val_main_cst_10_apply, val_main_v54_apply,
      val_main_v52_apply, val_main_v51_apply, val_main_cst_9_apply, val_main_v50_apply, val_main_v49_apply, val_main_cst_8_apply,
      val_main_v48_apply, val_main_v47_apply, val_main_v46_apply, val_main_cst_7_apply, v53 x0 x1 x2 x3 x4 x5 x6, v45 x0 x1 x2 x3 x4 x5 x6, v81,
      Ideal.addf_def, Ideal.mulf_def, Ideal.ofBits_def, Ideal.hostDivf_def, ofBits_zero, zero_add]
    rw [Fin.sum_univ_one]
    have e : idx_main_v85 (idx_main_v91 (idx_main_v92 j) 0) = idx_main_v92 j := by
      have h0 : (j 0).val < 2 := (j 0).isLt
      have h1 : (j 1).val < 4096 := (j 1).isLt
      funext a; fin_cases a <;> apply Fin.ext <;> simp <;> omega
    rw [e]
    rfl
  simp only [val_main_v96_apply, val_main_v95_apply, val_main_v94_apply, val_main_v93_apply, val_main_v87_apply, val_main_v86_apply, hm, v53 x0 x1 x2 x3 x4 x5 x6, v45 x0 x1 x2 x3 x4 x5 x6, v81,
    Ideal.addf_def, Ideal.mulf_def]
  exact normBwd_eq _ _ _
/-- The gradient at the channel mixer's output. -/
theorem v98 (i) : val_main_v98 (F := Ideal) x0 x1 x2 x3 x4 x5 x6 i = (tok x0 x1 x2 x3 x4 x5 x6 (i 0) (i 1)).dy2 (i 2) := by
  rw [val_main_v98_apply, v96, m5' x0 x1 x2 x3 x4 x5 x6]; rfl
/-- The gradient at the hidden pre-activation. -/
theorem v106 (i) : val_main_v106 (F := Ideal) x0 x1 x2 x3 x4 x5 x6 i = (tok x0 x1 x2 x3 x4 x5 x6 (i 0) (i 1)).dz (i 2) := by
  have hd : val_main_v103 (F := Ideal) x0 x1 x2 x3 x4 x5 x6 i = ∑ d, (tok x0 x1 x2 x3 x4 x5 x6 (i 0) (i 1)).dy2 d * (tok x0 x1 x2 x3 x4 x5 x6 (i 0) (i 1)).w2 (i 2) d := by
    rw [val_main_v103_apply]
    simp only [v98, val_main_v40_apply]
    refine Finset.sum_congr rfl fun k _ => ?_
    congr 1
    unfold tok; blk_ext
  simp only [val_main_v106_apply, val_main_v35_apply, val_main_v34_apply, val_main_cst_4_apply, val_main_v105_apply, val_main_cst_26_apply, val_main_v104_apply,
    val_main_v39_apply, val_main_v38_apply, val_main_cst_6_apply, hd, Ideal.mulf_def, Ideal.ofBits_def, ofBits_zero]
  rw [val_main_v33_apply, val_main_call0_v0_apply, val_main_call0_cst_apply, Ideal.maximumf_def, Ideal.ofBits_def, ofBits_zero]
  unfold Tok.dz
  rw [← v32 x0 x1 x2 x3 x4 x5 x6]
  generalize val_main_v32 (F := Ideal) x0 x1 x2 x3 i = z
  refine Eq.trans ?_ (select_relu z _)
  by_cases hz : 0 < z
  · rw [if_pos hz]; simp [Scalar.select, FloatOps.cmpf, Ideal.cmp, hz]
  · rw [if_neg hz]; simp [Scalar.select, FloatOps.cmpf, Ideal.cmp, hz]
/-- The gradient at the modulated row. -/
theorem v107 (i) : val_main_v107 (F := Ideal) x0 x1 x2 x3 x4 x5 x6 i = (tok x0 x1 x2 x3 x4 x5 x6 (i 0) (i 1)).dh2 (i 2) := by
  rw [val_main_v107_apply]
  simp only [v106, val_main_v31_apply]
  unfold Tok.dh2
  refine Finset.sum_congr rfl fun k _ => ?_
  congr 1
  unfold tok; blk_ext
/-- Its product with the modulation's scale. -/
theorem v115 (i) : val_main_v115 (F := Ideal) x0 x1 x2 x3 x4 x5 x6 i = (tok x0 x1 x2 x3 x4 x5 x6 (i 0) (i 1)).dxn2 (i 2) := by
  rw [val_main_v115_apply, v107, m4' x0 x1 x2 x3 x4 x5 x6]; rfl
/-- The gradient at the residual stream after the token mixer. -/
theorem v131 (i) : val_main_v131 (F := Ideal) x0 x1 x2 x3 x4 x5 x6 i = (tok x0 x1 x2 x3 x4 x5 x6 (i 0) (i 1)).dx1 (i 2) := by
  have hm : ∀ j, val_main_v126 (F := Ideal) x0 x1 x2 x3 x4 x5 x6 j = dMean (tok x0 x1 x2 x3 x4 x5 x6 (j 0) (j 1)).x1 (tok x0 x1 x2 x3 x4 x5 x6 (j 0) (j 1)).dxn2 := by
    intro j
    simp only [val_main_v126_apply, val_main_v125_apply, val_main_v124_apply, val_main_v123_apply, val_main_cst_32_apply, val_main_cst_33_apply, val_main_v122_apply,
      val_main_v119_apply, val_main_v118_apply, val_main_v117_apply, val_main_cst_31_apply, val_main_v20_apply, val_main_v19_apply, val_main_cst_2_apply, val_main_v18_apply,
      val_main_v16_apply, val_main_v15_apply, val_main_cst_1_apply, val_main_v14_apply, val_main_v13_apply, val_main_cst_0_apply,
      val_main_v12_apply, val_main_v11_apply, val_main_v10_apply, val_main_cst_apply, v17 x0 x1 x2 x3 x4 x5 x6, v9 x0 x1 x2 x3 x4 x5 x6, v115,
      Ideal.addf_def, Ideal.mulf_def, Ideal.ofBits_def, Ideal.hostDivf_def, ofBits_zero, zero_add]
    rw [Fin.sum_univ_one]
    have e : idx_main_v119 (idx_main_v125 (idx_main_v126 j) 0) = idx_main_v126 j := by
      have h0 : (j 0).val < 2 := (j 0).isLt
      have h1 : (j 1).val < 4096 := (j 1).isLt
      funext a; fin_cases a <;> apply Fin.ext <;> simp <;> omega
    rw [e]
    rfl
  simp only [val_main_v131_apply, val_main_v130_apply, val_main_v129_apply, val_main_v128_apply, val_main_v127_apply, val_main_v121_apply, val_main_v120_apply, hm, v17 x0 x1 x2 x3 x4 x5 x6, v9 x0 x1 x2 x3 x4 x5 x6, v115, v96,
    Ideal.addf_def, Ideal.mulf_def]
  unfold Tok.dx1
  congr 1
  exact normBwd_eq _ _ _
/-- The gradient at the token mixer's output. -/
theorem v133 (i) : val_main_v133 (F := Ideal) x0 x1 x2 x3 x4 x5 x6 i = (tok x0 x1 x2 x3 x4 x5 x6 (i 0) (i 1)).dy1 (i 2) := by
  rw [val_main_v133_apply, v131, m2' x0 x1 x2 x3 x4 x5 x6]; rfl

/-- A sum over the first two axes of an activation, read at a channel. -/
theorem sum_tokens (h : S2x4096x1024.ReducesTo [0, 1] S1024) (x : S2x4096x1024.Idx → EReal) (init : EReal) (j : S1024.Idx) :
    Ideal.hostReduceAdd h x init j = init + ∑ b : Fin 2, ∑ s : Fin 4096, x (ix3 b s (j 0)) := by
  unfold Ideal.hostReduceAdd
  congr 1
  rw [← Fintype.sum_prod_type']
  have hd : ∀ i : S2x4096x1024.Idx, (h.drop i 0).val = (i 2).val := fun i => rfl
  refine Finset.sum_nbij' (fun i => (i 0, i 1)) (fun p => ix3 p.1 p.2 (j 0)) ?_ ?_ ?_ ?_ ?_
  · intro i _; exact Finset.mem_univ _
  · intro p _
    refine Finset.mem_filter.mpr ⟨Finset.mem_univ _, ?_⟩
    funext a; fin_cases a; exact Fin.ext (hd _)
  · intro i hi
    have hj : h.drop i = j := (Finset.mem_filter.mp hi).2
    have h2 : (j 0).val = (i 2).val := by rw [← hj]; exact hd i
    funext a; fin_cases a
    · rfl
    · rfl
    · exact Fin.ext h2
  · intro p _; rfl
  · intro i hi
    have hj : h.drop i = j := (Finset.mem_filter.mp hi).2
    have h2 : (j 0).val = (i 2).val := by rw [← hj]; exact hd i
    congr 1
    funext a; fin_cases a
    · rfl
    · rfl
    · exact Fin.ext h2.symm

/-- The shift's gradient: the sum over a sequence's tokens. -/
theorem r0 (j : S2x1024.Idx) : val_main_v110 (F := Ideal) x0 x1 x2 x3 x4 x5 x6 j
    = ∑ s : Fin 4096, (tok x0 x1 x2 x3 x4 x5 x6 (j 0) s).dh2 (j 1) := by
  have e : idx_main_v109 (idx_main_v110 j 0) = j := by
    have h1 : (j 1).val < 1024 := (j 1).isLt
    funext a; fin_cases a <;> apply Fin.ext <;> simp <;> omega
  simp only [val_main_v110_apply, val_main_cst_28_apply, val_main_v109_apply, val_main_v108_apply, val_main_cst_27_apply, v107, Ideal.mulf_def, Ideal.ofBits_def, ofBits_zero, zero_add]
  rw [Fin.sum_univ_one, e]
  rfl
/-- The scale's gradient. -/
theorem r1 (j : S2x1024.Idx) : val_main_v116 (F := Ideal) x0 x1 x2 x3 x4 x5 x6 j
    = ∑ s : Fin 4096, (tok x0 x1 x2 x3 x4 x5 x6 (j 0) s).dh2 (j 1) * (tok x0 x1 x2 x3 x4 x5 x6 (j 0) s).xn2 (j 1) := by
  have e : idx_main_v113 (idx_main_v116 j 0) = j := by
    have h1 : (j 1).val < 1024 := (j 1).isLt
    funext a; fin_cases a <;> apply Fin.ext <;> simp <;> omega
  simp only [val_main_v116_apply, val_main_cst_30_apply, val_main_v113_apply, val_main_v112_apply, val_main_cst_29_apply, val_main_v111_apply, v22 x0 x1 x2 x3 x4 x5 x6, v107, Ideal.mulf_def, Ideal.ofBits_def, ofBits_zero, zero_add]
  rw [Fin.sum_univ_one, e]
  exact Finset.sum_congr rfl fun s _ => mul_comm _ _
/-- The channel gate's gradient. -/
theorem r2 (j : S2x1024.Idx) : val_main_v102 (F := Ideal) x0 x1 x2 x3 x4 x5 x6 j
    = ∑ s : Fin 4096, (tok x0 x1 x2 x3 x4 x5 x6 (j 0) s).dx2 (j 1) * (tok x0 x1 x2 x3 x4 x5 x6 (j 0) s).y2 (j 1) := by
  have e : idx_main_v101 (idx_main_v102 j 0) = j := by
    have h1 : (j 1).val < 1024 := (j 1).isLt
    funext a; fin_cases a <;> apply Fin.ext <;> simp <;> omega
  simp only [val_main_v102_apply, val_main_cst_25_apply, val_main_v101_apply, val_main_v100_apply, val_main_cst_24_apply, val_main_v99_apply, v96, v41 x0 x1 x2 x3 x4 x5 x6, Ideal.mulf_def, Ideal.ofBits_def, ofBits_zero, zero_add]
  rw [Fin.sum_univ_one, e]
  rfl
/-- The token mixer's gate's gradient. -/
theorem r3 (j : S2x1024.Idx) : val_main_v137 (F := Ideal) x0 x1 x2 x3 x4 x5 x6 j
    = ∑ s : Fin 4096, (tok x0 x1 x2 x3 x4 x5 x6 (j 0) s).dx1 (j 1) * (tok x0 x1 x2 x3 x4 x5 x6 (j 0) s).y (j 1) := by
  have e : idx_main_v136 (idx_main_v137 j 0) = j := by
    have h1 : (j 1).val < 1024 := (j 1).isLt
    funext a; fin_cases a <;> apply Fin.ext <;> simp <;> omega
  simp only [val_main_v137_apply, val_main_cst_35_apply, val_main_v136_apply, val_main_v135_apply, val_main_cst_34_apply, val_main_v134_apply, v131, Ideal.mulf_def, Ideal.ofBits_def, ofBits_zero, zero_add]
  rw [Fin.sum_univ_one, e]
  refine Finset.sum_congr rfl fun s _ => congrArg₂ (· * ·) rfl ?_
  unfold tok; blk_ext
/-- The host's sum at the ideal values. -/
theorem hostReduceAdd_eq {s t u : Shape} {axes : List (Fin s.rank)} (x : FVec Ideal s .f32) (init : FVec Ideal u .f32) (h : s.ReducesTo axes t) (hu) (j : t.Idx) :
    Host.reduceAdd x init h hu j = Ideal.hostReduceAdd h x (init (Shape.Idx.first hu)) j := rfl
/-- The gradient rows of the modulation: rows 0 to 3 are sums over the tokens of a sequence, the others zero. -/
theorem v144 (i) : val_main_v144 (F := Ideal) x0 x1 x2 x3 x4 x5 x6 i
    = ∑ s : Fin 4096, (tok x0 x1 x2 x3 x4 x5 x6 (i 0) s).dmod (i 1) (i 2) := by
  unfold val_main_v144 val_main_v142
  pointwise
  unfold Tok.dmod
  split
  · split
    · rename_i h h1
      have h0 : (i 1).val = 0 := by omega
      rw [val_main_v138_apply, r0]; simp only [h0, if_true]; rfl
    · split
      · rename_i h h1 h2
        have h0 : (i 1).val = 1 := by omega
        rw [val_main_v139_apply, r1]; simp only [h0, one_ne_zero, if_false, if_true]; rfl
      · split
        · rename_i h h1 h2 h3
          have h0 : (i 1).val = 2 := by omega
          rw [val_main_v140_apply, r2]; simp only [h0, OfNat.ofNat_ne_zero, OfNat.ofNat_ne_one, if_false, if_true]; rfl
        · rename_i h h1 h2 h3
          have h0 : (i 1).val = 3 := by omega
          rw [val_main_v141_apply, r3]; simp only [h0, OfNat.ofNat_ne_zero, OfNat.ofNat_ne_one, (by decide : ¬ (3 = 2)), if_false, if_true]; rfl
  · rename_i h
    rw [val_main_v143_apply, val_main_cst_36_apply, Ideal.ofBits_def, ofBits_zero]
    refine (Finset.sum_eq_zero fun s _ => ?_).symm
    rw [if_neg (by omega), if_neg (by omega), if_neg (by omega), if_neg (by omega)]
/-- A sum over two axes of length one, read at a channel. -/
theorem sum_unit (h : S1x1x1024.ReducesTo [0, 1] S1024) (x : S1x1x1024.Idx → EReal) (init : EReal) (j : S1024.Idx)
    (k : S1x1x1024.Idx) (hk : (k 2).val = (j 0).val) : Ideal.hostReduceAdd h x init j = init + x k := by
  unfold Ideal.hostReduceAdd
  congr 1
  refine Finset.sum_eq_single k ?_ ?_
  · intro i hi hne
    refine absurd ?_ hne
    have hj : h.drop i = j := (Finset.mem_filter.mp hi).2
    have h2 : (j 0).val = (i 2).val := by rw [← hj]; rfl
    funext a; fin_cases a
    · exact Subsingleton.elim (α := Fin 1) _ _
    · exact Subsingleton.elim (α := Fin 1) _ _
    · exact Fin.ext (h2.symm.trans hk.symm)
  · intro h'
    refine (h' (Finset.mem_filter.mpr ⟨Finset.mem_univ _, ?_⟩)).elim
    funext a; fin_cases a; exact Fin.ext hk
/-- The final gain's gradient: the sum over all the tokens. -/
theorem g0 (j : S1024.Idx) : val_main_v82 (F := Ideal) x0 x1 x2 x3 x4 x5 x6 j
    = ∑ b : Fin 2, ∑ s : Fin 4096, (tok x0 x1 x2 x3 x4 x5 x6 b s).dout (j 0) * (tok x0 x1 x2 x3 x4 x5 x6 b s).xn3 (j 0) := by
  unfold val_main_v82
  rw [hostReduceAdd_eq, sum_unit _ _ _ _ (ix3 0 0 (j 0)) rfl, val_main_v79_apply]
  unfold val_main_v78
  rw [hostReduceAdd_eq, sum_tokens]
  simp only [val_main_v77_apply, val_main_cst_19_apply, val_main_cst_20_apply, v58 x0 x1 x2 x3 x4 x5 x6, v76, Ideal.mulf_def, Ideal.ofBits_def, ofBits_zero, zero_add]
  refine Finset.sum_congr rfl fun b _ => Finset.sum_congr rfl fun s _ => (mul_comm _ _).trans ?_
  have e : idx_main_v79 (ix3 0 0 (j 0)) = j := by
    have h1 : (j 0).val < 1024 := (j 0).isLt
    funext a; fin_cases a; apply Fin.ext; simp
  rw [e]
  rfl
/-- The squared errors: the sum over all the tokens. -/
theorem g1 (j : S1024.Idx) : val_main_v147 (F := Ideal) x0 x1 x2 x3 x4 x5 x6 j
    = ∑ b : Fin 2, ∑ s : Fin 4096, (tok x0 x1 x2 x3 x4 x5 x6 b s).diff (j 0) * (tok x0 x1 x2 x3 x4 x5 x6 b s).diff (j 0) := by
  unfold val_main_v147
  rw [hostReduceAdd_eq, sum_tokens]
  simp only [val_main_v146_apply, val_main_cst_37_apply, v145, Ideal.mulf_def, Ideal.ofBits_def, ofBits_zero, zero_add]
  rfl
/-- The final gain's gradient and the squared errors: sums over all the tokens. -/
theorem v152 (i) : val_main_v152 (F := Ideal) x0 x1 x2 x3 x4 x5 x6 i
    = ∑ b : Fin 2, ∑ s : Fin 4096, (tok x0 x1 x2 x3 x4 x5 x6 b s).head (i 0) (i 1) := by
  unfold val_main_v152 val_main_v150
  pointwise
  unfold Tok.head
  split
  · split
    · rename_i h h1
      have h0 : (i 0).val = 0 := by omega
      rw [val_main_v148_apply, g0]; simp only [h0, if_true]; rfl
    · rename_i h h1
      have h0 : (i 0).val = 1 := by omega
      rw [val_main_v149_apply, g1]; simp only [h0, one_ne_zero, if_false, if_true]; rfl
  · rename_i h
    rw [val_main_v151_apply, val_main_cst_38_apply, Ideal.ofBits_def, ofBits_zero]
    refine (Finset.sum_eq_zero fun b _ => Finset.sum_eq_zero fun s _ => ?_).symm
    rw [if_neg (by omega), if_neg (by omega)]
/-- The stored rows in the storage format. -/
theorem v153 (i) : val_main_v153 (F := Ideal) x0 x1 x2 i = (tok x0 x1 x2 x3 x4 x5 x6 (i 0) (i 1)).h2 (i 2) := by
  rw [val_main_v153_apply, v30 x0 x1 x2 x3 x4 x5 x6]; rfl

/-- The reference's array of the gradient of the second branch's output, at a token's channel. -/
theorem v154 (i) : val_main_v154 (F := Ideal) x0 x1 x2 x3 x4 x5 x6 i = (tok x0 x1 x2 x3 x4 x5 x6 (i 0) (i 1)).dy2 (i 2) := by
  rw [val_main_v154_apply, v98 x0 x1 x2 x3 x4 x5 x6]; rfl

/-- The reference's array of the first matrix product before its gate, at a token's channel. -/
theorem v155 (i) : val_main_v155 (F := Ideal) x0 x1 x2 x3 i = (tok x0 x1 x2 x3 x4 x5 x6 (i 0) (i 1)).u (i 2) := by
  rw [val_main_v155_apply, v37 x0 x1 x2 x3 x4 x5 x6]; rfl

/-- The reference's array of the gradient of that product, at a token's channel. -/
theorem v156 (i) : val_main_v156 (F := Ideal) x0 x1 x2 x3 x4 x5 x6 i = (tok x0 x1 x2 x3 x4 x5 x6 (i 0) (i 1)).dz (i 2) := by
  rw [val_main_v156_apply, v106 x0 x1 x2 x3 x4 x5 x6]; rfl

/-- The reference's array of the gradient of the first branch's output, at a token's channel. -/
theorem v157 (i) : val_main_v157 (F := Ideal) x0 x1 x2 x3 x4 x5 x6 i = (tok x0 x1 x2 x3 x4 x5 x6 (i 0) (i 1)).dy1 (i 2) := by
  rw [val_main_v157_apply, v133 x0 x1 x2 x3 x4 x5 x6]; rfl

end Cert.RefRead

end
-- ==== Proof.Arrays.lean ====
module

public import proofs.«01_k».proof.Proof.Outs
public import proofs.«01_k».proof.Proof.RefRead
public import proofs.«01_k».proof.Proof.Gen.KernelIdeal.Value
public import Idealize.ShloMosaic.Lib.Claim

/-
  The result arrays. The blocks a grid point is handed hold 256 tokens of one sequence; what it leaves in each result's block,
  written back at the tile's place, makes the six token arrays the arithmetic of each token, and the two accumulators the
  sums over the tokens.
-/

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen Cert.RowMath Cert.Words

namespace Cert.Arrays

variable (m : (ℓ : Loc nD τ sig) → Buf (Elt Ideal) ℓ)

/-- The token at position `s` of sequence `b`, read off the arguments' arrays. -/
def tk (c : Dev nD) (b : Fin 2) (s : Fin 4096) : Tok :=
  RefRead.tok (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) b s

/-- The grid has 32 points. -/
theorem N32 (t : Fin cfg0.N) : t.val < 32 := t.isLt

/-- The token at row `p` of the tile of grid point `t`. -/
def T (c : Dev nD) (t : Fin cfg0.N) (p : Fin 256) : Tok :=
  tk m c ⟨t.val / 16, by have := N32 t; omega⟩ ⟨t.val % 16 * 256 + p.val, by omega⟩

/-- Where window 0's block lies. -/
theorem idx0 : ∀ t : Fin cfg0.N, win0_0.index t = ![t.val / 16, t.val % 16, 0] := (by decide +kernel : ∀ t : Fin grid0.N, _)

/-- Where window 1's block lies. -/
theorem idx1 : ∀ t : Fin cfg0.N, win0_1.index t = ![t.val / 16, t.val % 16, 0] := (by decide +kernel : ∀ t : Fin grid0.N, _)

/-- Where window 2's block lies. -/
theorem idx2 : ∀ t : Fin cfg0.N, win0_2.index t = ![t.val / 16, t.val % 16, 0] := (by decide +kernel : ∀ t : Fin grid0.N, _)

/-- Where window 7's block lies. -/
theorem idx7 : ∀ t : Fin cfg0.N, win0_7.index t = ![t.val / 16, t.val % 16, 0] := (by decide +kernel : ∀ t : Fin grid0.N, _)

/-- Where window 8's block lies. -/
theorem idx8 : ∀ t : Fin cfg0.N, win0_8.index t = ![t.val / 16, t.val % 16, 0] := (by decide +kernel : ∀ t : Fin grid0.N, _)

/-- Where window 9's block lies. -/
theorem idx9 : ∀ t : Fin cfg0.N, win0_9.index t = ![t.val / 16, t.val % 16, 0] := (by decide +kernel : ∀ t : Fin grid0.N, _)

/-- Where window 10's block lies. -/
theorem idx10 : ∀ t : Fin cfg0.N, win0_10.index t = ![t.val / 16, t.val % 16, 0] := (by decide +kernel : ∀ t : Fin grid0.N, _)

/-- Where window 11's block lies. -/
theorem idx11 : ∀ t : Fin cfg0.N, win0_11.index t = ![t.val / 16, t.val % 16, 0] := (by decide +kernel : ∀ t : Fin grid0.N, _)

/-- Where window 14's block lies. -/
theorem idx14 : ∀ t : Fin cfg0.N, win0_14.index t = ![t.val / 16, t.val % 16, 0] := (by decide +kernel : ∀ t : Fin grid0.N, _)

/-- Where window 3's block lies. -/
theorem idx3 : ∀ t : Fin cfg0.N, win0_3.index t = ![t.val / 16, 0, 0] := (by decide +kernel : ∀ t : Fin grid0.N, _)

/-- Where window 12's block lies. -/
theorem idx12 : ∀ t : Fin cfg0.N, win0_12.index t = ![t.val / 16, 0, 0] := (by decide +kernel : ∀ t : Fin grid0.N, _)

/-- Where window 4's block lies. -/
theorem idx4 : ∀ t : Fin cfg0.N, win0_4.index t = ![0, 0, 0] := (by decide +kernel : ∀ t : Fin grid0.N, _)

/-- Where window 5's block lies. -/
theorem idx5 : ∀ t : Fin cfg0.N, win0_5.index t = ![0, 0, 0] := (by decide +kernel : ∀ t : Fin grid0.N, _)

/-- Where window 6's block lies. -/
theorem idx6 : ∀ t : Fin cfg0.N, win0_6.index t = ![0, 0] := (by decide +kernel : ∀ t : Fin grid0.N, _)

/-- Where window 13's block lies. -/
theorem idx13 : ∀ t : Fin cfg0.N, win0_13.index t = ![0, 0] := (by decide +kernel : ∀ t : Fin grid0.N, _)

/-- The tile of the stream. -/
theorem hx (c : Dev nD) (t : Fin cfg0.N) (p : Fin 256) (d : Fin 1024) :
    iblk m c 0 t (ix3 0 p d) = (T m c t p).x d := by
  unfold T tk RefRead.tok
  dsimp only
  blk_ext [iblk, V, idx0 t]

/-- The tile of the mixer's output. -/
theorem hy (c : Dev nD) (t : Fin cfg0.N) (p : Fin 256) (d : Fin 1024) :
    iblk m c 1 t (ix3 0 p d) = (T m c t p).y d := by
  unfold T tk RefRead.tok
  dsimp only
  blk_ext [iblk, V, idx1 t]

/-- The tile of the targets. -/
theorem ht (c : Dev nD) (t : Fin cfg0.N) (p : Fin 256) (d : Fin 1024) :
    iblk m c 2 t (ix3 0 p d) = (T m c t p).t d := by
  unfold T tk RefRead.tok
  dsimp only
  blk_ext [iblk, V, idx2 t]

/-- The sequence's modulation rows. -/
theorem hm (c : Dev nD) (t : Fin cfg0.N) (p : Fin 256) (r : Fin 6) (d : Fin 1024) :
    iblk m c 3 t (ix3 0 r d) = (T m c t p).m r d := by
  unfold T tk RefRead.tok
  dsimp only
  blk_simp [iblk]
  entry_read
  pointwise
  blk_ext [idx3 t]

/-- The first weight, transposed and cut into eight blocks. -/
theorem hw1 (c : Dev nD) (t : Fin cfg0.N) (p : Fin 256) (k : Fin 8) (j : Fin 512) (d : Fin 1024) :
    iblk m c 4 t (ix3 k j d) = (T m c t p).w1 (Body.col k j) d := by
  unfold T tk RefRead.tok
  dsimp only
  blk_simp [iblk]
  entry_read
  pointwise
  blk_ext [idx4 t]
  simp only [Body.col]
  omega

/-- The second weight, cut into eight blocks. -/
theorem hw2 (c : Dev nD) (t : Fin cfg0.N) (p : Fin 256) (k : Fin 8) (j : Fin 512) (d : Fin 1024) :
    iblk m c 5 t (ix3 k j d) = (T m c t p).w2 (Body.col k j) d := by
  unfold T tk RefRead.tok
  dsimp only
  blk_simp [iblk]
  entry_read
  pointwise
  blk_ext [idx5 t]
  simp only [Body.col]
  omega

/-- The last norm's gain. -/
theorem hg (c : Dev nD) (t : Fin cfg0.N) (p : Fin 256) (d : Fin 1024) :
    iblk m c 6 t (ix2 0 d) = (T m c t p).g d := by
  unfold T tk RefRead.tok
  dsimp only
  blk_simp [iblk]
  entry_read
  pointwise
  blk_ext [idx6 t]

/-- Equal coordinates give equal entries of a token. -/
theorem same {n : ℕ} (c : Dev nD) (f : Tok → Fin n → EReal) {b b' : Fin 2} {s s' : Fin 4096} {d d' : Fin n} (hb : b.val = b'.val)
    (hs : s.val = s'.val) (hd : d.val = d'.val) : f (tk m c b s) d = f (tk m c b' s') d' := by
  obtain rfl := Fin.ext hb
  obtain rfl := Fin.ext hs
  obtain rfl := Fin.ext hd
  rfl

/-- The same with a row. -/
theorem same' {n : ℕ} (c : Dev nD) (f : Tok → Fin 8 → Fin n → EReal) {b b' : Fin 2} {s s' : Fin 4096} {r r' : Fin 8} {d d' : Fin n}
    (hb : b.val = b'.val) (hs : s.val = s'.val) (hr : r.val = r'.val) (hd : d.val = d'.val) :
    f (tk m c b s) r d = f (tk m c b' s') r' d' := by
  obtain rfl := Fin.ext hb
  obtain rfl := Fin.ext hs
  obtain rfl := Fin.ext hr
  obtain rfl := Fin.ext hd
  rfl

/-- The blocks of grid point `t` hold its tile's tokens. -/
theorem ok (c : Dev nD) (t : Fin cfg0.N) :
    Ok (T m c t) (iblk m c 0 t) (iblk m c 1 t) (iblk m c 2 t) (iblk m c 3 t) (iblk m c 4 t) (iblk m c 5 t) (iblk m c 6 t) :=
  ⟨hx m c t, hy m c t, ht m c t, hm m c t, hw1 m c t, hw2 m c t, hg m c t⟩

/-- What any grid point leaves in the block of the gradient of the MLP half's input. -/
theorem at7 (c : Dev nD) (t : Fin cfg0.N) (p : Fin 256) (d : Fin 1024) :
    (outsAt0 m c t.val t.isLt).1 (ix3 0 p d) = (T m c t p).dx1 d := by
  by_cases h1 : t.val % 16 = 0
  · by_cases h0 : t.val % 32 = 0
    · simp only [outsAt0_A m c t h0 h1]
      exact Outs.out_A_7 (ok m c t) p d
    · simp only [outsAt0_C m c t h0 h1]
      exact Outs.out_C_7 (ok m c t) p d
  · simp only [outsAt0_B m c t (by omega) h1]
    exact Outs.out_B_7 (ok m c t) p d

/-- The array of the gradient of the MLP half's input. -/
theorem arr7 (c : Dev nD) : (dats m 0 c).arrAt 7 cfg0.N = fun i => (tk m c (i 0) (i 1)).dx1 (i 2) := by
  refine (dats m 0 c).arrAt_eq_of_covers 7 _ (by decide +kernel) fun t hf y => ?_
  obtain ⟨a, p, d, rfl⟩ : ∃ (a : Fin 1) (p : Fin 256) (d : Fin 1024), y = ix3 a p d := ⟨y 0, y 1, y 2, by funext i; fin_cases i <;> rfl⟩
  obtain rfl : a = 0 := Subsingleton.elim _ _
  blk_simp
  rw [after0_7]
  refine (at7 m c t p d).trans ?_
  refine same m c Tok.dx1 ?_ ?_ ?_
  all_goals (blk_simp [idx7 t]; try first | rfl | omega)

/-- What any grid point leaves in the block of the modulated norm. -/
theorem at8 (c : Dev nD) (t : Fin cfg0.N) (p : Fin 256) (d : Fin 1024) :
    (outsAt0 m c t.val t.isLt).2.1 (ix3 0 p d) = (T m c t p).h2 d := by
  by_cases h1 : t.val % 16 = 0
  · by_cases h0 : t.val % 32 = 0
    · simp only [outsAt0_A m c t h0 h1]
      exact Outs.out_A_8 (ok m c t) p d
    · simp only [outsAt0_C m c t h0 h1]
      exact Outs.out_C_8 (ok m c t) p d
  · simp only [outsAt0_B m c t (by omega) h1]
    exact Outs.out_B_8 (ok m c t) p d

/-- The array of the modulated norm. -/
theorem arr8 (c : Dev nD) : (dats m 0 c).arrAt 8 cfg0.N = fun i => (tk m c (i 0) (i 1)).h2 (i 2) := by
  refine (dats m 0 c).arrAt_eq_of_covers 8 _ (by decide +kernel) fun t hf y => ?_
  obtain ⟨a, p, d, rfl⟩ : ∃ (a : Fin 1) (p : Fin 256) (d : Fin 1024), y = ix3 a p d := ⟨y 0, y 1, y 2, by funext i; fin_cases i <;> rfl⟩
  obtain rfl : a = 0 := Subsingleton.elim _ _
  blk_simp
  rw [after0_8]
  refine (at8 m c t p d).trans ?_
  refine same m c Tok.h2 ?_ ?_ ?_
  all_goals (blk_simp [idx8 t]; try first | rfl | omega)

/-- What any grid point leaves in the block of the gradient of the second product. -/
theorem at9 (c : Dev nD) (t : Fin cfg0.N) (p : Fin 256) (d : Fin 1024) :
    (outsAt0 m c t.val t.isLt).2.2.1 (ix3 0 p d) = (T m c t p).dy2 d := by
  by_cases h1 : t.val % 16 = 0
  · by_cases h0 : t.val % 32 = 0
    · simp only [outsAt0_A m c t h0 h1]
      exact Outs.out_A_9 (ok m c t) p d
    · simp only [outsAt0_C m c t h0 h1]
      exact Outs.out_C_9 (ok m c t) p d
  · simp only [outsAt0_B m c t (by omega) h1]
    exact Outs.out_B_9 (ok m c t) p d

/-- The array of the gradient of the second product. -/
theorem arr9 (c : Dev nD) : (dats m 0 c).arrAt 9 cfg0.N = fun i => (tk m c (i 0) (i 1)).dy2 (i 2) := by
  refine (dats m 0 c).arrAt_eq_of_covers 9 _ (by decide +kernel) fun t hf y => ?_
  obtain ⟨a, p, d, rfl⟩ : ∃ (a : Fin 1) (p : Fin 256) (d : Fin 1024), y = ix3 a p d := ⟨y 0, y 1, y 2, by funext i; fin_cases i <;> rfl⟩
  obtain rfl : a = 0 := Subsingleton.elim _ _
  blk_simp
  rw [after0_9]
  refine (at9 m c t p d).trans ?_
  refine same m c Tok.dy2 ?_ ?_ ?_
  all_goals (blk_simp [idx9 t]; try first | rfl | omega)

/-- What any grid point leaves in the block of the squared hidden layer. -/
theorem at10 (c : Dev nD) (t : Fin cfg0.N) (p : Fin 256) (d : Fin 4096) :
    (outsAt0 m c t.val t.isLt).2.2.2.1 (ix3 0 p d) = (T m c t p).u d := by
  by_cases h1 : t.val % 16 = 0
  · by_cases h0 : t.val % 32 = 0
    · simp only [outsAt0_A m c t h0 h1]
      exact Outs.out_A_10 (ok m c t) p d
    · simp only [outsAt0_C m c t h0 h1]
      exact Outs.out_C_10 (ok m c t) p d
  · simp only [outsAt0_B m c t (by omega) h1]
    exact Outs.out_B_10 (ok m c t) p d

/-- The array of the squared hidden layer. -/
theorem arr10 (c : Dev nD) : (dats m 0 c).arrAt 10 cfg0.N = fun i => (tk m c (i 0) (i 1)).u (i 2) := by
  refine (dats m 0 c).arrAt_eq_of_covers 10 _ (by decide +kernel) fun t hf y => ?_
  obtain ⟨a, p, d, rfl⟩ : ∃ (a : Fin 1) (p : Fin 256) (d : Fin 4096), y = ix3 a p d := ⟨y 0, y 1, y 2, by funext i; fin_cases i <;> rfl⟩
  obtain rfl : a = 0 := Subsingleton.elim _ _
  blk_simp
  rw [after0_10]
  refine (at10 m c t p d).trans ?_
  refine same m c Tok.u ?_ ?_ ?_
  all_goals (blk_simp [idx10 t]; try first | rfl | omega)

/-- What any grid point leaves in the block of the gradient of the hidden layer. -/
theorem at11 (c : Dev nD) (t : Fin cfg0.N) (p : Fin 256) (d : Fin 4096) :
    (outsAt0 m c t.val t.isLt).2.2.2.2.1 (ix3 0 p d) = (T m c t p).dz d := by
  by_cases h1 : t.val % 16 = 0
  · by_cases h0 : t.val % 32 = 0
    · simp only [outsAt0_A m c t h0 h1]
      exact Outs.out_A_11 (ok m c t) p d
    · simp only [outsAt0_C m c t h0 h1]
      exact Outs.out_C_11 (ok m c t) p d
  · simp only [outsAt0_B m c t (by omega) h1]
    exact Outs.out_B_11 (ok m c t) p d

/-- The array of the gradient of the hidden layer. -/
theorem arr11 (c : Dev nD) : (dats m 0 c).arrAt 11 cfg0.N = fun i => (tk m c (i 0) (i 1)).dz (i 2) := by
  refine (dats m 0 c).arrAt_eq_of_covers 11 _ (by decide +kernel) fun t hf y => ?_
  obtain ⟨a, p, d, rfl⟩ : ∃ (a : Fin 1) (p : Fin 256) (d : Fin 4096), y = ix3 a p d := ⟨y 0, y 1, y 2, by funext i; fin_cases i <;> rfl⟩
  obtain rfl : a = 0 := Subsingleton.elim _ _
  blk_simp
  rw [after0_11]
  refine (at11 m c t p d).trans ?_
  refine same m c Tok.dz ?_ ?_ ?_
  all_goals (blk_simp [idx11 t]; try first | rfl | omega)

/-- What any grid point leaves in the block of the gradient of the mixer's output. -/
theorem at14 (c : Dev nD) (t : Fin cfg0.N) (p : Fin 256) (d : Fin 1024) :
    (outsAt0 m c t.val t.isLt).2.2.2.2.2.2.2 (ix3 0 p d) = (T m c t p).dy1 d := by
  by_cases h1 : t.val % 16 = 0
  · by_cases h0 : t.val % 32 = 0
    · simp only [outsAt0_A m c t h0 h1]
      exact Outs.out_A_14 (ok m c t) p d
    · simp only [outsAt0_C m c t h0 h1]
      exact Outs.out_C_14 (ok m c t) p d
  · simp only [outsAt0_B m c t (by omega) h1]
    exact Outs.out_B_14 (ok m c t) p d

/-- The array of the gradient of the mixer's output. -/
theorem arr14 (c : Dev nD) : (dats m 0 c).arrAt 14 cfg0.N = fun i => (tk m c (i 0) (i 1)).dy1 (i 2) := by
  refine (dats m 0 c).arrAt_eq_of_covers 14 _ (by decide +kernel) fun t hf y => ?_
  obtain ⟨a, p, d, rfl⟩ : ∃ (a : Fin 1) (p : Fin 256) (d : Fin 1024), y = ix3 a p d := ⟨y 0, y 1, y 2, by funext i; fin_cases i <;> rfl⟩
  obtain rfl : a = 0 := Subsingleton.elim _ _
  blk_simp
  rw [after0_14]
  refine (at14 m c t p d).trans ?_
  refine same m c Tok.dy1 ?_ ?_ ?_
  all_goals (blk_simp [idx14 t]; try first | rfl | omega)

/-- Where the modulation rows' gradient is cleared, its block is the tile's sums. -/
theorem first12 (c : Dev nD) (t : Fin cfg0.N) (h : t.val % 16 = 0) (r : Fin 8) (d : Fin 1024) :
    (outsAt0 m c t.val t.isLt).2.2.2.2.2.1 (ix3 0 r d) = ∑ p, (T m c t p).dmod r d := by
  by_cases h0 : t.val % 32 = 0
  · simp only [outsAt0_A m c t h0 h]
    exact Outs.out_A_12 (ok m c t) r d
  · simp only [outsAt0_C m c t h0 h]
    exact Outs.out_C_12 (ok m c t) r d

/-- Elsewhere the tile's sums are added to what the point before left. -/
theorem next12 (c : Dev nD) (t : Fin cfg0.N) (h : ¬t.val % 16 = 0) (r : Fin 8) (d : Fin 1024) :
    (outsAt0 m c t.val t.isLt).2.2.2.2.2.1 (ix3 0 r d)
      = (outsAt0 m c (t.val - 1) (Nat.lt_of_le_of_lt (Nat.sub_le _ _) t.isLt)).2.2.2.2.2.1 (ix3 0 r d) + ∑ p, (T m c t p).dmod r d := by
  simp only [outsAt0_B m c t (by omega) h]
  exact Outs.out_B_12 (ok m c t) r d

/-- Where the head is cleared, its block is the tile's sums. -/
theorem first13 (c : Dev nD) (t : Fin cfg0.N) (h : t.val % 32 = 0) (r : Fin 8) (d : Fin 1024) :
    (outsAt0 m c t.val t.isLt).2.2.2.2.2.2.1 (ix2 r d) = ∑ p, (T m c t p).head r d := by
  simp only [outsAt0_A m c t h (by omega)]
  exact Outs.out_A_13 (ok m c t) r d

/-- Elsewhere the tile's sums are added to what the point before left. -/
theorem next13 (c : Dev nD) (t : Fin cfg0.N) (h : ¬t.val % 32 = 0) (r : Fin 8) (d : Fin 1024) :
    (outsAt0 m c t.val t.isLt).2.2.2.2.2.2.1 (ix2 r d)
      = (outsAt0 m c (t.val - 1) (Nat.lt_of_le_of_lt (Nat.sub_le _ _) t.isLt)).2.2.2.2.2.2.1 (ix2 r d) + ∑ p, (T m c t p).head r d := by
  by_cases h1 : t.val % 16 = 0
  · simp only [outsAt0_C m c t h h1]
    exact Outs.out_C_13 (ok m c t) r d
  · simp only [outsAt0_B m c t h h1]
    exact Outs.out_B_13 (ok m c t) r d

/-- The array of the modulation rows' gradient: each row the sum over its sequence's tokens. -/
theorem arr12 (c : Dev nD) : (dats m 0 c).arrAt 12 cfg0.N = fun i => ∑ s : Fin 4096, (tk m c (i 0) s).dmod (i 1) (i 2) := by
  refine (dats m 0 c).arrAt_eq_of_covers 12 _ (by decide +kernel) fun t hf y => ?_
  have ht := (flush0_12 t).mp hf
  obtain ⟨a, r, d, rfl⟩ : ∃ (a : Fin 1) (r : Fin 8) (d : Fin 1024), y = ix3 a r d := ⟨y 0, y 1, y 2, by funext i; fin_cases i <;> rfl⟩
  obtain rfl : a = 0 := Subsingleton.elim _ _
  blk_simp
  rw [after0_12]
  refine (Pipeline.eq_sum_fin_of_reset_step_of_flush (fun n h => (outsAt0 m c n h).2.2.2.2.2.1 (ix3 0 r d)) 16 0
    (fun t => ∑ p, (T m c t p).dmod r d) (fun t h => (first12 m c t h r d).trans (zero_add _).symm) (fun t h => next12 m c t h r d) t ht).trans ?_
  rw [zero_add]
  refine Fin.sum_mul_add_congr fun s k hl => ?_
  have hs : s.val < 16 := s.isLt
  have hN := N32 t
  refine same' m c Tok.dmod ?_ ?_ ?_ ?_
  · blk_simp [idx12 t]
    show (16 * (t.val / 16) + s.val) / 16 = t.val / 16 + 0
    omega
  · show (16 * (t.val / 16) + s.val) % 16 * 256 + k.val = s.val * 256 + k.val
    omega
  all_goals (blk_simp [idx12 t]; try first | rfl | omega)

/-- The array of the head: each row the sum over all tokens. -/
theorem arr13 (c : Dev nD) : (dats m 0 c).arrAt 13 cfg0.N = fun i => ∑ b : Fin 2, ∑ s : Fin 4096, (tk m c b s).head (i 0) (i 1) := by
  refine (dats m 0 c).arrAt_eq_of_covers 13 _ (by decide +kernel) fun t hf y => ?_
  have ht := (flush0_13 t).mp hf
  obtain ⟨r, d, rfl⟩ : ∃ (r : Fin 8) (d : Fin 1024), y = ix2 r d := ⟨y 0, y 1, by funext i; fin_cases i <;> rfl⟩
  blk_simp
  rw [after0_13]
  refine (Pipeline.eq_sum_fin_of_reset_step_last (fun n h => (outsAt0 m c n h).2.2.2.2.2.2.1 (ix2 r d)) 32 0
    (fun t => ∑ p, (T m c t p).head r d) (fun t h => (first13 m c t h r d).trans (zero_add _).symm) (fun t h => next13 m c t h r d)
    (le_of_eq N_0) t (by have := N32 t; have := N_0; show t.val + 1 = 32; omega)).trans ?_
  rw [zero_add]
  refine Fin.sum_points_lanes_congr 16 fun s k ha hl => ?_
  refine same' m c Tok.head ?_ ?_ ?_ ?_
  all_goals (blk_simp [idx13 t]; try omega)

end Cert.Arrays

end

end
-- ==== Proof.TokenSum.lean ====
module

public import Idealize.ShloMosaic.Lib.Pipeline.ValueKit
public import Idealize.ShloMosaic.Lib.WholeRead

/-
  Sums over the 8192 tokens of a device, taken in four blocks of 2048 or sequence by sequence.
-/

@[expose] public section

open Idealize.ShloMosaic

namespace Cert.TokenSum

/-- The sequence of token `n`. -/
def seqOf (n : ℕ) : Fin 2 := ⟨n / 4096 % 2, Nat.mod_lt _ (by decide)⟩

/-- The position of token `n` in its sequence. -/
def posOf (n : ℕ) : Fin 4096 := ⟨n % 4096, Nat.mod_lt _ (by decide)⟩

/-- The sum over the first `k` blocks of 2048 tokens. -/
noncomputable def upto (f : Fin 2 → Fin 4096 → EReal) (k : ℕ) : EReal :=
  ∑ j ∈ Finset.range k, ∑ p : Fin 2048, f (seqOf (2048 * j + p.val)) (posOf (2048 * j + p.val))

/-- No block. -/
theorem upto_zero (f : Fin 2 → Fin 4096 → EReal) : upto f 0 = 0 := Finset.sum_range_zero _

/-- One more block. -/
theorem upto_succ (f : Fin 2 → Fin 4096 → EReal) (k : ℕ) :
    upto f (k + 1) = upto f k + ∑ p : Fin 2048, f (seqOf (2048 * k + p.val)) (posOf (2048 * k + p.val)) := Finset.sum_range_succ _ _

/-- Sums over consecutive blocks of equal width are one sum. -/
theorem blocks (g : ℕ → EReal) (w k : ℕ) : ∑ j ∈ Finset.range k, ∑ p ∈ Finset.range w, g (w * j + p) = ∑ n ∈ Finset.range (w * k), g n := by
  induction k with
  | zero => simp
  | succ k ih => rw [Finset.sum_range_succ, ih, Nat.mul_succ, Finset.sum_range_add]

/-- The four blocks make the two sequences. -/
theorem upto_four (f : Fin 2 → Fin 4096 → EReal) : upto f 4 = ∑ b : Fin 2, ∑ s : Fin 4096, f b s := by
  have h1 : upto f 4 = ∑ n ∈ Finset.range (2048 * 4), f (seqOf n) (posOf n) := by
    rw [← blocks (fun n => f (seqOf n) (posOf n)) 2048 4]
    exact Finset.sum_congr rfl fun j _ => Fin.sum_univ_eq_sum_range (fun p => f (seqOf (2048 * j + p)) (posOf (2048 * j + p))) 2048
  have h2 : (∑ b : Fin 2, ∑ s : Fin 4096, f b s) = ∑ n ∈ Finset.range (4096 * 2), f (seqOf n) (posOf n) := by
    rw [← blocks (fun n => f (seqOf n) (posOf n)) 4096 2, ← Fin.sum_univ_eq_sum_range (fun j => ∑ p ∈ Finset.range 4096, f (seqOf (4096 * j + p)) (posOf (4096 * j + p))) 2]
    refine Finset.sum_congr rfl fun b _ => ?_
    rw [← Fin.sum_univ_eq_sum_range (fun p => f (seqOf (4096 * b.val + p)) (posOf (4096 * b.val + p))) 4096]
    refine Finset.sum_congr rfl fun s _ => ?_
    rw [show seqOf (4096 * b.val + s.val) = b from Fin.ext (by simp only [seqOf]; omega), show posOf (4096 * b.val + s.val) = s from Fin.ext (by simp only [posOf]; omega)]
  rw [h1, h2]

/-- One store of the whole block, read back. -/
theorem stored {sig : RefSig} {κ : Kind} {sp : Space} {s : Shape} {e : EltTy} (v : View sig κ sp s e) {off : Fin s.rank → ℕ}
    (inb : ∀ a, off a + s.size a ≤ s.size a) (w : s.Idx → Elt Ideal e) (L : List (View.Piece (Elt Ideal) s e)) (h : ∀ a, off a = 0) :
    v.read (Elt Ideal) (v.writes (Elt Ideal) v.junk (⟨Rect.unit off s.size inb, w⟩ :: L)) = w := by
  rw [View.read_writes_junk_eq_canon, View.canon_cons_unit_lit inb w L h]

/-- A load of the whole block from what one whole store left. -/
theorem loaded {sig : RefSig} {κ : Kind} {sp : Space} {s : Shape} {e : EltTy} (v : View sig κ sp s e) {off : Fin s.rank → ℕ}
    (inb inb' : ∀ a, off a + s.size a ≤ s.size a) (w : s.Idx → Elt Ideal e) (h : ∀ a, off a = 0) :
    v.readCov [⟨Rect.unit off s.size inb, w⟩] (Rect.unit off s.size inb').toLoadRect = w := by
  obtain rfl : off = fun _ => 0 := funext h
  exact View.readCov_unit_zero (Val := Elt Ideal) _ rfl _ _

/-- A load of a whole array. -/
theorem whole {sig : RefSig} {κ : Kind} {sp : Space} {s : Shape} {e : EltTy} {arg : Memref sig κ sp s e} (ha : arg.IsWhole)
    {off : Fin s.rank → ℕ} (inb : ∀ a, off a + s.size a ≤ s.size a) (X : Vec Ideal s e) (h : ∀ a, off a = 0) :
    arg.view.readAt (Elt Ideal) (Rect.unit off s.size inb).toLoadRect (ha.unread X) = X := by
  funext y
  rw [Memref.IsWhole.readAt_unread]
  refine congrArg X ?_
  funext a
  apply Fin.ext
  simp [h a]

end Cert.TokenSum
-- ==== Proof.Wgrad2.lean ====
module

public import proofs.«01_k».proof.Proof.TokenSum
public import proofs.«01_k».proof.Proof.Gen.Kernel2Ideal.Value

/-
  The gradient of the mixer's output projection: over the four blocks of 2048 tokens, the scratch accumulates the
  products of the two arguments' columns; the last point writes the sum over all the tokens.
-/

@[expose] public section

set_option maxRecDepth 16384

noncomputable section

open Idealize.ShloMosaic Idealize.ShloMosaic.TcCoe Idealize.SL.Sem
open Idealize.ShloMosaic.Pipeline (Dat)
open Cert.Kernel2Ideal Cert.Kernel2Ideal.Gen Cert.TokenSum

namespace Cert.Wgrad2

/-- What a point that does not clear the scratch leaves in it. -/
theorem acc_B (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : ¬cond0_1 i)
    (x0 x1 : Vec Ideal S2048x1024 .bf16) (xs : Vec Ideal S1024x1024 .f32) :
    sout0_B_0 c i a3 h3 a4 h4 a5 h5 a6 h6 hc0 hc1 x0 x1 xs = k0_pay2 xs x0 x1 := by
  unfold sout0_B_0 kernelRun0_B
  dsimp only
  rw [stored _ _ _ _ (by decide)]
  rw [whole h6 _ _ (by decide), whole h3 _ _ (by decide), whole h4 _ _ (by decide)]

/-- The same where the point also writes the result's block. -/
theorem acc_C (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : cond0_1 i)
    (x0 x1 : Vec Ideal S2048x1024 .bf16) (xs : Vec Ideal S1024x1024 .f32) :
    sout0_C_0 c i a3 h3 a4 h4 a5 h5 a6 h6 hc0 hc1 x0 x1 xs = k0_pay2 xs x0 x1 := by
  unfold sout0_C_0 kernelRun0_C
  dsimp only
  sl_unfold_words
  rw [stored _ _ _ _ (by decide)]
  rw [whole h6 _ _ (by decide), whole h3 _ _ (by decide), whole h4 _ _ (by decide)]

/-- What a point that clears the scratch leaves in it. -/
theorem acc_A (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (hc0 : cond0_0 i) (hc1 : ¬cond0_1 i)
    (x0 x1 : Vec Ideal S2048x1024 .bf16) :
    sout0_A_0 c i a3 h3 a4 h4 a5 h5 a6 h6 hc0 hc1 x0 x1 = k0_pay2 (k0_pay1 (F := Ideal)) x0 x1 := by
  unfold sout0_A_0 kernelRun0_A
  dsimp only
  sl_unfold_words
  rw [stored _ _ _ _ (by decide)]
  rw [loaded _ _ _ _ (by decide), whole h3 _ _ (by decide), whole h4 _ _ (by decide)]

/-- What the last of the four points leaves in the result's block: the scratch, rounded. -/
theorem out_C (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : cond0_1 i)
    (x0 x1 : Vec Ideal S2048x1024 .bf16) (xs : Vec Ideal S1024x1024 .f32) :
    out0_C_2 c i a3 h3 a4 h4 a5 h5 a6 h6 hc0 hc1 x0 x1 xs = k0_pay3 (k0_pay2 xs x0 x1) := by
  unfold out0_C_2 kernelRun0_C
  dsimp only
  sl_unfold_words
  rw [stored _ _ _ _ (by decide)]
  rw [loaded _ _ _ _ (by decide), whole h6 _ _ (by decide), whole h3 _ _ (by decide), whole h4 _ _ (by decide)]

/-- The accumulation step at an entry. -/
theorem pay2_at (v3 : Vec Ideal S1024x1024 .f32) (v4 v6 : Vec Ideal S2048x1024 .bf16) (r d : Fin 1024) :
    k0_pay2 v3 v4 v6 (ix2 r d) = (v3 (ix2 r d) + ∑ p : Fin 2048, v4 (ix2 p r) * v6 (ix2 p d) : EReal) := by
  unfold k0_pay2
  pointwise

/-- The cleared scratch at an entry. -/
theorem pay1_at (r d : Fin 1024) : k0_pay1 (F := Ideal) (ix2 r d) = (0 : EReal) := by
  unfold k0_pay1
  pointwise

/-- The rounded block at an entry. -/
theorem pay3_at (v : Vec Ideal S1024x1024 .f32) (r d : Fin 1024) : k0_pay3 v (ix2 r d) = (v (ix2 r d) : EReal) := by
  unfold k0_pay3
  pointwise

variable (m : (ℓ : Loc nD τ sig) → Buf (Elt Ideal) ℓ)

/-- The grid has 4 points. -/
theorem N4 (t : Fin cfg0.N) : t.val < 4 := t.isLt

/-- Where window 0's block lies. -/
theorem idx0 : ∀ t : Fin cfg0.N, win0_0.index t = ![t.val, 0] := (by decide +kernel : ∀ t : Fin grid0.N, _)

/-- Where window 1's block lies. -/
theorem idx1 : ∀ t : Fin cfg0.N, win0_1.index t = ![t.val, 0] := (by decide +kernel : ∀ t : Fin grid0.N, _)

/-- Where window 2's block lies. -/
theorem idx2 : ∀ t : Fin cfg0.N, win0_2.index t = ![0, 0] := (by decide +kernel : ∀ t : Fin grid0.N, _)

/-- The first argument's block. -/
theorem blk0 (c : Dev nD) (t : Fin cfg0.N) (p : Fin 2048) (r : Fin 1024) :
    iblk m c 0 t (ix2 p r) = (m ((c : Thread nD τ).loc main_arg0) (ix3 (seqOf (2048 * (t.val % 4) + p.val)) (posOf (2048 * (t.val % 4) + p.val)) (r)) : EReal) := by
  blk_simp [iblk]
  entry_read
  pointwise
  blk_ext [idx0 t, seqOf, posOf]

/-- The second argument's block. -/
theorem blk1 (c : Dev nD) (t : Fin cfg0.N) (p : Fin 2048) (d : Fin 1024) :
    iblk m c 1 t (ix2 p d) = (m ((c : Thread nD τ).loc main_arg1) (ix3 (seqOf (2048 * (t.val % 4) + p.val)) (posOf (2048 * (t.val % 4) + p.val)) d) : EReal) := by
  blk_simp [iblk]
  entry_read
  pointwise
  blk_ext [idx1 t, seqOf, posOf]

/-- One token's product of a column of each of the two arrays. -/
def prod (A : S2x4096x1024.Idx → EReal) (B : S2x4096x1024.Idx → EReal) (r : Fin 1024) (d : Fin 1024) (b : Fin 2) (s : Fin 4096) : EReal :=
  A (ix3 b s r) * B (ix3 b s d)

/-- The same of the two arguments. -/
def term (c : Dev nD) : Fin 1024 → Fin 1024 → Fin 2 → Fin 4096 → EReal :=
  prod (m ((c : Thread nD τ).loc main_arg0)) (m ((c : Thread nD τ).loc main_arg1))

/-- A point that clears the scratch leaves its block's sum. -/
theorem scratch_first (c : Dev nD) (t : Fin cfg0.N) (h0 : t.val % 4 = 0) (r d : Fin 1024) :
    (outsAt0 m c t.val t.isLt).2 (ix2 r d) = upto (term m c r d) (t.val % 4 + 1) := by
  simp only [outsAt0_A m c t h0 (by omega)]
  rw [acc_A, pay2_at, pay1_at, upto_succ, h0, upto_zero]
  refine congrArg (fun z : EReal => 0 + z) (Finset.sum_congr rfl fun p _ => ?_)
  rw [blk0 m c t p r, blk1 m c t p d, h0]
  rfl

/-- Any other point adds its block's sum. -/
theorem scratch_next (c : Dev nD) (t : Fin cfg0.N) (h0 : ¬t.val % 4 = 0) (r d : Fin 1024)
    (ih : (outsAt0 m c (t.val - 1) (Nat.lt_of_le_of_lt (Nat.sub_le _ _) t.isLt)).2 (ix2 r d) = upto (term m c r d) (t.val % 4)) :
    (outsAt0 m c t.val t.isLt).2 (ix2 r d) = upto (term m c r d) (t.val % 4 + 1) := by
  have key : k0_pay2 (outsAt0 m c (t.val - 1) (Nat.lt_of_le_of_lt (Nat.sub_le _ _) t.isLt)).2 (iblk m c 0 t) (iblk m c 1 t) (ix2 r d)
      = upto (term m c r d) (t.val % 4 + 1) := by
    rw [pay2_at, ih, upto_succ]
    refine congrArg (fun z : EReal => upto (term m c r d) (t.val % 4) + z) (Finset.sum_congr rfl fun p _ => ?_)
    rw [blk0 m c t p r, blk1 m c t p d]
    rfl
  by_cases h1 : t.val % 4 = 3
  · simp only [outsAt0_C m c t h0 h1]
    rw [acc_C]
    exact key
  · simp only [outsAt0_B m c t h0 h1]
    rw [acc_B]
    exact key

/-- The scratch after each point: the sum over the blocks of tokens so far. -/
theorem scratch (c : Dev nD) : ∀ (n : ℕ) (h : n < cfg0.N) (r d : Fin 1024),
    (outsAt0 m c n h).2 (ix2 r d) = upto (term m c r d) (n % 4 + 1) := by
  intro n
  induction n with
  | zero => exact fun h r d => scratch_first m c ⟨0, h⟩ rfl r d
  | succ n ih =>
    intro h r d
    by_cases h0 : (n + 1) % 4 = 0
    · exact scratch_first m c ⟨n + 1, h⟩ h0 r d
    · refine scratch_next m c ⟨n + 1, h⟩ h0 r d ?_
      refine (ih (Nat.lt_of_succ_lt h) r d).trans ?_
      rw [show n % 4 + 1 = (n + 1) % 4 from by omega]

/-- The sum over all the tokens. -/
def total (c : Dev nD) (r : Fin 1024) (d : Fin 1024) : EReal := ∑ b : Fin 2, ∑ s : Fin 4096, term m c r d b s

/-- Equal coordinates give equal sums. -/
theorem total_same (c : Dev nD) {r r' : Fin 1024} {d d' : Fin 1024} (hr : r.val = r'.val) (hd : d.val = d'.val) :
    total m c r d = total m c r' d' := by
  obtain rfl := Fin.ext hr
  obtain rfl := Fin.ext hd
  rfl

/-- What the last point leaves in the result's block: the sum over all the tokens. -/
theorem last (c : Dev nD) (t : Fin cfg0.N) (h1 : t.val % 4 = 3) (r d : Fin 1024) :
    (outsAt0 m c t.val t.isLt).1 (ix2 r d) = total m c r d := by
  have e := scratch m c t.val t.isLt r d
  have h0 : ¬t.val % 4 = 0 := by omega
  simp only [outsAt0_C m c t h0 h1] at e ⊢
  rw [acc_C] at e
  rw [out_C, pay3_at, e, h1, upto_four]
  rfl

/-- The result's array: the sum over all the tokens of the products of the two arguments' columns. -/
theorem result (c : Dev nD) : (dats m 0 c).arrAt 2 cfg0.N = fun i => total m c (i 0) (i 1) := by
  refine (dats m 0 c).arrAt_eq_of_covers 2 _ (by decide +kernel) fun t hf y => ?_
  have h3 : t.val % 4 = 3 := (flush0_2 t).mp hf
  obtain ⟨r, d, rfl⟩ : ∃ (r : Fin 1024) (d : Fin 1024), y = ix2 r d := ⟨y 0, y 1, by funext i; fin_cases i <;> rfl⟩
  blk_simp
  rw [after0_2]
  refine (last m c t h3 r d).trans ?_
  refine total_same m c ?_ ?_
  all_goals (blk_simp [idx2 t]; try first | rfl | omega)

end Cert.Wgrad2
-- ==== Proof.Wgrad3.lean ====
module

public import proofs.«01_k».proof.Proof.TokenSum
public import proofs.«01_k».proof.Proof.Gen.Kernel3Ideal.Value

/-
  The gradient of the first MLP weight: over the four blocks of 2048 tokens of one block of rows, the scratch accumulates the
  products of the two arguments' columns; the last of the four points writes the sum over all the tokens.
-/

@[expose] public section

set_option maxRecDepth 16384

noncomputable section

open Idealize.ShloMosaic Idealize.ShloMosaic.TcCoe Idealize.SL.Sem
open Idealize.ShloMosaic.Pipeline (Dat)
open Cert.Kernel3Ideal Cert.Kernel3Ideal.Gen Cert.TokenSum

namespace Cert.Wgrad3

/-- What a point that does not clear the scratch leaves in it. -/
theorem acc_B (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : ¬cond0_1 i)
    (x0 x1 : Vec Ideal S2048x1024 .bf16) (xs : Vec Ideal S1024x1024 .f32) :
    sout0_B_0 c i a3 h3 a4 h4 a5 h5 a6 h6 hc0 hc1 x0 x1 xs = k0_pay2 xs x0 x1 := by
  unfold sout0_B_0 kernelRun0_B
  dsimp only
  rw [stored _ _ _ _ (by decide)]
  rw [whole h6 _ _ (by decide), whole h3 _ _ (by decide), whole h4 _ _ (by decide)]

/-- The same where the point also writes the result's block. -/
theorem acc_C (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : cond0_1 i)
    (x0 x1 : Vec Ideal S2048x1024 .bf16) (xs : Vec Ideal S1024x1024 .f32) :
    sout0_C_0 c i a3 h3 a4 h4 a5 h5 a6 h6 hc0 hc1 x0 x1 xs = k0_pay2 xs x0 x1 := by
  unfold sout0_C_0 kernelRun0_C
  dsimp only
  sl_unfold_words
  rw [stored _ _ _ _ (by decide)]
  rw [whole h6 _ _ (by decide), whole h3 _ _ (by decide), whole h4 _ _ (by decide)]

/-- What a point that clears the scratch leaves in it. -/
theorem acc_A (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (hc0 : cond0_0 i) (hc1 : ¬cond0_1 i)
    (x0 x1 : Vec Ideal S2048x1024 .bf16) :
    sout0_A_0 c i a3 h3 a4 h4 a5 h5 a6 h6 hc0 hc1 x0 x1 = k0_pay2 (k0_pay1 (F := Ideal)) x0 x1 := by
  unfold sout0_A_0 kernelRun0_A
  dsimp only
  sl_unfold_words
  rw [stored _ _ _ _ (by decide)]
  rw [loaded _ _ _ _ (by decide), whole h3 _ _ (by decide), whole h4 _ _ (by decide)]

/-- What the last of the four points leaves in the result's block: the scratch, rounded. -/
theorem out_C (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : cond0_1 i)
    (x0 x1 : Vec Ideal S2048x1024 .bf16) (xs : Vec Ideal S1024x1024 .f32) :
    out0_C_2 c i a3 h3 a4 h4 a5 h5 a6 h6 hc0 hc1 x0 x1 xs = k0_pay3 (k0_pay2 xs x0 x1) := by
  unfold out0_C_2 kernelRun0_C
  dsimp only
  sl_unfold_words
  rw [stored _ _ _ _ (by decide)]
  rw [loaded _ _ _ _ (by decide), whole h6 _ _ (by decide), whole h3 _ _ (by decide), whole h4 _ _ (by decide)]

/-- The accumulation step at an entry. -/
theorem pay2_at (v3 : Vec Ideal S1024x1024 .f32) (v4 v6 : Vec Ideal S2048x1024 .bf16) (r d : Fin 1024) :
    k0_pay2 v3 v4 v6 (ix2 r d) = (v3 (ix2 r d) + ∑ p : Fin 2048, v4 (ix2 p r) * v6 (ix2 p d) : EReal) := by
  unfold k0_pay2
  pointwise

/-- The cleared scratch at an entry. -/
theorem pay1_at (r d : Fin 1024) : k0_pay1 (F := Ideal) (ix2 r d) = (0 : EReal) := by
  unfold k0_pay1
  pointwise

/-- The rounded block at an entry. -/
theorem pay3_at (v : Vec Ideal S1024x1024 .f32) (r d : Fin 1024) : k0_pay3 v (ix2 r d) = (v (ix2 r d) : EReal) := by
  unfold k0_pay3
  pointwise

variable (m : (ℓ : Loc nD τ sig) → Buf (Elt Ideal) ℓ)

/-- The grid has 16 points. -/
theorem N16 (t : Fin cfg0.N) : t.val < 16 := t.isLt

/-- Where window 0's block lies. -/
theorem idx0 : ∀ t : Fin cfg0.N, win0_0.index t = ![t.val % 4, t.val / 4] := (by decide +kernel : ∀ t : Fin grid0.N, _)

/-- Where window 1's block lies. -/
theorem idx1 : ∀ t : Fin cfg0.N, win0_1.index t = ![t.val % 4, 0] := (by decide +kernel : ∀ t : Fin grid0.N, _)

/-- Where window 2's block lies. -/
theorem idx2 : ∀ t : Fin cfg0.N, win0_2.index t = ![t.val / 4, 0] := (by decide +kernel : ∀ t : Fin grid0.N, _)

/-- Row `r` of the block of rows of point `t`. -/
def row (t : Fin cfg0.N) (r : Fin 1024) : Fin 4096 := ⟨1024 * (t.val / 4) + r.val, by have := N16 t; omega⟩

/-- The first argument's block. -/
theorem blk0 (c : Dev nD) (t : Fin cfg0.N) (p : Fin 2048) (r : Fin 1024) :
    iblk m c 0 t (ix2 p r) = (m ((c : Thread nD τ).loc main_arg0) (ix3 (seqOf (2048 * (t.val % 4) + p.val)) (posOf (2048 * (t.val % 4) + p.val)) (row t r)) : EReal) := by
  blk_simp [iblk]
  entry_read
  pointwise
  blk_ext [idx0 t, seqOf, posOf, row]

/-- The second argument's block. -/
theorem blk1 (c : Dev nD) (t : Fin cfg0.N) (p : Fin 2048) (d : Fin 1024) :
    iblk m c 1 t (ix2 p d) = (m ((c : Thread nD τ).loc main_arg1) (ix3 (seqOf (2048 * (t.val % 4) + p.val)) (posOf (2048 * (t.val % 4) + p.val)) d) : EReal) := by
  blk_simp [iblk]
  entry_read
  pointwise
  blk_ext [idx1 t, seqOf, posOf]

/-- One token's product of a column of each of the two arrays. -/
def prod (A : S2x4096x4096.Idx → EReal) (B : S2x4096x1024.Idx → EReal) (r : Fin 4096) (d : Fin 1024) (b : Fin 2) (s : Fin 4096) : EReal :=
  A (ix3 b s r) * B (ix3 b s d)

/-- The same of the two arguments. -/
def term (c : Dev nD) : Fin 4096 → Fin 1024 → Fin 2 → Fin 4096 → EReal :=
  prod (m ((c : Thread nD τ).loc main_arg0)) (m ((c : Thread nD τ).loc main_arg1))

/-- A point that clears the scratch leaves its block's sum. -/
theorem scratch_first (c : Dev nD) (t : Fin cfg0.N) (h0 : t.val % 4 = 0) (r d : Fin 1024) :
    (outsAt0 m c t.val t.isLt).2 (ix2 r d) = upto (term m c (row t r) d) (t.val % 4 + 1) := by
  simp only [outsAt0_A m c t h0 (by omega)]
  rw [acc_A, pay2_at, pay1_at, upto_succ, h0, upto_zero]
  refine congrArg (fun z : EReal => 0 + z) (Finset.sum_congr rfl fun p _ => ?_)
  rw [blk0 m c t p r, blk1 m c t p d, h0]
  rfl

/-- Any other point adds its block's sum. -/
theorem scratch_next (c : Dev nD) (t : Fin cfg0.N) (h0 : ¬t.val % 4 = 0) (r d : Fin 1024)
    (ih : (outsAt0 m c (t.val - 1) (Nat.lt_of_le_of_lt (Nat.sub_le _ _) t.isLt)).2 (ix2 r d) = upto (term m c (row t r) d) (t.val % 4)) :
    (outsAt0 m c t.val t.isLt).2 (ix2 r d) = upto (term m c (row t r) d) (t.val % 4 + 1) := by
  have key : k0_pay2 (outsAt0 m c (t.val - 1) (Nat.lt_of_le_of_lt (Nat.sub_le _ _) t.isLt)).2 (iblk m c 0 t) (iblk m c 1 t) (ix2 r d)
      = upto (term m c (row t r) d) (t.val % 4 + 1) := by
    rw [pay2_at, ih, upto_succ]
    refine congrArg (fun z : EReal => upto (term m c (row t r) d) (t.val % 4) + z) (Finset.sum_congr rfl fun p _ => ?_)
    rw [blk0 m c t p r, blk1 m c t p d]
    rfl
  by_cases h1 : t.val % 4 = 3
  · simp only [outsAt0_C m c t h0 h1]
    rw [acc_C]
    exact key
  · simp only [outsAt0_B m c t h0 h1]
    rw [acc_B]
    exact key

/-- The scratch after each point: the sum over the blocks of tokens so far. -/
theorem scratch (c : Dev nD) : ∀ (n : ℕ) (h : n < cfg0.N) (r d : Fin 1024),
    (outsAt0 m c n h).2 (ix2 r d) = upto (term m c (row ⟨n, h⟩ r) d) (n % 4 + 1) := by
  intro n
  induction n with
  | zero => exact fun h r d => scratch_first m c ⟨0, h⟩ rfl r d
  | succ n ih =>
    intro h r d
    by_cases h0 : (n + 1) % 4 = 0
    · exact scratch_first m c ⟨n + 1, h⟩ h0 r d
    · refine scratch_next m c ⟨n + 1, h⟩ h0 r d ?_
      refine (ih (Nat.lt_of_succ_lt h) r d).trans ?_
      rw [show n % 4 + 1 = (n + 1) % 4 from by omega]
      have hr : row ⟨n, Nat.lt_of_succ_lt h⟩ r = row ⟨n + 1, h⟩ r := Fin.ext (by simp only [row]; omega)
      rw [hr]

/-- The sum over all the tokens. -/
def total (c : Dev nD) (r : Fin 4096) (d : Fin 1024) : EReal := ∑ b : Fin 2, ∑ s : Fin 4096, term m c r d b s

/-- Equal coordinates give equal sums. -/
theorem total_same (c : Dev nD) {r r' : Fin 4096} {d d' : Fin 1024} (hr : r.val = r'.val) (hd : d.val = d'.val) :
    total m c r d = total m c r' d' := by
  obtain rfl := Fin.ext hr
  obtain rfl := Fin.ext hd
  rfl

/-- What the last point of a block of rows leaves in the result's block: the sum over all the tokens. -/
theorem last (c : Dev nD) (t : Fin cfg0.N) (h1 : t.val % 4 = 3) (r d : Fin 1024) :
    (outsAt0 m c t.val t.isLt).1 (ix2 r d) = total m c (row t r) d := by
  have e := scratch m c t.val t.isLt r d
  have h0 : ¬t.val % 4 = 0 := by omega
  simp only [outsAt0_C m c t h0 h1] at e ⊢
  rw [acc_C] at e
  rw [out_C, pay3_at, e, h1, upto_four]
  rfl

/-- The result's array: the sum over all the tokens of the products of the two arguments' columns. -/
theorem result (c : Dev nD) : (dats m 0 c).arrAt 2 cfg0.N = fun i => total m c (i 0) (i 1) := by
  refine (dats m 0 c).arrAt_eq_of_covers 2 _ (by decide +kernel) fun t hf y => ?_
  have h3 : t.val % 4 = 3 := (flush0_2 t).mp hf
  obtain ⟨r, d, rfl⟩ : ∃ (r : Fin 1024) (d : Fin 1024), y = ix2 r d := ⟨y 0, y 1, by funext i; fin_cases i <;> rfl⟩
  blk_simp
  rw [after0_2]
  refine (last m c t h3 r d).trans ?_
  refine total_same m c ?_ ?_
  all_goals (blk_simp [idx2 t]; try simp only [row]; try first | rfl | omega)

end Cert.Wgrad3
-- ==== Proof.Adam4.lean ====
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Adequacy
public import Idealize.ShloMosaic.Init
public import Idealize.ShloMosaic.Lib.StableHlo.ReadAt
public import Idealize.ShloMosaic.Lib.Pipeline.ValueKit

/-! The optimiser's step on the conditioning's projection: the four arrays that the call leaves are the reference's. The call
reads the sixteen rows of the conditioning (two per device) as 64 rows, eight per device, of which six are zero. -/

@[expose] public section

set_option maxRecDepth 16384

noncomputable section

namespace Cert.Adam4

open Cert.Kernel4Ideal Cert.Kernel4Ideal.Gen Idealize.ShloMosaic Idealize.ShloMosaic.TcCoe Idealize.SL.Sem
open Idealize.ShloMosaic.Pipeline (Dat)
open Cert.Reference4Ideal.Read

variable (m : (ℓ : Loc nD τ sig) → Buf (Elt Ideal) ℓ)

/-- Which block each window takes at each point of the grid: the tile of that number. -/
theorem idx : ∀ t : Fin cfg0.N, win0_0.index t = ![0, (grid0.coords t 0).val] ∧ win0_1.index t = ![0, 0] ∧ win0_2.index t = ![(grid0.coords t 0).val, 0] ∧ win0_3.index t = ![(grid0.coords t 0).val, 0] ∧ win0_4.index t = ![(grid0.coords t 0).val, 0] ∧ win0_5.index t = ![(grid0.coords t 0).val, 0] ∧ win0_6.index t = ![(grid0.coords t 0).val, 0] ∧ win0_7.index t = ![(grid0.coords t 0).val, 0] ∧ win0_8.index t = ![(grid0.coords t 0).val, 0] :=
  (by decide +kernel : ∀ t : Fin grid0.N, _)

/-- A sum over 64 rows, eight per device, of which only the first two are not zero, is the sum over the sixteen rows. -/
theorem sum_rows (f : Fin 64 → EReal) (g : Fin 16 → EReal)
    (hf : ∀ (x : Fin 64) (h : x.val % 8 < 2), f x = g ⟨x.val / 8 * 2 + x.val % 8, by omega⟩)
    (hz : ∀ x : Fin 64, ¬x.val % 8 < 2 → f x = 0) : ∑ x, f x = ∑ y, g y := by
  symm
  refine Finset.sum_of_injOn (fun y : Fin 16 => (⟨y.val / 2 * 8 + y.val % 2, by omega⟩ : Fin 64)) ?_ ?_ ?_ ?_
  · intro a _ b _ h
    have h' := congrArg Fin.val h
    simp only at h'
    exact Fin.ext (by omega)
  · exact fun _ _ => Finset.mem_coe.mpr (Finset.mem_univ _)
  · intro x _ hx
    refine hz x fun h => hx ⟨⟨x.val / 8 * 2 + x.val % 8, by omega⟩, Finset.mem_coe.mpr (Finset.mem_univ _), ?_⟩
    exact Fin.ext (by simp only; omega)
  · intro y _
    rw [hf _ (by simp only; omega)]
    exact congrArg g (Fin.ext (by simp only; omega))

/-- The filling value is zero. -/
theorem zero_const : (FloatOps.sitofp (F := Ideal) FTy.f32 (0#32) : EReal) = 0 := by
  show ((_ : ℝ) : EReal) = 0
  simp

/-- The conditioning as the call reads it: a row of the argument, or zero. -/
theorem read_c (c : Dev nD) (a : Fin 64) (b : Fin 1024) : V m c main_v2 (ix2 a b)
    = (if h : a.val % 8 < 2 then m ((c : Thread nD τ).loc main_arg0) (ix2 ⟨a.val / 8 * 2 + a.val % 8, by omega⟩ b) else 0 : EReal) := by
  unfold V
  simp only [List.flatten_cons, List.flatten_nil, List.append_nil, List.cons_append, List.nil_append, hostOps0, hostOps0_1, hostOps0_2,
    hostOps0_3, hostOps0_4]
  after_reads_at
  exact dite_congr (propext ⟨fun e => e.2, fun e => ⟨by omega, e⟩⟩) (fun _ => rfl) fun _ => zero_const

/-- The gradient of the modulation as the call reads it: a row of the argument, or zero. -/
theorem read_d (c : Dev nD) (a : Fin 64) (b : Fin 768) : V m c main_v5 (ix2 a b)
    = (if h : a.val % 8 < 2 then m ((c : Thread nD τ).loc main_arg1) (ix2 ⟨a.val / 8 * 2 + a.val % 8, by omega⟩ b) else 0 : EReal) := by
  unfold V
  simp only [List.flatten_cons, List.flatten_nil, List.append_nil, List.cons_append, List.nil_append, hostOps0, hostOps0_1, hostOps0_2,
    hostOps0_3, hostOps0_4]
  after_reads_at
  exact dite_congr (propext ⟨fun e => e.2, fun e => ⟨by omega, e⟩⟩) (fun _ => rfl) fun _ => zero_const

/-- The row of the weight that row `r` of the tile of point `t` is. -/
def row (t : Fin cfg0.N) (r : Fin 256) : Fin 1024 := ⟨(grid0.coords t 0).val * 256 + r.val, by
  have h : (grid0.coords t 0).val < 4 := (grid0.coords t 0).isLt
  omega⟩

/-- The block of the conditioning that point `t` reads. -/
theorem block_c (c : Dev nD) (t : Fin cfg0.N) (x : Fin 64) (r : Fin 256) : iblk m c 0 t (ix2 x r) = V m c main_v2 (ix2 x (row t r)) := by
  show V m c main_v2 _ = _
  refine congrArg (V m c main_v2) ?_
  blk_ext [idx t, row]

/-- The block of the modulation's gradient that point `t` reads: all of it. -/
theorem block_d (c : Dev nD) (t : Fin cfg0.N) (x : Fin 64) (d : Fin 768) : iblk m c 1 t (ix2 x d) = V m c main_v5 (ix2 x d) := by
  show V m c main_v5 _ = _
  refine congrArg (V m c main_v5) ?_
  blk_ext [idx t]

/-- The weight as the call reads it: the argument without its first axis. -/
theorem read_2 (c : Dev nD) (a : Fin 1024) (b : Fin 768) : V m c main_v6 (ix2 a b) = m ((c : Thread nD τ).loc main_arg2) (ix3 0 a b) := by
  unfold V
  simp only [List.flatten_cons, List.flatten_nil, List.append_nil, List.cons_append, List.nil_append, hostOps0, hostOps0_1, hostOps0_2,
    hostOps0_3, hostOps0_4]
  after_reads_at

/-- The block of the weight that point `t` reads. -/
theorem block_2 (c : Dev nD) (t : Fin cfg0.N) (r : Fin 256) (d : Fin 768) :
    iblk m c 2 t (ix2 r d) = m ((c : Thread nD τ).loc main_arg2) (ix3 0 (row t r) d) := by
  refine Eq.trans ?_ (read_2 m c (row t r) d)
  show V m c main_v6 _ = _
  refine congrArg (V m c main_v6) ?_
  blk_ext [idx t, row]

/-- The first moment as the call reads it: the argument without its first axis. -/
theorem read_3 (c : Dev nD) (a : Fin 1024) (b : Fin 768) : V m c main_v7 (ix2 a b) = m ((c : Thread nD τ).loc main_arg3) (ix3 0 a b) := by
  unfold V
  simp only [List.flatten_cons, List.flatten_nil, List.append_nil, List.cons_append, List.nil_append, hostOps0, hostOps0_1, hostOps0_2,
    hostOps0_3, hostOps0_4]
  after_reads_at

/-- The block of the first moment that point `t` reads. -/
theorem block_3 (c : Dev nD) (t : Fin cfg0.N) (r : Fin 256) (d : Fin 768) :
    iblk m c 3 t (ix2 r d) = m ((c : Thread nD τ).loc main_arg3) (ix3 0 (row t r) d) := by
  refine Eq.trans ?_ (read_3 m c (row t r) d)
  show V m c main_v7 _ = _
  refine congrArg (V m c main_v7) ?_
  blk_ext [idx t, row]

/-- The second moment as the call reads it: the argument without its first axis. -/
theorem read_4 (c : Dev nD) (a : Fin 1024) (b : Fin 768) : V m c main_v8 (ix2 a b) = m ((c : Thread nD τ).loc main_arg4) (ix3 0 a b) := by
  unfold V
  simp only [List.flatten_cons, List.flatten_nil, List.append_nil, List.cons_append, List.nil_append, hostOps0, hostOps0_1, hostOps0_2,
    hostOps0_3, hostOps0_4]
  after_reads_at

/-- The block of the second moment that point `t` reads. -/
theorem block_4 (c : Dev nD) (t : Fin cfg0.N) (r : Fin 256) (d : Fin 768) :
    iblk m c 4 t (ix2 r d) = m ((c : Thread nD τ).loc main_arg4) (ix3 0 (row t r) d) := by
  refine Eq.trans ?_ (read_4 m c (row t r) d)
  show V m c main_v8 _ = _
  refine congrArg (V m c main_v8) ?_
  blk_ext [idx t, row]

/-- The element of the result that element (`r`, `d`) of the tile of point `t` is. -/
theorem out_5 (t : Fin cfg0.N) (r : Fin 256) (d : Fin 768) :
    ((View.whole main_v9_0).slice (win0_5.rect t)).emb (ix2 r d) = ix2 (row t r) d := by
  blk_ext [idx t, row]

/-- The element of the result that element (`r`, `d`) of the tile of point `t` is. -/
theorem out_6 (t : Fin cfg0.N) (r : Fin 256) (d : Fin 768) :
    ((View.whole main_v9_1).slice (win0_6.rect t)).emb (ix2 r d) = ix2 (row t r) d := by
  blk_ext [idx t, row]

/-- The element of the result that element (`r`, `d`) of the tile of point `t` is. -/
theorem out_7 (t : Fin cfg0.N) (r : Fin 256) (d : Fin 768) :
    ((View.whole main_v9_2).slice (win0_7.rect t)).emb (ix2 r d) = ix2 (row t r) d := by
  blk_ext [idx t, row]

/-- The element of the result that element (`r`, `d`) of the tile of point `t` is. -/
theorem out_8 (t : Fin cfg0.N) (r : Fin 256) (d : Fin 768) :
    ((View.whole main_v9_3).slice (win0_8.rect t)).emb (ix2 r d) = ix2 (row t r) d := by
  blk_ext [idx t, row]

/-- One summand of the weight's gradient, of row `r` and column `d`, at row `x` of the batch. -/
def term (C : S16x1024.Idx → EReal) (E : S16x768.Idx → EReal) (r : Fin 1024) (d : Fin 768) (x : Fin 16) : EReal :=
  E (ix2 x d) * (C (ix2 x r) * Ideal.div 1 (1 + Ideal.exp (-C (ix2 x r))))

/-- The product in the call is the sum over the batch. -/
theorem gradient (c : Dev nD) (t : Fin cfg0.N) (r : Fin 256) (d : Fin 768) :
    (∑ x : Fin 64, HMul.hMul (α := EReal) (β := EReal) (γ := EReal) (HMul.hMul (α := EReal) (β := EReal) (γ := EReal)
        (iblk m c 0 t (ix2 x r)) (Ideal.logistic (iblk m c 0 t (ix2 x r)))) (iblk m c 1 t (ix2 x d)) : EReal)
      = ∑ x : Fin 16, term (m ((c : Thread nD τ).loc main_arg0)) (m ((c : Thread nD τ).loc main_arg1)) (row t r) d x := by
  refine sum_rows _ _ (fun x h => ?_) fun x h => ?_
  · rw [block_c, block_d, read_c, read_d, dif_pos h, dif_pos h]
    exact mul_comm (_ : EReal) _
  · rw [block_c, block_d, read_c, read_d, dif_neg h, dif_neg h]
    exact mul_zero (_ : EReal)

/-- The gradient's array is the reference's. -/
theorem final5 (c : Dev nD) : (dats m 0 c).arrAt 5 cfg0.N = val_main_v4 (F := Ideal) (m ((c : Thread nD τ).loc main_arg0)) (m ((c : Thread nD τ).loc main_arg1)) := by
  refine (dats m 0 c).arrAt_eq_of_covers 5 _ (by decide +kernel) fun t _ y => ?_
  obtain ⟨r, d, rfl⟩ : ∃ (r : Fin 256) (d : Fin 768), y = ix2 r d := ⟨y 0, y 1, by funext i; fin_cases i <;> rfl⟩
  blk_simp
  rw [after0_5]
  frame_out
  rw [← val_main_v4_eq]
  pointwise [k0_pay1, k0_pay2, k0_pay3, k0_pay4]
  rw [gradient m c t r d]
  rw [out_5]
  rfl

/-- The change of the weight's array is the reference's. -/
theorem final6 (c : Dev nD) : (dats m 0 c).arrAt 6 cfg0.N = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  obtain ⟨r, d, rfl⟩ : ∃ (r : Fin 256) (d : Fin 768), y = ix2 r d := ⟨y 0, y 1, by funext i; fin_cases i <;> rfl⟩
  blk_simp
  rw [after0_6]
  frame_out
  rw [← val_main_v31_eq]
  pointwise [k0_pay1, k0_pay2, k0_pay3, k0_pay4]
  rw [gradient m c t r d]
  rw [out_6]
  simp only [block_2, block_3, block_4]
  rfl

/-- The new first moment's array is the reference's. -/
theorem final7 (c : Dev nD) : (dats m 0 c).arrAt 7 cfg0.N = val_main_v12 (F := Ideal) (m ((c : Thread nD τ).loc main_arg0)) (m ((c : Thread nD τ).loc main_arg1)) (m ((c : Thread nD τ).loc main_arg3)) := by
  refine (dats m 0 c).arrAt_eq_of_covers 7 _ (by decide +kernel) fun t _ y => ?_
  obtain ⟨r, d, rfl⟩ : ∃ (r : Fin 256) (d : Fin 768), y = ix2 r d := ⟨y 0, y 1, by funext i; fin_cases i <;> rfl⟩
  blk_simp
  rw [after0_7]
  frame_out
  rw [← val_main_v12_eq]
  pointwise [k0_pay1, k0_pay2, k0_pay3, k0_pay4]
  rw [gradient m c t r d]
  rw [out_7]
  simp only [block_2, block_3, block_4]
  rfl

/-- The new second moment's array is the reference's. -/
theorem final8 (c : Dev nD) : (dats m 0 c).arrAt 8 cfg0.N = val_main_v18 (F := Ideal) (m ((c : Thread nD τ).loc main_arg0)) (m ((c : Thread nD τ).loc main_arg1)) (m ((c : Thread nD τ).loc main_arg4)) := by
  refine (dats m 0 c).arrAt_eq_of_covers 8 _ (by decide +kernel) fun t _ y => ?_
  obtain ⟨r, d, rfl⟩ : ∃ (r : Fin 256) (d : Fin 768), y = ix2 r d := ⟨y 0, y 1, by funext i; fin_cases i <;> rfl⟩
  blk_simp
  rw [after0_8]
  frame_out
  rw [← val_main_v18_eq]
  pointwise [k0_pay1, k0_pay2, k0_pay3, k0_pay4]
  rw [gradient m c t r d]
  rw [out_8]
  simp only [block_2, block_3, block_4]
  rfl

/-- From equal arguments the call and the reference leave equal arrays. -/
theorem algebraic : Cert.algebraic_Kernel4Ideal_Reference4Ideal := by
  intro m g m' g' _ hagree
  refine ⟨fun c => val_main_v4 (F := Ideal) (m ((c : Thread nD τ).loc main_arg0)) (m ((c : Thread nD τ).loc main_arg1)),
    fun c => val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    fun c => val_main_v12 (F := Ideal) (m ((c : Thread nD τ).loc main_arg0)) (m ((c : Thread nD τ).loc main_arg1)) (m ((c : Thread nD τ).loc main_arg3)),
    fun c => val_main_v18 (F := Ideal) (m ((c : Thread nD τ).loc main_arg0)) (m ((c : Thread nD τ).loc main_arg1)) (m ((c : Thread nD τ).loc main_arg4)),
    (θ_run Cert.Kernel4Ideal.defs _ _).mono (fun r h c => ?_) (Cert.Kernel4Ideal.Value.run_blocks (F := Ideal) m g),
    (θ_run Cert.Reference4Ideal.defs _ _).mono (fun r h c => ?_) (Cert.Reference4Ideal.Value.run (F := Ideal) m' g')⟩
  · obtain ⟨h5, h6, h7, h8, hk⟩ := h c
    exact ⟨h5.trans (final5 m c), h6.trans (final6 m c), h7.trans (final7 m c), h8.trans (final8 m c), hk⟩
  · obtain ⟨e0, e1, e2, e3, e4⟩ := hagree c
    obtain ⟨h5, h6, h7, h8, hk⟩ := h c
    refine ⟨h5.trans ?_, h6.trans ?_, h7.trans ?_, h8.trans ?_, hk⟩ <;> (simp only [e0, e1, e2, e3, e4]; rfl)

end Cert.Adam4

end
-- ==== Proof.Adam5.lean ====
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Adequacy
public import Idealize.ShloMosaic.Init
public import Idealize.ShloMosaic.Lib.Pipeline.ValueKit

/-! The optimiser's step on the input projection: the four arrays that the call leaves are the reference's. -/

@[expose] public section

set_option maxRecDepth 16384

noncomputable section

namespace Cert.Adam5

open Cert.Kernel5Ideal Cert.Kernel5Ideal.Gen Idealize.ShloMosaic Idealize.ShloMosaic.TcCoe Idealize.SL.Sem
open Idealize.ShloMosaic.Pipeline (Dat)
open Cert.Reference5Ideal.Read

variable (m : (ℓ : Loc nD τ sig) → Buf (Elt Ideal) ℓ)

/-- Which block each window takes at each point of the grid: the tile of that number. -/
theorem idx : ∀ t : Fin cfg0.N, win0_0.index t = ![0, (grid0.coords t 0).val, 0] ∧ win0_1.index t = ![(grid0.coords t 0).val, 0] ∧ win0_2.index t = ![(grid0.coords t 0).val, 0] ∧ win0_3.index t = ![(grid0.coords t 0).val, 0] ∧ win0_4.index t = ![(grid0.coords t 0).val, 0] ∧ win0_5.index t = ![(grid0.coords t 0).val, 0] ∧ win0_6.index t = ![(grid0.coords t 0).val, 0] ∧ win0_7.index t = ![(grid0.coords t 0).val, 0] :=
  (by decide +kernel : ∀ t : Fin grid0.N, _)

/-- The gradient's array is the reference's. -/
theorem final4 (c : Dev nD) : (dats m 0 c).arrAt 4 cfg0.N = val_main_v30 (F := Ideal) (m ((c : Thread nD τ).loc main_arg0)) := by
  refine (dats m 0 c).arrAt_eq_of_covers 4 _ (by decide +kernel) fun t _ y => ?_
  blk_simp
  rw [after0_4]
  frame_out
  rw [← val_main_v30_eq]
  pointwise [k0_pay1, k0_pay2, k0_pay3, k0_pay4, k0_pay5, k0_pay6, k0_pay7, k0_pay8]
  simp only [Fin.sum_univ_four, zero_add]
  blk_point [iblk, V, idx t]

/-- The change of the weight's array is the reference's. -/
theorem final5 (c : Dev nD) : (dats m 0 c).arrAt 5 cfg0.N = val_main_v31 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  rw [← val_main_v31_eq]
  pointwise [k0_pay1, k0_pay2, k0_pay3, k0_pay4, k0_pay5, k0_pay6, k0_pay7, k0_pay8]
  simp only [Fin.sum_univ_four, zero_add]
  blk_point [iblk, V, idx t]

/-- The new first moment's array is the reference's. -/
theorem final6 (c : Dev nD) : (dats m 0 c).arrAt 6 cfg0.N = val_main_v32 (F := Ideal) (m ((c : Thread nD τ).loc main_arg0)) (m ((c : Thread nD τ).loc main_arg2)) := by
  refine (dats m 0 c).arrAt_eq_of_covers 6 _ (by decide +kernel) fun t _ y => ?_
  blk_simp
  rw [after0_6]
  frame_out
  rw [← val_main_v32_eq]
  pointwise [k0_pay1, k0_pay2, k0_pay3, k0_pay4, k0_pay5, k0_pay6, k0_pay7, k0_pay8]
  simp only [Fin.sum_univ_four, zero_add]
  blk_point [iblk, V, idx t]

/-- The new second moment's array is the reference's. -/
theorem final7 (c : Dev nD) : (dats m 0 c).arrAt 7 cfg0.N = val_main_v33 (F := Ideal) (m ((c : Thread nD τ).loc main_arg0)) (m ((c : Thread nD τ).loc main_arg3)) := by
  refine (dats m 0 c).arrAt_eq_of_covers 7 _ (by decide +kernel) fun t _ y => ?_
  blk_simp
  rw [after0_7]
  frame_out
  rw [← val_main_v33_eq]
  pointwise [k0_pay1, k0_pay2, k0_pay3, k0_pay4, k0_pay5, k0_pay6, k0_pay7, k0_pay8]
  simp only [Fin.sum_univ_four, zero_add]
  blk_point [iblk, V, idx t]

/-- From equal arguments the call and the reference leave equal arrays. -/
theorem algebraic : Cert.algebraic_Kernel5Ideal_Reference5Ideal := by
  intro m g m' g' _ hagree
  refine ⟨fun c => val_main_v30 (F := Ideal) (m ((c : Thread nD τ).loc main_arg0)),
    fun c => val_main_v31 (F := Ideal) (m ((c : Thread nD τ).loc main_arg0)) (m ((c : Thread nD τ).loc main_arg1)) (m ((c : Thread nD τ).loc main_arg2)) (m ((c : Thread nD τ).loc main_arg3)),
    fun c => val_main_v32 (F := Ideal) (m ((c : Thread nD τ).loc main_arg0)) (m ((c : Thread nD τ).loc main_arg2)),
    fun c => val_main_v33 (F := Ideal) (m ((c : Thread nD τ).loc main_arg0)) (m ((c : Thread nD τ).loc main_arg3)),
    (θ_run Cert.Kernel5Ideal.defs _ _).mono (fun r h c => ?_) (Cert.Kernel5Ideal.Value.run_blocks (F := Ideal) m g),
    (θ_run Cert.Reference5Ideal.defs _ _).mono (fun r h c => ?_) (Cert.Reference5Ideal.Value.run (F := Ideal) m' g')⟩
  · obtain ⟨h4, h5, h6, h7, hk⟩ := h c
    exact ⟨h4.trans (final4 m c), h5.trans (final5 m c), h6.trans (final6 m c), h7.trans (final7 m c), hk⟩
  · obtain ⟨e0, e1, e2, e3⟩ := hagree c
    obtain ⟨h4, h5, h6, h7, hk⟩ := h c
    refine ⟨h4.trans ?_, h5.trans ?_, h6.trans ?_, h7.trans ?_, hk⟩ <;> (simp only [e0, e1, e2, e3]; rfl)

end Cert.Adam5

end
-- ==== Proof.Adam6.lean ====
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Adequacy
public import Idealize.ShloMosaic.Init
public import Idealize.ShloMosaic.Lib.Pipeline.ValueKit

/-! The optimiser's step on the output projection: the four arrays that the call leaves are the reference's. -/

@[expose] public section

set_option maxRecDepth 16384

noncomputable section

namespace Cert.Adam6

open Cert.Kernel6Ideal Cert.Kernel6Ideal.Gen Idealize.ShloMosaic Idealize.ShloMosaic.TcCoe Idealize.SL.Sem
open Idealize.ShloMosaic.Pipeline (Dat)
open Cert.Reference6Ideal.Read

variable (m : (ℓ : Loc nD τ sig) → Buf (Elt Ideal) ℓ)

/-- Which block each window takes at each point of the grid: the tile of that number. -/
theorem idx : ∀ t : Fin cfg0.N, win0_0.index t = ![0, (grid0.coords t 0).val, 0] ∧ win0_1.index t = ![(grid0.coords t 0).val, 0] ∧ win0_2.index t = ![(grid0.coords t 0).val, 0] ∧ win0_3.index t = ![(grid0.coords t 0).val, 0] ∧ win0_4.index t = ![(grid0.coords t 0).val, 0] ∧ win0_5.index t = ![(grid0.coords t 0).val, 0] ∧ win0_6.index t = ![(grid0.coords t 0).val, 0] ∧ win0_7.index t = ![(grid0.coords t 0).val, 0] :=
  (by decide +kernel : ∀ t : Fin grid0.N, _)

/-- The gradient's array is the reference's. -/
theorem final4 (c : Dev nD) : (dats m 0 c).arrAt 4 cfg0.N = val_main_v1 (F := Ideal) (m ((c : Thread nD τ).loc main_arg0)) := by
  refine (dats m 0 c).arrAt_eq_of_covers 4 _ (by decide +kernel) fun t _ y => ?_
  blk_simp
  rw [after0_4]
  frame_out
  rw [← val_main_v1_eq]
  pointwise [k0_pay1, k0_pay2, k0_pay3, k0_pay4, k0_pay5, k0_pay6, k0_pay7, k0_pay8]
  simp only [Fin.sum_univ_four, zero_add]
  blk_point [iblk, V, idx t]

/-- The change of the weight's array is the reference's. -/
theorem final5 (c : Dev nD) : (dats m 0 c).arrAt 5 cfg0.N = val_main_v28 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  rw [← val_main_v28_eq]
  pointwise [k0_pay1, k0_pay2, k0_pay3, k0_pay4, k0_pay5, k0_pay6, k0_pay7, k0_pay8]
  simp only [Fin.sum_univ_four, zero_add]
  blk_point [iblk, V, idx t]

/-- The new first moment's array is the reference's. -/
theorem final6 (c : Dev nD) : (dats m 0 c).arrAt 6 cfg0.N = val_main_v9 (F := Ideal) (m ((c : Thread nD τ).loc main_arg0)) (m ((c : Thread nD τ).loc main_arg2)) := by
  refine (dats m 0 c).arrAt_eq_of_covers 6 _ (by decide +kernel) fun t _ y => ?_
  blk_simp
  rw [after0_6]
  frame_out
  rw [← val_main_v9_eq]
  pointwise [k0_pay1, k0_pay2, k0_pay3, k0_pay4, k0_pay5, k0_pay6, k0_pay7, k0_pay8]
  simp only [Fin.sum_univ_four, zero_add]
  blk_point [iblk, V, idx t]

/-- The new second moment's array is the reference's. -/
theorem final7 (c : Dev nD) : (dats m 0 c).arrAt 7 cfg0.N = val_main_v15 (F := Ideal) (m ((c : Thread nD τ).loc main_arg0)) (m ((c : Thread nD τ).loc main_arg3)) := by
  refine (dats m 0 c).arrAt_eq_of_covers 7 _ (by decide +kernel) fun t _ y => ?_
  blk_simp
  rw [after0_7]
  frame_out
  rw [← val_main_v15_eq]
  pointwise [k0_pay1, k0_pay2, k0_pay3, k0_pay4, k0_pay5, k0_pay6, k0_pay7, k0_pay8]
  simp only [Fin.sum_univ_four, zero_add]
  blk_point [iblk, V, idx t]

/-- From equal arguments the call and the reference leave equal arrays. -/
theorem algebraic : Cert.algebraic_Kernel6Ideal_Reference6Ideal := by
  intro m g m' g' _ hagree
  refine ⟨fun c => val_main_v1 (F := Ideal) (m ((c : Thread nD τ).loc main_arg0)),
    fun c => val_main_v28 (F := Ideal) (m ((c : Thread nD τ).loc main_arg0)) (m ((c : Thread nD τ).loc main_arg1)) (m ((c : Thread nD τ).loc main_arg2)) (m ((c : Thread nD τ).loc main_arg3)),
    fun c => val_main_v9 (F := Ideal) (m ((c : Thread nD τ).loc main_arg0)) (m ((c : Thread nD τ).loc main_arg2)),
    fun c => val_main_v15 (F := Ideal) (m ((c : Thread nD τ).loc main_arg0)) (m ((c : Thread nD τ).loc main_arg3)),
    (θ_run Cert.Kernel6Ideal.defs _ _).mono (fun r h c => ?_) (Cert.Kernel6Ideal.Value.run_blocks (F := Ideal) m g),
    (θ_run Cert.Reference6Ideal.defs _ _).mono (fun r h c => ?_) (Cert.Reference6Ideal.Value.run (F := Ideal) m' g')⟩
  · obtain ⟨h4, h5, h6, h7, hk⟩ := h c
    exact ⟨h4.trans (final4 m c), h5.trans (final5 m c), h6.trans (final6 m c), h7.trans (final7 m c), hk⟩
  · obtain ⟨e0, e1, e2, e3⟩ := hagree c
    obtain ⟨h4, h5, h6, h7, hk⟩ := h c
    refine ⟨h4.trans ?_, h5.trans ?_, h6.trans ?_, h7.trans ?_, hk⟩ <;> (simp only [e0, e1, e2, e3]; rfl)

end Cert.Adam6

end
-- ==== Proof.Adam7.lean ====
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Adequacy
public import Idealize.ShloMosaic.Init
public import Idealize.ShloMosaic.Lib.Pipeline.ValueKit

/-! The optimiser's step on the first MLP weight: the four arrays that the call leaves are the reference's. -/

@[expose] public section

set_option maxRecDepth 16384

noncomputable section

namespace Cert.Adam7

open Cert.Kernel7Ideal Cert.Kernel7Ideal.Gen Idealize.ShloMosaic Idealize.ShloMosaic.TcCoe Idealize.SL.Sem
open Idealize.ShloMosaic.Pipeline (Dat)
open Cert.Reference7Ideal.Read

variable (m : (ℓ : Loc nD τ sig) → Buf (Elt Ideal) ℓ)

/-- Which block each window takes at each point of the grid: the tile of that number. -/
theorem idx : ∀ t : Fin cfg0.N, win0_0.index t = ![0, (grid0.coords t 0).val, 0] ∧ win0_1.index t = ![0, (grid0.coords t 0).val] ∧ win0_2.index t = ![0, (grid0.coords t 0).val] ∧ win0_3.index t = ![0, (grid0.coords t 0).val] ∧ win0_4.index t = ![0, (grid0.coords t 0).val] ∧ win0_5.index t = ![0, (grid0.coords t 0).val] ∧ win0_6.index t = ![0, (grid0.coords t 0).val] ∧ win0_7.index t = ![0, (grid0.coords t 0).val] :=
  (by decide +kernel : ∀ t : Fin grid0.N, _)

/-- The gradient's array is the reference's. -/
theorem final4 (c : Dev nD) : (dats m 0 c).arrAt 4 cfg0.N = val_main_v2 (F := Ideal) (m ((c : Thread nD τ).loc main_arg0)) := by
  refine (dats m 0 c).arrAt_eq_of_covers 4 _ (by decide +kernel) fun t _ y => ?_
  blk_simp
  rw [after0_4]
  frame_out
  rw [← val_main_v2_eq]
  pointwise [k0_pay1, k0_pay2, k0_pay3, k0_pay4, k0_pay5, k0_pay6, k0_pay7]
  simp only [Fin.sum_univ_four, zero_add]
  blk_point [iblk, V, idx t]

/-- The change of the weight's array is the reference's. -/
theorem final5 (c : Dev nD) : (dats m 0 c).arrAt 5 cfg0.N = val_main_v29 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  rw [← val_main_v29_eq]
  pointwise [k0_pay1, k0_pay2, k0_pay3, k0_pay4, k0_pay5, k0_pay6, k0_pay7]
  simp only [Fin.sum_univ_four, zero_add]
  blk_point [iblk, V, idx t]

/-- The new first moment's array is the reference's. -/
theorem final6 (c : Dev nD) : (dats m 0 c).arrAt 6 cfg0.N = val_main_v10 (F := Ideal) (m ((c : Thread nD τ).loc main_arg0)) (m ((c : Thread nD τ).loc main_arg2)) := by
  refine (dats m 0 c).arrAt_eq_of_covers 6 _ (by decide +kernel) fun t _ y => ?_
  blk_simp
  rw [after0_6]
  frame_out
  rw [← val_main_v10_eq]
  pointwise [k0_pay1, k0_pay2, k0_pay3, k0_pay4, k0_pay5, k0_pay6, k0_pay7]
  simp only [Fin.sum_univ_four, zero_add]
  blk_point [iblk, V, idx t]

/-- The new second moment's array is the reference's. -/
theorem final7 (c : Dev nD) : (dats m 0 c).arrAt 7 cfg0.N = val_main_v16 (F := Ideal) (m ((c : Thread nD τ).loc main_arg0)) (m ((c : Thread nD τ).loc main_arg3)) := by
  refine (dats m 0 c).arrAt_eq_of_covers 7 _ (by decide +kernel) fun t _ y => ?_
  blk_simp
  rw [after0_7]
  frame_out
  rw [← val_main_v16_eq]
  pointwise [k0_pay1, k0_pay2, k0_pay3, k0_pay4, k0_pay5, k0_pay6, k0_pay7]
  simp only [Fin.sum_univ_four, zero_add]
  blk_point [iblk, V, idx t]

/-- From equal arguments the call and the reference leave equal arrays. -/
theorem algebraic : Cert.algebraic_Kernel7Ideal_Reference7Ideal := by
  intro m g m' g' _ hagree
  refine ⟨fun c => val_main_v2 (F := Ideal) (m ((c : Thread nD τ).loc main_arg0)),
    fun c => val_main_v29 (F := Ideal) (m ((c : Thread nD τ).loc main_arg0)) (m ((c : Thread nD τ).loc main_arg1)) (m ((c : Thread nD τ).loc main_arg2)) (m ((c : Thread nD τ).loc main_arg3)),
    fun c => val_main_v10 (F := Ideal) (m ((c : Thread nD τ).loc main_arg0)) (m ((c : Thread nD τ).loc main_arg2)),
    fun c => val_main_v16 (F := Ideal) (m ((c : Thread nD τ).loc main_arg0)) (m ((c : Thread nD τ).loc main_arg3)),
    (θ_run Cert.Kernel7Ideal.defs _ _).mono (fun r h c => ?_) (Cert.Kernel7Ideal.Value.run_blocks (F := Ideal) m g),
    (θ_run Cert.Reference7Ideal.defs _ _).mono (fun r h c => ?_) (Cert.Reference7Ideal.Value.run (F := Ideal) m' g')⟩
  · obtain ⟨h4, h5, h6, h7, hk⟩ := h c
    exact ⟨h4.trans (final4 m c), h5.trans (final5 m c), h6.trans (final6 m c), h7.trans (final7 m c), hk⟩
  · obtain ⟨e0, e1, e2, e3⟩ := hagree c
    obtain ⟨h4, h5, h6, h7, hk⟩ := h c
    refine ⟨h4.trans ?_, h5.trans ?_, h6.trans ?_, h7.trans ?_, hk⟩ <;> (simp only [e0, e1, e2, e3]; rfl)

end Cert.Adam7

end
-- ==== Proof.Adam8.lean ====
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Adequacy
public import Idealize.ShloMosaic.Init
public import Idealize.ShloMosaic.Lib.Pipeline.ValueKit

/-! The optimiser's step on the second MLP weight: the four arrays that the call leaves are the reference's. -/

@[expose] public section

set_option maxRecDepth 16384

noncomputable section

namespace Cert.Adam8

open Cert.Kernel8Ideal Cert.Kernel8Ideal.Gen Idealize.ShloMosaic Idealize.ShloMosaic.TcCoe Idealize.SL.Sem
open Idealize.ShloMosaic.Pipeline (Dat)
open Cert.Reference8Ideal.Read

variable (m : (ℓ : Loc nD τ sig) → Buf (Elt Ideal) ℓ)

/-- Which block each window takes at each point of the grid: the tile of that number. -/
theorem idx : ∀ t : Fin cfg0.N, win0_0.index t = ![0, (grid0.coords t 0).val, 0] ∧ win0_1.index t = ![(grid0.coords t 0).val, 0] ∧ win0_2.index t = ![(grid0.coords t 0).val, 0] ∧ win0_3.index t = ![(grid0.coords t 0).val, 0] ∧ win0_4.index t = ![(grid0.coords t 0).val, 0] ∧ win0_5.index t = ![(grid0.coords t 0).val, 0] ∧ win0_6.index t = ![(grid0.coords t 0).val, 0] ∧ win0_7.index t = ![(grid0.coords t 0).val, 0] :=
  (by decide +kernel : ∀ t : Fin grid0.N, _)

/-- The gradient's array is the reference's. -/
theorem final4 (c : Dev nD) : (dats m 0 c).arrAt 4 cfg0.N = val_main_v1 (F := Ideal) (m ((c : Thread nD τ).loc main_arg0)) := by
  refine (dats m 0 c).arrAt_eq_of_covers 4 _ (by decide +kernel) fun t _ y => ?_
  blk_simp
  rw [after0_4]
  frame_out
  rw [← val_main_v1_eq]
  pointwise [k0_pay1, k0_pay2, k0_pay3, k0_pay4, k0_pay5, k0_pay6, k0_pay7, k0_pay8]
  simp only [Fin.sum_univ_four, zero_add]
  blk_point [iblk, V, idx t]

/-- The change of the weight's array is the reference's. -/
theorem final5 (c : Dev nD) : (dats m 0 c).arrAt 5 cfg0.N = val_main_v28 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  rw [← val_main_v28_eq]
  pointwise [k0_pay1, k0_pay2, k0_pay3, k0_pay4, k0_pay5, k0_pay6, k0_pay7, k0_pay8]
  simp only [Fin.sum_univ_four, zero_add]
  blk_point [iblk, V, idx t]

/-- The new first moment's array is the reference's. -/
theorem final6 (c : Dev nD) : (dats m 0 c).arrAt 6 cfg0.N = val_main_v9 (F := Ideal) (m ((c : Thread nD τ).loc main_arg0)) (m ((c : Thread nD τ).loc main_arg2)) := by
  refine (dats m 0 c).arrAt_eq_of_covers 6 _ (by decide +kernel) fun t _ y => ?_
  blk_simp
  rw [after0_6]
  frame_out
  rw [← val_main_v9_eq]
  pointwise [k0_pay1, k0_pay2, k0_pay3, k0_pay4, k0_pay5, k0_pay6, k0_pay7, k0_pay8]
  simp only [Fin.sum_univ_four, zero_add]
  blk_point [iblk, V, idx t]

/-- The new second moment's array is the reference's. -/
theorem final7 (c : Dev nD) : (dats m 0 c).arrAt 7 cfg0.N = val_main_v15 (F := Ideal) (m ((c : Thread nD τ).loc main_arg0)) (m ((c : Thread nD τ).loc main_arg3)) := by
  refine (dats m 0 c).arrAt_eq_of_covers 7 _ (by decide +kernel) fun t _ y => ?_
  blk_simp
  rw [after0_7]
  frame_out
  rw [← val_main_v15_eq]
  pointwise [k0_pay1, k0_pay2, k0_pay3, k0_pay4, k0_pay5, k0_pay6, k0_pay7, k0_pay8]
  simp only [Fin.sum_univ_four, zero_add]
  blk_point [iblk, V, idx t]

/-- From equal arguments the call and the reference leave equal arrays. -/
theorem algebraic : Cert.algebraic_Kernel8Ideal_Reference8Ideal := by
  intro m g m' g' _ hagree
  refine ⟨fun c => val_main_v1 (F := Ideal) (m ((c : Thread nD τ).loc main_arg0)),
    fun c => val_main_v28 (F := Ideal) (m ((c : Thread nD τ).loc main_arg0)) (m ((c : Thread nD τ).loc main_arg1)) (m ((c : Thread nD τ).loc main_arg2)) (m ((c : Thread nD τ).loc main_arg3)),
    fun c => val_main_v9 (F := Ideal) (m ((c : Thread nD τ).loc main_arg0)) (m ((c : Thread nD τ).loc main_arg2)),
    fun c => val_main_v15 (F := Ideal) (m ((c : Thread nD τ).loc main_arg0)) (m ((c : Thread nD τ).loc main_arg3)),
    (θ_run Cert.Kernel8Ideal.defs _ _).mono (fun r h c => ?_) (Cert.Kernel8Ideal.Value.run_blocks (F := Ideal) m g),
    (θ_run Cert.Reference8Ideal.defs _ _).mono (fun r h c => ?_) (Cert.Reference8Ideal.Value.run (F := Ideal) m' g')⟩
  · obtain ⟨h4, h5, h6, h7, hk⟩ := h c
    exact ⟨h4.trans (final4 m c), h5.trans (final5 m c), h6.trans (final6 m c), h7.trans (final7 m c), hk⟩
  · obtain ⟨e0, e1, e2, e3⟩ := hagree c
    obtain ⟨h4, h5, h6, h7, hk⟩ := h c
    refine ⟨h4.trans ?_, h5.trans ?_, h6.trans ?_, h7.trans ?_, hk⟩ <;> (simp only [e0, e1, e2, e3]; rfl)

end Cert.Adam8

end
-- ==== Proof.Adam9.lean ====
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Adequacy
public import Idealize.ShloMosaic.Init
public import Idealize.ShloMosaic.Lib.Pipeline.ValueKit

/-! The optimiser's step on the first four small parameters: the twelve arrays that the call leaves are the reference's. -/

@[expose] public section

set_option maxRecDepth 16384

noncomputable section

namespace Cert.Adam9

open Cert.Kernel9Ideal Cert.Kernel9Ideal.Gen Idealize.ShloMosaic Idealize.ShloMosaic.TcCoe Idealize.SL.Sem
open Idealize.ShloMosaic.Pipeline (Dat)
open Cert.Reference9Ideal.Read

variable (m : (ℓ : Loc nD τ sig) → Buf (Elt Ideal) ℓ)

/-- The windows of the conditioning's bias are whole arrays. -/
theorem idx0 : ∀ t : Fin cfg0.N, win0_0.index t = ![0, 0] ∧ win0_4.index t = ![0, 0] ∧ win0_8.index t = ![0, 0] ∧ win0_12.index t = ![0, 0] ∧ win0_16.index t = ![0, 0] ∧ win0_20.index t = ![0, 0] ∧ win0_24.index t = ![0, 0] :=
  (by decide +kernel : ∀ t : Fin grid0.N, _)

/-- The windows of the long convolution's weight are whole arrays. -/
theorem idx1 : ∀ t : Fin cfg0.N, win0_1.index t = ![0, 0] ∧ win0_5.index t = ![0, 0] ∧ win0_9.index t = ![0, 0] ∧ win0_13.index t = ![0, 0] ∧ win0_17.index t = ![0, 0] ∧ win0_21.index t = ![0, 0] ∧ win0_25.index t = ![0, 0] :=
  (by decide +kernel : ∀ t : Fin grid0.N, _)

/-- The windows of the long convolution's bias are whole arrays. -/
theorem idx2 : ∀ t : Fin cfg0.N, win0_2.index t = ![0, 0] ∧ win0_6.index t = ![0, 0] ∧ win0_10.index t = ![0, 0] ∧ win0_14.index t = ![0, 0] ∧ win0_18.index t = ![0, 0] ∧ win0_22.index t = ![0, 0] ∧ win0_26.index t = ![0, 0] :=
  (by decide +kernel : ∀ t : Fin grid0.N, _)

/-- The windows of the layer norm's gain are whole arrays. -/
theorem idx3 : ∀ t : Fin cfg0.N, win0_3.index t = ![0, 0] ∧ win0_7.index t = ![0, 0] ∧ win0_11.index t = ![0, 0] ∧ win0_15.index t = ![0, 0] ∧ win0_19.index t = ![0, 0] ∧ win0_23.index t = ![0, 0] ∧ win0_27.index t = ![0, 0] :=
  (by decide +kernel : ∀ t : Fin grid0.N, _)

/-- The change of the conditioning's bias. -/
theorem final16 (c : Dev nD) : (dats m 0 c).arrAt 16 cfg0.N = val_main_v27 (F := Ideal) (m ((c : Thread nD τ).loc main_arg0)) (m ((c : Thread nD τ).loc main_arg4)) (m ((c : Thread nD τ).loc main_arg8)) (m ((c : Thread nD τ).loc main_arg12)) := by
  refine (dats m 0 c).arrAt_eq_of_covers 16 _ (by decide +kernel) fun t _ y => ?_
  blk_simp
  rw [after0_16]
  frame_out
  rw [← val_main_v27_eq]
  pointwise [k0_pay1, k0_pay2, k0_pay3, k0_pay4, k0_pay5, k0_pay6, k0_pay7, k0_pay8, k0_pay9, k0_pay10, k0_pay11, k0_pay12, k0_pay13]
  blk_point [iblk, V, idx0 t]

/-- The change of the long convolution's weight. -/
theorem final17 (c : Dev nD) : (dats m 0 c).arrAt 17 cfg0.N = val_main_v51 (F := Ideal) (m ((c : Thread nD τ).loc main_arg1)) (m ((c : Thread nD τ).loc main_arg5)) (m ((c : Thread nD τ).loc main_arg9)) (m ((c : Thread nD τ).loc main_arg13)) := by
  refine (dats m 0 c).arrAt_eq_of_covers 17 _ (by decide +kernel) fun t _ y => ?_
  blk_simp
  rw [after0_17]
  frame_out
  rw [← val_main_v51_eq]
  pointwise [k0_pay1, k0_pay2, k0_pay3, k0_pay4, k0_pay5, k0_pay6, k0_pay7, k0_pay8, k0_pay9, k0_pay10, k0_pay11, k0_pay12, k0_pay13]
  blk_point [iblk, V, idx1 t]

/-- The change of the long convolution's bias. -/
theorem final18 (c : Dev nD) : (dats m 0 c).arrAt 18 cfg0.N = val_main_v75 (F := Ideal) (m ((c : Thread nD τ).loc main_arg2)) (m ((c : Thread nD τ).loc main_arg6)) (m ((c : Thread nD τ).loc main_arg10)) (m ((c : Thread nD τ).loc main_arg14)) := by
  refine (dats m 0 c).arrAt_eq_of_covers 18 _ (by decide +kernel) fun t _ y => ?_
  blk_simp
  rw [after0_18]
  frame_out
  rw [← val_main_v75_eq]
  pointwise [k0_pay1, k0_pay2, k0_pay3, k0_pay4, k0_pay5, k0_pay6, k0_pay7, k0_pay8, k0_pay9, k0_pay10, k0_pay11, k0_pay12, k0_pay13]
  blk_point [iblk, V, idx2 t]

/-- The change of the layer norm's gain. -/
theorem final19 (c : Dev nD) : (dats m 0 c).arrAt 19 cfg0.N = val_main_v99 (F := Ideal) (m ((c : Thread nD τ).loc main_arg3)) (m ((c : Thread nD τ).loc main_arg7)) (m ((c : Thread nD τ).loc main_arg11)) (m ((c : Thread nD τ).loc main_arg15)) := by
  refine (dats m 0 c).arrAt_eq_of_covers 19 _ (by decide +kernel) fun t _ y => ?_
  blk_simp
  rw [after0_19]
  frame_out
  rw [← val_main_v99_eq]
  pointwise [k0_pay1, k0_pay2, k0_pay3, k0_pay4, k0_pay5, k0_pay6, k0_pay7, k0_pay8, k0_pay9, k0_pay10, k0_pay11, k0_pay12, k0_pay13]
  blk_point [iblk, V, idx3 t]

/-- The new first moment of the conditioning's bias. -/
theorem final20 (c : Dev nD) : (dats m 0 c).arrAt 20 cfg0.N = val_main_v8 (F := Ideal) (m ((c : Thread nD τ).loc main_arg4)) (m ((c : Thread nD τ).loc main_arg8)) := by
  refine (dats m 0 c).arrAt_eq_of_covers 20 _ (by decide +kernel) fun t _ y => ?_
  blk_simp
  rw [after0_20]
  frame_out
  rw [← val_main_v8_eq]
  pointwise [k0_pay1, k0_pay2, k0_pay3, k0_pay4, k0_pay5, k0_pay6, k0_pay7, k0_pay8, k0_pay9, k0_pay10, k0_pay11, k0_pay12, k0_pay13]
  blk_point [iblk, V, idx0 t]

/-- The new first moment of the long convolution's weight. -/
theorem final21 (c : Dev nD) : (dats m 0 c).arrAt 21 cfg0.N = val_main_v32 (F := Ideal) (m ((c : Thread nD τ).loc main_arg5)) (m ((c : Thread nD τ).loc main_arg9)) := by
  refine (dats m 0 c).arrAt_eq_of_covers 21 _ (by decide +kernel) fun t _ y => ?_
  blk_simp
  rw [after0_21]
  frame_out
  rw [← val_main_v32_eq]
  pointwise [k0_pay1, k0_pay2, k0_pay3, k0_pay4, k0_pay5, k0_pay6, k0_pay7, k0_pay8, k0_pay9, k0_pay10, k0_pay11, k0_pay12, k0_pay13]
  blk_point [iblk, V, idx1 t]

/-- The new first moment of the long convolution's bias. -/
theorem final22 (c : Dev nD) : (dats m 0 c).arrAt 22 cfg0.N = val_main_v56 (F := Ideal) (m ((c : Thread nD τ).loc main_arg6)) (m ((c : Thread nD τ).loc main_arg10)) := by
  refine (dats m 0 c).arrAt_eq_of_covers 22 _ (by decide +kernel) fun t _ y => ?_
  blk_simp
  rw [after0_22]
  frame_out
  rw [← val_main_v56_eq]
  pointwise [k0_pay1, k0_pay2, k0_pay3, k0_pay4, k0_pay5, k0_pay6, k0_pay7, k0_pay8, k0_pay9, k0_pay10, k0_pay11, k0_pay12, k0_pay13]
  blk_point [iblk, V, idx2 t]

/-- The new first moment of the layer norm's gain. -/
theorem final23 (c : Dev nD) : (dats m 0 c).arrAt 23 cfg0.N = val_main_v80 (F := Ideal) (m ((c : Thread nD τ).loc main_arg7)) (m ((c : Thread nD τ).loc main_arg11)) := by
  refine (dats m 0 c).arrAt_eq_of_covers 23 _ (by decide +kernel) fun t _ y => ?_
  blk_simp
  rw [after0_23]
  frame_out
  rw [← val_main_v80_eq]
  pointwise [k0_pay1, k0_pay2, k0_pay3, k0_pay4, k0_pay5, k0_pay6, k0_pay7, k0_pay8, k0_pay9, k0_pay10, k0_pay11, k0_pay12, k0_pay13]
  blk_point [iblk, V, idx3 t]

/-- The new second moment of the conditioning's bias. -/
theorem final24 (c : Dev nD) : (dats m 0 c).arrAt 24 cfg0.N = val_main_v14 (F := Ideal) (m ((c : Thread nD τ).loc main_arg4)) (m ((c : Thread nD τ).loc main_arg12)) := by
  refine (dats m 0 c).arrAt_eq_of_covers 24 _ (by decide +kernel) fun t _ y => ?_
  blk_simp
  rw [after0_24]
  frame_out
  rw [← val_main_v14_eq]
  pointwise [k0_pay1, k0_pay2, k0_pay3, k0_pay4, k0_pay5, k0_pay6, k0_pay7, k0_pay8, k0_pay9, k0_pay10, k0_pay11, k0_pay12, k0_pay13]
  blk_point [iblk, V, idx0 t]

/-- The new second moment of the long convolution's weight. -/
theorem final25 (c : Dev nD) : (dats m 0 c).arrAt 25 cfg0.N = val_main_v38 (F := Ideal) (m ((c : Thread nD τ).loc main_arg5)) (m ((c : Thread nD τ).loc main_arg13)) := by
  refine (dats m 0 c).arrAt_eq_of_covers 25 _ (by decide +kernel) fun t _ y => ?_
  blk_simp
  rw [after0_25]
  frame_out
  rw [← val_main_v38_eq]
  pointwise [k0_pay1, k0_pay2, k0_pay3, k0_pay4, k0_pay5, k0_pay6, k0_pay7, k0_pay8, k0_pay9, k0_pay10, k0_pay11, k0_pay12, k0_pay13]
  blk_point [iblk, V, idx1 t]

/-- The new second moment of the long convolution's bias. -/
theorem final26 (c : Dev nD) : (dats m 0 c).arrAt 26 cfg0.N = val_main_v62 (F := Ideal) (m ((c : Thread nD τ).loc main_arg6)) (m ((c : Thread nD τ).loc main_arg14)) := by
  refine (dats m 0 c).arrAt_eq_of_covers 26 _ (by decide +kernel) fun t _ y => ?_
  blk_simp
  rw [after0_26]
  frame_out
  rw [← val_main_v62_eq]
  pointwise [k0_pay1, k0_pay2, k0_pay3, k0_pay4, k0_pay5, k0_pay6, k0_pay7, k0_pay8, k0_pay9, k0_pay10, k0_pay11, k0_pay12, k0_pay13]
  blk_point [iblk, V, idx2 t]

/-- The new second moment of the layer norm's gain. -/
theorem final27 (c : Dev nD) : (dats m 0 c).arrAt 27 cfg0.N = val_main_v86 (F := Ideal) (m ((c : Thread nD τ).loc main_arg7)) (m ((c : Thread nD τ).loc main_arg15)) := by
  refine (dats m 0 c).arrAt_eq_of_covers 27 _ (by decide +kernel) fun t _ y => ?_
  blk_simp
  rw [after0_27]
  frame_out
  rw [← val_main_v86_eq]
  pointwise [k0_pay1, k0_pay2, k0_pay3, k0_pay4, k0_pay5, k0_pay6, k0_pay7, k0_pay8, k0_pay9, k0_pay10, k0_pay11, k0_pay12, k0_pay13]
  blk_point [iblk, V, idx3 t]

/-- From equal arguments the call and the reference leave equal arrays. -/
theorem algebraic : Cert.algebraic_Kernel9Ideal_Reference9Ideal := by
  intro m g m' g' _ hagree
  refine ⟨fun c => val_main_v27 (F := Ideal) (m ((c : Thread nD τ).loc main_arg0)) (m ((c : Thread nD τ).loc main_arg4)) (m ((c : Thread nD τ).loc main_arg8)) (m ((c : Thread nD τ).loc main_arg12)),
    fun c => val_main_v51 (F := Ideal) (m ((c : Thread nD τ).loc main_arg1)) (m ((c : Thread nD τ).loc main_arg5)) (m ((c : Thread nD τ).loc main_arg9)) (m ((c : Thread nD τ).loc main_arg13)),
    fun c => val_main_v75 (F := Ideal) (m ((c : Thread nD τ).loc main_arg2)) (m ((c : Thread nD τ).loc main_arg6)) (m ((c : Thread nD τ).loc main_arg10)) (m ((c : Thread nD τ).loc main_arg14)),
    fun c => val_main_v99 (F := Ideal) (m ((c : Thread nD τ).loc main_arg3)) (m ((c : Thread nD τ).loc main_arg7)) (m ((c : Thread nD τ).loc main_arg11)) (m ((c : Thread nD τ).loc main_arg15)),
    fun c => val_main_v8 (F := Ideal) (m ((c : Thread nD τ).loc main_arg4)) (m ((c : Thread nD τ).loc main_arg8)),
    fun c => val_main_v32 (F := Ideal) (m ((c : Thread nD τ).loc main_arg5)) (m ((c : Thread nD τ).loc main_arg9)),
    fun c => val_main_v56 (F := Ideal) (m ((c : Thread nD τ).loc main_arg6)) (m ((c : Thread nD τ).loc main_arg10)),
    fun c => val_main_v80 (F := Ideal) (m ((c : Thread nD τ).loc main_arg7)) (m ((c : Thread nD τ).loc main_arg11)),
    fun c => val_main_v14 (F := Ideal) (m ((c : Thread nD τ).loc main_arg4)) (m ((c : Thread nD τ).loc main_arg12)),
    fun c => val_main_v38 (F := Ideal) (m ((c : Thread nD τ).loc main_arg5)) (m ((c : Thread nD τ).loc main_arg13)),
    fun c => val_main_v62 (F := Ideal) (m ((c : Thread nD τ).loc main_arg6)) (m ((c : Thread nD τ).loc main_arg14)),
    fun c => val_main_v86 (F := Ideal) (m ((c : Thread nD τ).loc main_arg7)) (m ((c : Thread nD τ).loc main_arg15)),
    (θ_run Cert.Kernel9Ideal.defs _ _).mono (fun r h c => ?_) (Cert.Kernel9Ideal.Value.run_blocks (F := Ideal) m g),
    (θ_run Cert.Reference9Ideal.defs _ _).mono (fun r h c => ?_) (Cert.Reference9Ideal.Value.run (F := Ideal) m' g')⟩
  · obtain ⟨h0, h1, h2, h3, h4, h5, h6, h7, h8, h9, h10, h11, hk⟩ := h c
    exact ⟨h0.trans (final16 m c), h1.trans (final17 m c), h2.trans (final18 m c), h3.trans (final19 m c), h4.trans (final20 m c), h5.trans (final21 m c), h6.trans (final22 m c), h7.trans (final23 m c), h8.trans (final24 m c), h9.trans (final25 m c), h10.trans (final26 m c), h11.trans (final27 m c), hk⟩
  · obtain ⟨e0, e1, e2, e3, e4, e5, e6, e7, e8, e9, e10, e11, e12, e13, e14, e15⟩ := hagree c
    obtain ⟨h0, h1, h2, h3, h4, h5, h6, h7, h8, h9, h10, h11, hk⟩ := h c
    refine ⟨h0.trans ?_, h1.trans ?_, h2.trans ?_, h3.trans ?_, h4.trans ?_, h5.trans ?_, h6.trans ?_, h7.trans ?_, h8.trans ?_, h9.trans ?_, h10.trans ?_, h11.trans ?_, hk⟩ <;> (simp only [e0, e1, e2, e3, e4, e5, e6, e7, e8, e9, e10, e11, e12, e13, e14, e15]; rfl)

end Cert.Adam9

end
-- ==== Proof.Adam10.lean ====
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Adequacy
public import Idealize.ShloMosaic.Init
public import Idealize.ShloMosaic.Lib.Pipeline.ValueKit

/-! The optimiser's step on the last three small parameters: the nine arrays that the call leaves are the reference's. -/

@[expose] public section

set_option maxRecDepth 16384

noncomputable section

namespace Cert.Adam10

open Cert.Kernel10Ideal Cert.Kernel10Ideal.Gen Idealize.ShloMosaic Idealize.ShloMosaic.TcCoe Idealize.SL.Sem
open Idealize.ShloMosaic.Pipeline (Dat)
open Cert.Reference10Ideal.Read

variable (m : (ℓ : Loc nD τ sig) → Buf (Elt Ideal) ℓ)

/-- The windows of the layer norm's bias are whole arrays. -/
theorem idx0 : ∀ t : Fin cfg0.N, win0_0.index t = ![0, 0] ∧ win0_3.index t = ![0, 0] ∧ win0_6.index t = ![0, 0] ∧ win0_9.index t = ![0, 0] ∧ win0_12.index t = ![0, 0] ∧ win0_15.index t = ![0, 0] ∧ win0_18.index t = ![0, 0] :=
  (by decide +kernel : ∀ t : Fin grid0.N, _)

/-- The windows of the short convolution's weight are whole arrays. -/
theorem idx1 : ∀ t : Fin cfg0.N, win0_1.index t = ![0, 0] ∧ win0_4.index t = ![0, 0] ∧ win0_7.index t = ![0, 0] ∧ win0_10.index t = ![0, 0] ∧ win0_13.index t = ![0, 0] ∧ win0_16.index t = ![0, 0] ∧ win0_19.index t = ![0, 0] :=
  (by decide +kernel : ∀ t : Fin grid0.N, _)

/-- The windows of the final norm's gain are whole arrays. -/
theorem idx2 : ∀ t : Fin cfg0.N, win0_2.index t = ![0, 0] ∧ win0_5.index t = ![0, 0] ∧ win0_8.index t = ![0, 0] ∧ win0_11.index t = ![0, 0] ∧ win0_14.index t = ![0, 0] ∧ win0_17.index t = ![0, 0] ∧ win0_20.index t = ![0, 0] :=
  (by decide +kernel : ∀ t : Fin grid0.N, _)

/-- The change of the layer norm's bias. -/
theorem final12 (c : Dev nD) : (dats m 0 c).arrAt 12 cfg0.N = val_main_v31 (F := Ideal) (m ((c : Thread nD τ).loc main_arg0)) (m ((c : Thread nD τ).loc main_arg3)) (m ((c : Thread nD τ).loc main_arg6)) (m ((c : Thread nD τ).loc main_arg9)) := by
  refine (dats m 0 c).arrAt_eq_of_covers 12 _ (by decide +kernel) fun t _ y => ?_
  blk_simp
  rw [after0_12]
  frame_out
  rw [← val_main_v31_eq]
  pointwise [k0_pay1, k0_pay2, k0_pay3, k0_pay4, k0_pay5, k0_pay6, k0_pay7, k0_pay8, k0_pay9, k0_pay10, k0_pay11]
  blk_point [iblk, V, idx0 t]

/-- The change of the short convolution's weight. -/
theorem final13 (c : Dev nD) : (dats m 0 c).arrAt 13 cfg0.N = val_main_v55 (F := Ideal) (m ((c : Thread nD τ).loc main_arg1)) (m ((c : Thread nD τ).loc main_arg4)) (m ((c : Thread nD τ).loc main_arg7)) (m ((c : Thread nD τ).loc main_arg10)) := by
  refine (dats m 0 c).arrAt_eq_of_covers 13 _ (by decide +kernel) fun t _ y => ?_
  blk_simp
  rw [after0_13]
  frame_out
  rw [← val_main_v55_eq]
  pointwise [k0_pay1, k0_pay2, k0_pay3, k0_pay4, k0_pay5, k0_pay6, k0_pay7, k0_pay8, k0_pay9, k0_pay10, k0_pay11]
  blk_point [iblk, V, idx1 t]

/-- The change of the final norm's gain. -/
theorem final14 (c : Dev nD) : (dats m 0 c).arrAt 14 cfg0.N = val_main_v79 (F := Ideal) (m ((c : Thread nD τ).loc main_arg2)) (m ((c : Thread nD τ).loc main_arg5)) (m ((c : Thread nD τ).loc main_arg8)) (m ((c : Thread nD τ).loc main_arg11)) := by
  refine (dats m 0 c).arrAt_eq_of_covers 14 _ (by decide +kernel) fun t _ y => ?_
  blk_simp
  rw [after0_14]
  frame_out
  rw [← val_main_v79_eq]
  pointwise [k0_pay1, k0_pay2, k0_pay3, k0_pay4, k0_pay5, k0_pay6, k0_pay7, k0_pay8, k0_pay9, k0_pay10, k0_pay11]
  blk_point [iblk, V, idx2 t]

/-- The new first moment of the layer norm's bias. -/
theorem final15 (c : Dev nD) : (dats m 0 c).arrAt 15 cfg0.N = val_main_v12 (F := Ideal) (m ((c : Thread nD τ).loc main_arg3)) (m ((c : Thread nD τ).loc main_arg6)) := by
  refine (dats m 0 c).arrAt_eq_of_covers 15 _ (by decide +kernel) fun t _ y => ?_
  blk_simp
  rw [after0_15]
  frame_out
  rw [← val_main_v12_eq]
  pointwise [k0_pay1, k0_pay2, k0_pay3, k0_pay4, k0_pay5, k0_pay6, k0_pay7, k0_pay8, k0_pay9, k0_pay10, k0_pay11]
  blk_point [iblk, V, idx0 t]

/-- The new first moment of the short convolution's weight. -/
theorem final16 (c : Dev nD) : (dats m 0 c).arrAt 16 cfg0.N = val_main_v36 (F := Ideal) (m ((c : Thread nD τ).loc main_arg4)) (m ((c : Thread nD τ).loc main_arg7)) := by
  refine (dats m 0 c).arrAt_eq_of_covers 16 _ (by decide +kernel) fun t _ y => ?_
  blk_simp
  rw [after0_16]
  frame_out
  rw [← val_main_v36_eq]
  pointwise [k0_pay1, k0_pay2, k0_pay3, k0_pay4, k0_pay5, k0_pay6, k0_pay7, k0_pay8, k0_pay9, k0_pay10, k0_pay11]
  blk_point [iblk, V, idx1 t]

/-- The new first moment of the final norm's gain. -/
theorem final17 (c : Dev nD) : (dats m 0 c).arrAt 17 cfg0.N = val_main_v60 (F := Ideal) (m ((c : Thread nD τ).loc main_arg5)) (m ((c : Thread nD τ).loc main_arg8)) := by
  refine (dats m 0 c).arrAt_eq_of_covers 17 _ (by decide +kernel) fun t _ y => ?_
  blk_simp
  rw [after0_17]
  frame_out
  rw [← val_main_v60_eq]
  pointwise [k0_pay1, k0_pay2, k0_pay3, k0_pay4, k0_pay5, k0_pay6, k0_pay7, k0_pay8, k0_pay9, k0_pay10, k0_pay11]
  blk_point [iblk, V, idx2 t]

/-- The new second moment of the layer norm's bias. -/
theorem final18 (c : Dev nD) : (dats m 0 c).arrAt 18 cfg0.N = val_main_v18 (F := Ideal) (m ((c : Thread nD τ).loc main_arg3)) (m ((c : Thread nD τ).loc main_arg9)) := by
  refine (dats m 0 c).arrAt_eq_of_covers 18 _ (by decide +kernel) fun t _ y => ?_
  blk_simp
  rw [after0_18]
  frame_out
  rw [← val_main_v18_eq]
  pointwise [k0_pay1, k0_pay2, k0_pay3, k0_pay4, k0_pay5, k0_pay6, k0_pay7, k0_pay8, k0_pay9, k0_pay10, k0_pay11]
  blk_point [iblk, V, idx0 t]

/-- The new second moment of the short convolution's weight. -/
theorem final19 (c : Dev nD) : (dats m 0 c).arrAt 19 cfg0.N = val_main_v42 (F := Ideal) (m ((c : Thread nD τ).loc main_arg4)) (m ((c : Thread nD τ).loc main_arg10)) := by
  refine (dats m 0 c).arrAt_eq_of_covers 19 _ (by decide +kernel) fun t _ y => ?_
  blk_simp
  rw [after0_19]
  frame_out
  rw [← val_main_v42_eq]
  pointwise [k0_pay1, k0_pay2, k0_pay3, k0_pay4, k0_pay5, k0_pay6, k0_pay7, k0_pay8, k0_pay9, k0_pay10, k0_pay11]
  blk_point [iblk, V, idx1 t]

/-- The new second moment of the final norm's gain. -/
theorem final20 (c : Dev nD) : (dats m 0 c).arrAt 20 cfg0.N = val_main_v66 (F := Ideal) (m ((c : Thread nD τ).loc main_arg5)) (m ((c : Thread nD τ).loc main_arg11)) := by
  refine (dats m 0 c).arrAt_eq_of_covers 20 _ (by decide +kernel) fun t _ y => ?_
  blk_simp
  rw [after0_20]
  frame_out
  rw [← val_main_v66_eq]
  pointwise [k0_pay1, k0_pay2, k0_pay3, k0_pay4, k0_pay5, k0_pay6, k0_pay7, k0_pay8, k0_pay9, k0_pay10, k0_pay11]
  blk_point [iblk, V, idx2 t]

/-- From equal arguments the call and the reference leave equal arrays. -/
theorem algebraic : Cert.algebraic_Kernel10Ideal_Reference10Ideal := by
  intro m g m' g' _ hagree
  refine ⟨fun c => val_main_v31 (F := Ideal) (m ((c : Thread nD τ).loc main_arg0)) (m ((c : Thread nD τ).loc main_arg3)) (m ((c : Thread nD τ).loc main_arg6)) (m ((c : Thread nD τ).loc main_arg9)),
    fun c => val_main_v55 (F := Ideal) (m ((c : Thread nD τ).loc main_arg1)) (m ((c : Thread nD τ).loc main_arg4)) (m ((c : Thread nD τ).loc main_arg7)) (m ((c : Thread nD τ).loc main_arg10)),
    fun c => val_main_v79 (F := Ideal) (m ((c : Thread nD τ).loc main_arg2)) (m ((c : Thread nD τ).loc main_arg5)) (m ((c : Thread nD τ).loc main_arg8)) (m ((c : Thread nD τ).loc main_arg11)),
    fun c => val_main_v12 (F := Ideal) (m ((c : Thread nD τ).loc main_arg3)) (m ((c : Thread nD τ).loc main_arg6)),
    fun c => val_main_v36 (F := Ideal) (m ((c : Thread nD τ).loc main_arg4)) (m ((c : Thread nD τ).loc main_arg7)),
    fun c => val_main_v60 (F := Ideal) (m ((c : Thread nD τ).loc main_arg5)) (m ((c : Thread nD τ).loc main_arg8)),
    fun c => val_main_v18 (F := Ideal) (m ((c : Thread nD τ).loc main_arg3)) (m ((c : Thread nD τ).loc main_arg9)),
    fun c => val_main_v42 (F := Ideal) (m ((c : Thread nD τ).loc main_arg4)) (m ((c : Thread nD τ).loc main_arg10)),
    fun c => val_main_v66 (F := Ideal) (m ((c : Thread nD τ).loc main_arg5)) (m ((c : Thread nD τ).loc main_arg11)),
    (θ_run Cert.Kernel10Ideal.defs _ _).mono (fun r h c => ?_) (Cert.Kernel10Ideal.Value.run_blocks (F := Ideal) m g),
    (θ_run Cert.Reference10Ideal.defs _ _).mono (fun r h c => ?_) (Cert.Reference10Ideal.Value.run (F := Ideal) m' g')⟩
  · obtain ⟨h0, h1, h2, h3, h4, h5, h6, h7, h8, hk⟩ := h c
    exact ⟨h0.trans (final12 m c), h1.trans (final13 m c), h2.trans (final14 m c), h3.trans (final15 m c), h4.trans (final16 m c), h5.trans (final17 m c), h6.trans (final18 m c), h7.trans (final19 m c), h8.trans (final20 m c), hk⟩
  · obtain ⟨e0, e1, e2, e3, e4, e5, e6, e7, e8, e9, e10, e11⟩ := hagree c
    obtain ⟨h0, h1, h2, h3, h4, h5, h6, h7, h8, hk⟩ := h c
    refine ⟨h0.trans ?_, h1.trans ?_, h2.trans ?_, h3.trans ?_, h4.trans ?_, h5.trans ?_, h6.trans ?_, h7.trans ?_, h8.trans ?_, hk⟩ <;> (simp only [e0, e1, e2, e3, e4, e5, e6, e7, e8, e9, e10, e11]; rfl)

end Cert.Adam10

end
-- ==== Proof.Mixer11.lean ====
module

public import proofs.«01_k».proof.Defs
public import proofs.«01_k».proof.Proof.Words
public import proofs.«01_k».proof.Proof.TokenSum
public import proofs.«01_k».proof.Proof.Gen.Kernel11Ideal.Value
public import proofs.«01_k».proof.Proof.Gen.Reference11Ideal.Run
public import proofs.«01_k».proof.Proof.Gen.Reference11Ideal.Read
public import Idealize.ShloMosaic.Lib.StableHlo.ReadAt

/-
  The mixer's backward call: the modulated norm of the residual stream, which it stores for the input projection's weight
  gradient. At every grid point the block of 256 tokens is normalised row by row, scaled and shifted by the sequence's modulation.
-/

@[expose] public section

set_option maxRecDepth 16384

noncomputable section

open Idealize.ShloMosaic Idealize.ShloMosaic.TcCoe Idealize.SL.Sem
open Idealize.ShloMosaic.Pipeline (Dat)
open Cert.Kernel11Ideal Cert.Kernel11Ideal.Gen Cert.RowMath Cert.TokenSum

namespace Cert.Mixer11

/-- One entry of a modulated norm: the row `v` normalised, times one plus the scale `g`, plus the shift `s`. -/
def normMod (v : Fin 1024 → EReal) (g s : EReal) (d : Fin 1024) : EReal := v d * rs v * (1 + g) + s

/-- What the call stores for its tokens, from the block it stores. -/
abbrev stored (X : Vec Ideal S1x256x1024 .f32) (s g : Vec Ideal S1x1x1024 .f32) : Vec Ideal S1x256x1024 .bf16 :=
  k0_pay739 (F := Ideal) (k0_pay5 X) (k0_pay6 s) (k0_pay7 g)

/-- The reciprocal root of a row's mean square. -/
theorem root_at (X : FVec Ideal S256x1024 .f32) (p : Fin 256) : k0_pay737 X (ix2 p 0) = rs fun k => X (ix2 p k) := by
  unfold k0_pay737
  pointwise
  rfl

/-- The normalised row. -/
theorem norm_at (X : FVec Ideal S256x1024 .f32) (p : Fin 256) (d : Fin 1024) :
    k0_pay738 X (ix2 p d) = (X (ix2 p d) * rs fun k => X (ix2 p k) : EReal) := by
  unfold k0_pay738
  have h := root_at X p
  generalize k0_pay737 X = W at h
  pointwise
  rw [h]

/-- The block as rows. -/
theorem rows_at (X : Vec Ideal S1x256x1024 .f32) (p : Fin 256) (d : Fin 1024) : k0_pay5 X (ix2 p d) = (X (ix3 0 p d) : EReal) := by
  unfold k0_pay5
  pointwise

/-- The shift as a row. -/
theorem shift_at (s : Vec Ideal S1x1x1024 .f32) (d : Fin 1024) : k0_pay6 s (ix2 0 d) = (s (ix3 0 0 d) : EReal) := by
  unfold k0_pay6
  pointwise

/-- The scale as a row. -/
theorem scale_at (g : Vec Ideal S1x1x1024 .f32) (d : Fin 1024) : k0_pay7 g (ix2 0 d) = (g (ix3 0 0 d) : EReal) := by
  unfold k0_pay7
  pointwise

/-- An entry of the stored block. -/
theorem stored_at (X : Vec Ideal S1x256x1024 .f32) (s g : Vec Ideal S1x1x1024 .f32) (p : Fin 256) (d : Fin 1024) :
    stored X s g (ix3 0 p d) = normMod (fun k => X (ix3 0 p k)) (g (ix3 0 0 d)) (s (ix3 0 0 d)) d := by
  have h1 := norm_at (k0_pay5 X) p d
  have h2 := shift_at s d
  have h3 := scale_at g d
  simp only [rows_at] at h1
  unfold stored k0_pay739
  generalize k0_pay738 (k0_pay5 X) = W at h1
  generalize k0_pay6 s = S at h2
  generalize k0_pay7 g = G at h3
  pointwise
  rw [h1, h2, h3, normMod]

/-- A load of one modulation row. -/
theorem mod_row {arg : Memref sig .tc .vmem S1x6x1024 .f32} (h : arg.IsWhole) (X : Vec Ideal S1x6x1024 .f32) (r : ℕ) (hr : r < 6)
    (inb : ∀ a, (![0, r, 0] : Fin 3 → ℕ) a + S1x1x1024.size a ≤ S1x6x1024.size a) (d : Fin 1024) :
    arg.view.readAt (Elt Ideal) (Rect.unit (s := S1x6x1024) ![0, r, 0] S1x1x1024.size inb).toLoadRect (h.unread X) (ix3 0 0 d)
      = X (ix3 0 ⟨r, hr⟩ d) := by
  rw [Memref.IsWhole.readAt_unread]
  refine congrArg X (Words.ix3_eq _ _ _ _ ?_ ?_ ?_)
  all_goals simp

/-- An entry of the stored block from the loads of the two blocks. -/
theorem loaded_at {arg3 : Memref sig .tc .vmem S1x256x1024 .f32} (harg3 : arg3.IsWhole) {arg7 : Memref sig .tc .vmem S1x6x1024 .f32}
    (harg7 : arg7.IsWhole) (x1 : Vec Ideal S1x256x1024 .f32) (x5 : Vec Ideal S1x6x1024 .f32) (p : Fin 256) (d : Fin 1024) :
    stored (arg3.view.readAt (Elt Ideal) (Rect.unit (s := S1x256x1024) ![0, 0, 0] S1x256x1024.size inb_S1x256x1024_S1x256x1024_0_0_0).toLoadRect (harg3.unread x1))
        (arg7.view.readAt (Elt Ideal) (Rect.unit (s := S1x6x1024) ![0, 0, 0] S1x1x1024.size inb_S1x6x1024_S1x1x1024_0_0_0).toLoadRect (harg7.unread x5))
        (arg7.view.readAt (Elt Ideal) (Rect.unit (s := S1x6x1024) ![0, 1, 0] S1x1x1024.size inb_S1x6x1024_S1x1x1024_0_1_0).toLoadRect (harg7.unread x5)) (ix3 0 p d)
      = normMod (fun k => x1 (ix3 0 p k)) (x5 (ix3 0 1 d)) (x5 (ix3 0 0 d)) d := by
  rw [stored_at, mod_row harg7 x5 0 (by omega), mod_row harg7 x5 1 (by omega), whole harg3 _ _ (by decide)]
  rfl

/-- The block of the modulated norm at the first grid point. -/
theorem out_A (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x2560 .f32) (harg4 : arg4.IsWhole) (arg5 : Memref sig .tc .vmem S1x256x512 .f32) (harg5 : arg5.IsWhole) (arg6 : Memref sig .tc .vmem S1x256x512 .f32) (harg6 : arg6.IsWhole) (arg7 : Memref sig .tc .vmem S1x6x1024 .f32) (harg7 : arg7.IsWhole) (arg8 : Memref sig .tc .vmem S8x320x1024 .bf16) (harg8 : arg8.IsWhole) (arg9 : Memref sig .tc .vmem S8x128x1024 .bf16) (harg9 : arg9.IsWhole) (arg10 : Memref sig .tc .vmem S32x512 .f32) (harg10 : arg10.IsWhole) (arg11 : Memref sig .tc .vmem S8x512 .f32) (harg11 : arg11.IsWhole) (arg12 : Memref sig .tc .vmem S1x256x1024 .f32) (harg12 : arg12.IsWhole) (arg13 : Memref sig .tc .vmem S1x256x2560 .bf16) (harg13 : arg13.IsWhole) (arg14 : Memref sig .tc .vmem S1x256x1024 .bf16) (harg14 : arg14.IsWhole) (arg15 : Memref sig .tc .vmem S1x8x1024 .f32) (harg15 : arg15.IsWhole) (arg16 : Memref sig .tc .vmem S40x512 .f32) (harg16 : arg16.IsWhole) (arg17 : Memref sig .tc .vmem S288x512 .f32) (harg17 : arg17.IsWhole) (arg18 : Memref sig .tc .vmem S264x512 .f32) (harg18 : arg18.IsWhole) (arg19 : Memref sig .tc .vmem S256x512 .f32) (harg19 : arg19.IsWhole) (arg20 : Memref sig .tc .vmem S256x512 .f32) (harg20 : arg20.IsWhole) (arg21 : Memref sig .tc .vmem S256x512 .f32) (harg21 : arg21.IsWhole) (arg22 : Memref sig .tc .vmem S8x512 .f32) (harg22 : arg22.IsWhole) (arg23 : Memref sig .tc .vmem S7x280x512 .f32) (harg23 : arg23.IsWhole) (hc0 : cond0_0 i) (hc1 : cond0_1 i) (hc2 : ¬cond0_2 i) (hc3 : ¬cond0_3 i)
    (x0 : Vec Ideal S1x256x1024 .f32) (x1 : Vec Ideal S1x256x1024 .f32) (x2 : Vec Ideal S1x256x2560 .f32) (x3 : Vec Ideal S1x256x512 .f32) (x4 : Vec Ideal S1x256x512 .f32) (x5 : Vec Ideal S1x6x1024 .f32) (x6 : Vec Ideal S8x320x1024 .bf16) (x7 : Vec Ideal S8x128x1024 .bf16) (x8 : Vec Ideal S32x512 .f32) (x9 : Vec Ideal S8x512 .f32) (p : Fin 256) (d : Fin 1024) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 (ix3 0 p d) = normMod (fun k => x1 (ix3 0 p k)) (x5 (ix3 0 1 d)) (x5 (ix3 0 0 d)) d := by
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9).2.2.1 = [⟨Rect.unit (s := S1x256x1024) ![0, 0, 0] S1x256x1024.size inb_S1x256x1024_S1x256x1024_0_0_0,
      stored (arg3.view.readAt (Elt Ideal) (Rect.unit (s := S1x256x1024) ![0, 0, 0] S1x256x1024.size inb_S1x256x1024_S1x256x1024_0_0_0).toLoadRect (harg3.unread x1))
        (arg7.view.readAt (Elt Ideal) (Rect.unit (s := S1x6x1024) ![0, 0, 0] S1x1x1024.size inb_S1x6x1024_S1x1x1024_0_0_0).toLoadRect (harg7.unread x5))
        (arg7.view.readAt (Elt Ideal) (Rect.unit (s := S1x6x1024) ![0, 1, 0] S1x1x1024.size inb_S1x6x1024_S1x1x1024_0_1_0).toLoadRect (harg7.unread x5))⟩] := rfl
  unfold out0_A_12
  rw [e, TokenSum.stored _ _ _ _ (by decide)]
  exact loaded_at harg3 harg7 x1 x5 p d

/-- The block of the modulated norm at a point inside a sequence. -/
theorem out_B (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x2560 .f32) (harg4 : arg4.IsWhole) (arg5 : Memref sig .tc .vmem S1x256x512 .f32) (harg5 : arg5.IsWhole) (arg6 : Memref sig .tc .vmem S1x256x512 .f32) (harg6 : arg6.IsWhole) (arg7 : Memref sig .tc .vmem S1x6x1024 .f32) (harg7 : arg7.IsWhole) (arg8 : Memref sig .tc .vmem S8x320x1024 .bf16) (harg8 : arg8.IsWhole) (arg9 : Memref sig .tc .vmem S8x128x1024 .bf16) (harg9 : arg9.IsWhole) (arg10 : Memref sig .tc .vmem S32x512 .f32) (harg10 : arg10.IsWhole) (arg11 : Memref sig .tc .vmem S8x512 .f32) (harg11 : arg11.IsWhole) (arg12 : Memref sig .tc .vmem S1x256x1024 .f32) (harg12 : arg12.IsWhole) (arg13 : Memref sig .tc .vmem S1x256x2560 .bf16) (harg13 : arg13.IsWhole) (arg14 : Memref sig .tc .vmem S1x256x1024 .bf16) (harg14 : arg14.IsWhole) (arg15 : Memref sig .tc .vmem S1x8x1024 .f32) (harg15 : arg15.IsWhole) (arg16 : Memref sig .tc .vmem S40x512 .f32) (harg16 : arg16.IsWhole) (arg17 : Memref sig .tc .vmem S288x512 .f32) (harg17 : arg17.IsWhole) (arg18 : Memref sig .tc .vmem S264x512 .f32) (harg18 : arg18.IsWhole) (arg19 : Memref sig .tc .vmem S256x512 .f32) (harg19 : arg19.IsWhole) (arg20 : Memref sig .tc .vmem S256x512 .f32) (harg20 : arg20.IsWhole) (arg21 : Memref sig .tc .vmem S256x512 .f32) (harg21 : arg21.IsWhole) (arg22 : Memref sig .tc .vmem S8x512 .f32) (harg22 : arg22.IsWhole) (arg23 : Memref sig .tc .vmem S7x280x512 .f32) (harg23 : arg23.IsWhole) (hc0 : ¬cond0_0 i) (hc1 : ¬cond0_1 i) (hc2 : cond0_2 i) (hc3 : ¬cond0_3 i)
    (x0 : Vec Ideal S1x256x1024 .f32) (x1 : Vec Ideal S1x256x1024 .f32) (x2 : Vec Ideal S1x256x2560 .f32) (x3 : Vec Ideal S1x256x512 .f32) (x4 : Vec Ideal S1x256x512 .f32) (x5 : Vec Ideal S1x6x1024 .f32) (x6 : Vec Ideal S8x320x1024 .bf16) (x7 : Vec Ideal S8x128x1024 .bf16) (x8 : Vec Ideal S32x512 .f32) (x9 : Vec Ideal S8x512 .f32) (xo13 : Vec Ideal S1x8x1024 .f32) (xs0 : Vec Ideal S288x512 .f32) (xs1 : Vec Ideal S264x512 .f32) (xs4 : Vec Ideal S256x512 .f32) (xs5 : Vec Ideal S8x512 .f32) (p : Fin 256) (d : Fin 1024) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 xo13 xs0 xs1 xs4 xs5 (ix3 0 p d) = normMod (fun k => x1 (ix3 0 p k)) (x5 (ix3 0 1 d)) (x5 (ix3 0 0 d)) d := by
  have e : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 xo13 xs0 xs1 xs4 xs5).2.2.1 = [⟨Rect.unit (s := S1x256x1024) ![0, 0, 0] S1x256x1024.size inb_S1x256x1024_S1x256x1024_0_0_0,
      stored (arg3.view.readAt (Elt Ideal) (Rect.unit (s := S1x256x1024) ![0, 0, 0] S1x256x1024.size inb_S1x256x1024_S1x256x1024_0_0_0).toLoadRect (harg3.unread x1))
        (arg7.view.readAt (Elt Ideal) (Rect.unit (s := S1x6x1024) ![0, 0, 0] S1x1x1024.size inb_S1x6x1024_S1x1x1024_0_0_0).toLoadRect (harg7.unread x5))
        (arg7.view.readAt (Elt Ideal) (Rect.unit (s := S1x6x1024) ![0, 1, 0] S1x1x1024.size inb_S1x6x1024_S1x1x1024_0_1_0).toLoadRect (harg7.unread x5))⟩] := rfl
  unfold out0_B_12
  rw [e, TokenSum.stored _ _ _ _ (by decide)]
  exact loaded_at harg3 harg7 x1 x5 p d

/-- The block of the modulated norm at the first point of the second sequence. -/
theorem out_C (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x2560 .f32) (harg4 : arg4.IsWhole) (arg5 : Memref sig .tc .vmem S1x256x512 .f32) (harg5 : arg5.IsWhole) (arg6 : Memref sig .tc .vmem S1x256x512 .f32) (harg6 : arg6.IsWhole) (arg7 : Memref sig .tc .vmem S1x6x1024 .f32) (harg7 : arg7.IsWhole) (arg8 : Memref sig .tc .vmem S8x320x1024 .bf16) (harg8 : arg8.IsWhole) (arg9 : Memref sig .tc .vmem S8x128x1024 .bf16) (harg9 : arg9.IsWhole) (arg10 : Memref sig .tc .vmem S32x512 .f32) (harg10 : arg10.IsWhole) (arg11 : Memref sig .tc .vmem S8x512 .f32) (harg11 : arg11.IsWhole) (arg12 : Memref sig .tc .vmem S1x256x1024 .f32) (harg12 : arg12.IsWhole) (arg13 : Memref sig .tc .vmem S1x256x2560 .bf16) (harg13 : arg13.IsWhole) (arg14 : Memref sig .tc .vmem S1x256x1024 .bf16) (harg14 : arg14.IsWhole) (arg15 : Memref sig .tc .vmem S1x8x1024 .f32) (harg15 : arg15.IsWhole) (arg16 : Memref sig .tc .vmem S40x512 .f32) (harg16 : arg16.IsWhole) (arg17 : Memref sig .tc .vmem S288x512 .f32) (harg17 : arg17.IsWhole) (arg18 : Memref sig .tc .vmem S264x512 .f32) (harg18 : arg18.IsWhole) (arg19 : Memref sig .tc .vmem S256x512 .f32) (harg19 : arg19.IsWhole) (arg20 : Memref sig .tc .vmem S256x512 .f32) (harg20 : arg20.IsWhole) (arg21 : Memref sig .tc .vmem S256x512 .f32) (harg21 : arg21.IsWhole) (arg22 : Memref sig .tc .vmem S8x512 .f32) (harg22 : arg22.IsWhole) (arg23 : Memref sig .tc .vmem S7x280x512 .f32) (harg23 : arg23.IsWhole) (hc0 : ¬cond0_0 i) (hc1 : cond0_1 i) (hc2 : ¬cond0_2 i) (hc3 : ¬cond0_3 i)
    (x0 : Vec Ideal S1x256x1024 .f32) (x1 : Vec Ideal S1x256x1024 .f32) (x2 : Vec Ideal S1x256x2560 .f32) (x3 : Vec Ideal S1x256x512 .f32) (x4 : Vec Ideal S1x256x512 .f32) (x5 : Vec Ideal S1x6x1024 .f32) (x6 : Vec Ideal S8x320x1024 .bf16) (x7 : Vec Ideal S8x128x1024 .bf16) (x8 : Vec Ideal S32x512 .f32) (x9 : Vec Ideal S8x512 .f32) (xs4 : Vec Ideal S256x512 .f32) (xs5 : Vec Ideal S8x512 .f32) (p : Fin 256) (d : Fin 1024) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 xs4 xs5 (ix3 0 p d) = normMod (fun k => x1 (ix3 0 p k)) (x5 (ix3 0 1 d)) (x5 (ix3 0 0 d)) d := by
  have e : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 xs4 xs5).2.2.1 = [⟨Rect.unit (s := S1x256x1024) ![0, 0, 0] S1x256x1024.size inb_S1x256x1024_S1x256x1024_0_0_0,
      stored (arg3.view.readAt (Elt Ideal) (Rect.unit (s := S1x256x1024) ![0, 0, 0] S1x256x1024.size inb_S1x256x1024_S1x256x1024_0_0_0).toLoadRect (harg3.unread x1))
        (arg7.view.readAt (Elt Ideal) (Rect.unit (s := S1x6x1024) ![0, 0, 0] S1x1x1024.size inb_S1x6x1024_S1x1x1024_0_0_0).toLoadRect (harg7.unread x5))
        (arg7.view.readAt (Elt Ideal) (Rect.unit (s := S1x6x1024) ![0, 1, 0] S1x1x1024.size inb_S1x6x1024_S1x1x1024_0_1_0).toLoadRect (harg7.unread x5))⟩] := rfl
  unfold out0_C_12
  rw [e, TokenSum.stored _ _ _ _ (by decide)]
  exact loaded_at harg3 harg7 x1 x5 p d

/-- The block of the modulated norm at the last grid point. -/
theorem out_D (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x2560 .f32) (harg4 : arg4.IsWhole) (arg5 : Memref sig .tc .vmem S1x256x512 .f32) (harg5 : arg5.IsWhole) (arg6 : Memref sig .tc .vmem S1x256x512 .f32) (harg6 : arg6.IsWhole) (arg7 : Memref sig .tc .vmem S1x6x1024 .f32) (harg7 : arg7.IsWhole) (arg8 : Memref sig .tc .vmem S8x320x1024 .bf16) (harg8 : arg8.IsWhole) (arg9 : Memref sig .tc .vmem S8x128x1024 .bf16) (harg9 : arg9.IsWhole) (arg10 : Memref sig .tc .vmem S32x512 .f32) (harg10 : arg10.IsWhole) (arg11 : Memref sig .tc .vmem S8x512 .f32) (harg11 : arg11.IsWhole) (arg12 : Memref sig .tc .vmem S1x256x1024 .f32) (harg12 : arg12.IsWhole) (arg13 : Memref sig .tc .vmem S1x256x2560 .bf16) (harg13 : arg13.IsWhole) (arg14 : Memref sig .tc .vmem S1x256x1024 .bf16) (harg14 : arg14.IsWhole) (arg15 : Memref sig .tc .vmem S1x8x1024 .f32) (harg15 : arg15.IsWhole) (arg16 : Memref sig .tc .vmem S40x512 .f32) (harg16 : arg16.IsWhole) (arg17 : Memref sig .tc .vmem S288x512 .f32) (harg17 : arg17.IsWhole) (arg18 : Memref sig .tc .vmem S264x512 .f32) (harg18 : arg18.IsWhole) (arg19 : Memref sig .tc .vmem S256x512 .f32) (harg19 : arg19.IsWhole) (arg20 : Memref sig .tc .vmem S256x512 .f32) (harg20 : arg20.IsWhole) (arg21 : Memref sig .tc .vmem S256x512 .f32) (harg21 : arg21.IsWhole) (arg22 : Memref sig .tc .vmem S8x512 .f32) (harg22 : arg22.IsWhole) (arg23 : Memref sig .tc .vmem S7x280x512 .f32) (harg23 : arg23.IsWhole) (hc0 : ¬cond0_0 i) (hc1 : ¬cond0_1 i) (hc2 : cond0_2 i) (hc3 : cond0_3 i)
    (x0 : Vec Ideal S1x256x1024 .f32) (x1 : Vec Ideal S1x256x1024 .f32) (x2 : Vec Ideal S1x256x2560 .f32) (x3 : Vec Ideal S1x256x512 .f32) (x4 : Vec Ideal S1x256x512 .f32) (x5 : Vec Ideal S1x6x1024 .f32) (x6 : Vec Ideal S8x320x1024 .bf16) (x7 : Vec Ideal S8x128x1024 .bf16) (x8 : Vec Ideal S32x512 .f32) (x9 : Vec Ideal S8x512 .f32) (xo13 : Vec Ideal S1x8x1024 .f32) (xs0 : Vec Ideal S288x512 .f32) (xs1 : Vec Ideal S264x512 .f32) (xs4 : Vec Ideal S256x512 .f32) (xs5 : Vec Ideal S8x512 .f32) (p : Fin 256) (d : Fin 1024) :
    out0_D_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 xo13 xs0 xs1 xs4 xs5 (ix3 0 p d) = normMod (fun k => x1 (ix3 0 p k)) (x5 (ix3 0 1 d)) (x5 (ix3 0 0 d)) d := by
  have e : (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 xo13 xs0 xs1 xs4 xs5).2.2.1 = [⟨Rect.unit (s := S1x256x1024) ![0, 0, 0] S1x256x1024.size inb_S1x256x1024_S1x256x1024_0_0_0,
      stored (arg3.view.readAt (Elt Ideal) (Rect.unit (s := S1x256x1024) ![0, 0, 0] S1x256x1024.size inb_S1x256x1024_S1x256x1024_0_0_0).toLoadRect (harg3.unread x1))
        (arg7.view.readAt (Elt Ideal) (Rect.unit (s := S1x6x1024) ![0, 0, 0] S1x1x1024.size inb_S1x6x1024_S1x1x1024_0_0_0).toLoadRect (harg7.unread x5))
        (arg7.view.readAt (Elt Ideal) (Rect.unit (s := S1x6x1024) ![0, 1, 0] S1x1x1024.size inb_S1x6x1024_S1x1x1024_0_1_0).toLoadRect (harg7.unread x5))⟩] := rfl
  unfold out0_D_12
  rw [e, TokenSum.stored _ _ _ _ (by decide)]
  exact loaded_at harg3 harg7 x1 x5 p d

/-- The reference's modulated norm at an entry. -/
theorem ref_at (x1 : S2x4096x1024.Idx → EReal) (x5 : S2x6144.Idx → EReal) (b : Fin 2) (s : Fin 4096) (d : Fin 1024) :
    Cert.Reference11Ideal.Read.val_main_v24 (F := Ideal) x1 x5 (ix3 b s d)
      = normMod (fun k => x1 (ix3 b s k)) (x5 (ix2 b ⟨1024 + d.val, by omega⟩)) (x5 (ix2 b ⟨d.val, by omega⟩)) d := by
  simp only [Cert.Reference11Ideal.Read.val_main_v24_apply, Cert.Reference11Ideal.Read.val_main_v23_apply,
    Cert.Reference11Ideal.Read.val_main_v22_apply, Cert.Reference11Ideal.Read.val_main_v21_apply, Cert.Reference11Ideal.Read.val_main_v20_apply,
    Cert.Reference11Ideal.Read.val_main_v19_apply, Cert.Reference11Ideal.Read.val_main_v18_apply, Cert.Reference11Ideal.Read.val_main_v17_apply,
    Cert.Reference11Ideal.Read.val_main_v16_apply, Cert.Reference11Ideal.Read.val_main_v15_apply, Cert.Reference11Ideal.Read.val_main_v14_apply,
    Cert.Reference11Ideal.Read.val_main_v13_apply, Cert.Reference11Ideal.Read.val_main_v12_apply, Cert.Reference11Ideal.Read.val_main_v11_apply,
    Cert.Reference11Ideal.Read.val_main_v10_apply, Cert.Reference11Ideal.Read.val_main_v9_apply, Cert.Reference11Ideal.Read.val_main_v8_apply,
    Cert.Reference11Ideal.Read.val_main_v7_apply, Cert.Reference11Ideal.Read.val_main_v6_apply, Cert.Reference11Ideal.Read.val_main_v1_apply,
    Cert.Reference11Ideal.Read.val_main_v0_apply, Cert.Reference11Ideal.Read.val_main_cst_apply, Cert.Reference11Ideal.Read.val_main_cst_0_apply,
    Cert.Reference11Ideal.Read.val_main_cst_1_apply, Cert.Reference11Ideal.Read.val_main_cst_2_apply,
    Ideal.addf_def, Ideal.mulf_def, Ideal.ofBits_def, Ideal.hostDivf_def, Ideal.hostUnary_rsqrt_def, ofBits_zero, zero_add]
  have e7 : ∀ k, Cert.Reference11Ideal.Read.idx_main_v7 (Cert.Reference11Ideal.Read.idx_main_v8 (Cert.Reference11Ideal.Read.idx_main_v14 (ix3 b s d))) k = ix3 b s k := fun k => by
    refine Words.ix3_eq _ _ _ _ ?_ ?_ ?_ <;> rfl
  have e1 : Cert.Reference11Ideal.Read.idx_main_v1 (Cert.Reference11Ideal.Read.idx_main_v16 (Cert.Reference11Ideal.Read.idx_main_v19 (ix3 b s d))) = ix2 b ⟨1024 + d.val, by omega⟩ := by
    refine Words.ix2_eq _ _ _ ?_ ?_ <;> rfl
  have e0 : Cert.Reference11Ideal.Read.idx_main_v0 (Cert.Reference11Ideal.Read.idx_main_v21 (Cert.Reference11Ideal.Read.idx_main_v22 (ix3 b s d))) = ix2 b ⟨d.val, by omega⟩ := by
    refine Words.ix2_eq _ _ _ ?_ ?_ <;> rfl
  simp only [e7, e1, e0]
  rw [normMod, ← EReal.coe_one, ← ofBits_one]
  rfl

variable (m : (ℓ : Loc nD τ sig) → Buf (Elt Ideal) ℓ)

/-- The grid has 32 points. -/
theorem N32 (t : Fin cfg0.N) : t.val < 32 := t.isLt

/-- Where the stream's block lies: the tiles of a sequence run backwards. -/
theorem idx1 : ∀ t : Fin cfg0.N, win0_1.index t = ![t.val / 16, 15 - t.val % 16, 0] := (by decide +kernel : ∀ t : Fin grid0.N, _)

/-- Where the modulation's block lies. -/
theorem idx5 : ∀ t : Fin cfg0.N, win0_5.index t = ![t.val / 16, 0, 0] := (by decide +kernel : ∀ t : Fin grid0.N, _)

/-- Where the result's block lies. -/
theorem idx12 : ∀ t : Fin cfg0.N, win0_12.index t = ![t.val / 16, 15 - t.val % 16, 0] := (by decide +kernel : ∀ t : Fin grid0.N, _)

/-- The sequence of point `t`. -/
def sq (t : Fin cfg0.N) : Fin 2 := ⟨t.val / 16, by have := N32 t; omega⟩

/-- The position of row `p` of the tile of point `t`. -/
def pos (t : Fin cfg0.N) (p : Fin 256) : Fin 4096 := ⟨(15 - t.val % 16) * 256 + p.val, by omega⟩

/-- The stream's block. -/
theorem blk1 (c : Dev nD) (t : Fin cfg0.N) (p : Fin 256) (d : Fin 1024) :
    iblk m c 1 t (ix3 0 p d) = (m ((c : Thread nD τ).loc main_arg1) (ix3 (sq t) (pos t p) d) : EReal) := by
  blk_ext [iblk, V, idx1 t, sq, pos]

/-- The modulation as the call reads it: six rows of a sequence. -/
theorem read5 (c : Dev nD) (b : Fin 2) (r : Fin 6) (d : Fin 1024) :
    V m c main_v12 (ix3 b r d) = (m ((c : Thread nD τ).loc main_arg5) (ix2 b ⟨r.val * 1024 + d.val, by omega⟩) : EReal) := by
  unfold V
  simp only [List.flatten_cons, List.flatten_nil, List.append_nil, List.cons_append, List.nil_append, hostOps0, hostOps0_1, hostOps0_2]
  after_reads_at

/-- The modulation's block. -/
theorem blk5 (c : Dev nD) (t : Fin cfg0.N) (r : Fin 6) (d : Fin 1024) :
    iblk m c 5 t (ix3 0 r d) = (m ((c : Thread nD τ).loc main_arg5) (ix2 (sq t) ⟨r.val * 1024 + d.val, by omega⟩) : EReal) := by
  refine Eq.trans ?_ (read5 m c (sq t) r d)
  show V m c main_v12 _ = _
  refine congrArg (V m c main_v12) ?_
  blk_ext [idx5 t, sq]

/-- One entry of the modulated norm from the two arguments. -/
def entry (c : Dev nD) (b : Fin 2) (s : Fin 4096) (d : Fin 1024) : EReal :=
  normMod (fun k => m ((c : Thread nD τ).loc main_arg1) (ix3 b s k)) (m ((c : Thread nD τ).loc main_arg5) (ix2 b ⟨1024 + d.val, by omega⟩))
    (m ((c : Thread nD τ).loc main_arg5) (ix2 b ⟨d.val, by omega⟩)) d

/-- The blocks' arithmetic is the arguments'. -/
theorem entry_blk (c : Dev nD) (t : Fin cfg0.N) (p : Fin 256) (d : Fin 1024) :
    normMod (fun k => iblk m c 1 t (ix3 0 p k)) (iblk m c 5 t (ix3 0 1 d)) (iblk m c 5 t (ix3 0 0 d)) d = entry m c (sq t) (pos t p) d := by
  unfold entry
  rw [blk5 m c t 1 d, blk5 m c t 0 d]
  simp only [blk1 m c t p]
  congr 3
  all_goals exact Fin.ext (by simp)

/-- What the first grid point leaves in the result's block. -/
theorem block_A (c : Dev nD) (t : Fin cfg0.N) (p : Fin 256) (d : Fin 1024) (h0 : t.val % 32 = 0) (h1 : t.val % 16 = 0) (h2 : ¬1 ≤ t.val % 16) (h3 : ¬t.val % 32 = 31) :
    (outsAt0 m c t.val t.isLt).2.2.1 (ix3 0 p d) = entry m c (sq t) (pos t p) d := by
  rw [outsAt0_A m c t h0 h1 h2 h3]
  dsimp only
  rw [out_A]
  exact entry_blk m c t p d

/-- What a point inside a sequence leaves in the result's block. -/
theorem block_B (c : Dev nD) (t : Fin cfg0.N) (p : Fin 256) (d : Fin 1024) (h0 : ¬t.val % 32 = 0) (h1 : ¬t.val % 16 = 0) (h2 : 1 ≤ t.val % 16) (h3 : ¬t.val % 32 = 31) :
    (outsAt0 m c t.val t.isLt).2.2.1 (ix3 0 p d) = entry m c (sq t) (pos t p) d := by
  rw [outsAt0_B m c t h0 h1 h2 h3]
  dsimp only
  rw [out_B]
  exact entry_blk m c t p d

/-- What the first point of the second sequence leaves in the result's block. -/
theorem block_C (c : Dev nD) (t : Fin cfg0.N) (p : Fin 256) (d : Fin 1024) (h0 : ¬t.val % 32 = 0) (h1 : t.val % 16 = 0) (h2 : ¬1 ≤ t.val % 16) (h3 : ¬t.val % 32 = 31) :
    (outsAt0 m c t.val t.isLt).2.2.1 (ix3 0 p d) = entry m c (sq t) (pos t p) d := by
  rw [outsAt0_C m c t h0 h1 h2 h3]
  dsimp only
  rw [out_C]
  exact entry_blk m c t p d

/-- What the last grid point leaves in the result's block. -/
theorem block_D (c : Dev nD) (t : Fin cfg0.N) (p : Fin 256) (d : Fin 1024) (h0 : ¬t.val % 32 = 0) (h1 : ¬t.val % 16 = 0) (h2 : 1 ≤ t.val % 16) (h3 : t.val % 32 = 31) :
    (outsAt0 m c t.val t.isLt).2.2.1 (ix3 0 p d) = entry m c (sq t) (pos t p) d := by
  rw [outsAt0_D m c t h0 h1 h2 h3]
  dsimp only
  rw [out_D]
  exact entry_blk m c t p d

/-- What each grid point leaves in the result's block. -/
theorem block (c : Dev nD) (t : Fin cfg0.N) (p : Fin 256) (d : Fin 1024) :
    (outsAt0 m c t.val t.isLt).2.2.1 (ix3 0 p d) = entry m c (sq t) (pos t p) d := by
  have hN := N32 t
  by_cases h1 : t.val % 16 = 0
  · by_cases h0 : t.val % 32 = 0
    · exact block_A m c t p d h0 h1 (by omega) (by omega)
    · exact block_C m c t p d h0 h1 (by omega) (by omega)
  · by_cases h3 : t.val % 32 = 31
    · exact block_D m c t p d (by omega) h1 (by omega) h3
    · exact block_B m c t p d (by omega) h1 (by omega) h3

/-- Equal coordinates give equal entries. -/
theorem entry_same (c : Dev nD) {b b' : Fin 2} {s s' : Fin 4096} {d d' : Fin 1024} (hb : b.val = b'.val) (hs : s.val = s'.val) (hd : d.val = d'.val) :
    entry m c b s d = entry m c b' s' d' := by
  obtain rfl := Fin.ext hb
  obtain rfl := Fin.ext hs
  obtain rfl := Fin.ext hd
  rfl

/-- The result's array: the modulated norm of every token. -/
theorem result (c : Dev nD) : (dats m 0 c).arrAt 12 cfg0.N = fun i => entry m c (i 0) (i 1) (i 2) := by
  refine (dats m 0 c).arrAt_eq_of_covers 12 _ (by decide +kernel) fun t hf y => ?_
  obtain ⟨a, p, d, rfl⟩ : ∃ (a : Fin 1) (p : Fin 256) (d : Fin 1024), y = ix3 a p d := ⟨y 0, y 1, y 2, by funext i; fin_cases i <;> rfl⟩
  obtain rfl : a = 0 := Subsingleton.elim _ _
  blk_simp
  rw [after0_12]
  refine (block m c t p d).trans ?_
  refine entry_same m c ?_ ?_ ?_
  all_goals (blk_simp [idx12 t]; try simp only [sq, pos]; try first | rfl | omega)

/-- The reference's array is the same. -/
theorem ref_result (c : Dev nD) : Cert.Reference11Ideal.Read.val_main_v24 (F := Ideal) (m ((c : Thread nD τ).loc main_arg1)) (m ((c : Thread nD τ).loc main_arg5))
    = fun i => entry m c (i 0) (i 1) (i 2) := by
  funext i
  obtain ⟨b, s, d, rfl⟩ : ∃ (b : Fin 2) (s : Fin 4096) (d : Fin 1024), i = ix3 b s d := ⟨i 0, i 1, i 2, by funext i; fin_cases i <;> rfl⟩
  exact ref_at _ _ b s d

/-- From equal arguments the call's modulated norm and the reference's are equal arrays. -/
theorem algebraic : Cert.algebraic_Kernel11Ideal_Reference11Ideal := by
  intro m g m' g' _ hagree
  refine ⟨fun c => Cert.Reference11Ideal.Read.val_main_v24 (F := Ideal) (m ((c : Thread nD τ).loc main_arg1)) (m ((c : Thread nD τ).loc main_arg5)),
    (θ_run Cert.Kernel11Ideal.defs _ _).mono (fun r h c => ?_) (Cert.Kernel11Ideal.Value.run_blocks (F := Ideal) m g),
    (θ_run Cert.Reference11Ideal.defs _ _).mono (fun r h c => ?_) (Cert.Reference11Ideal.Value.run (F := Ideal) m' g')⟩
  · obtain ⟨-, -, h12, -, -, hk⟩ := h c
    exact ⟨h12.trans ((result m c).trans (ref_result m c).symm), hk⟩
  · obtain ⟨-, e1, -, -, -, e5, -⟩ := hagree c
    obtain ⟨h24, hk⟩ := h c
    refine ⟨h24.trans ?_, hk⟩
    simp only [e1, e5]
    rfl

end Cert.Mixer11

end
-- ==== Proof.lean ====
module

public import proofs.«01_k».proof.Defs
public import proofs.«01_k».proof.Proof.Arrays
public import proofs.«01_k».proof.Proof.RefRead
public import proofs.«01_k».proof.Proof.Wgrad2
public import proofs.«01_k».proof.Proof.Wgrad3
public import proofs.«01_k».proof.Proof.Adam4
public import proofs.«01_k».proof.Proof.Adam5
public import proofs.«01_k».proof.Proof.Adam6
public import proofs.«01_k».proof.Proof.Adam7
public import proofs.«01_k».proof.Proof.Adam8
public import proofs.«01_k».proof.Proof.Adam9
public import proofs.«01_k».proof.Proof.Adam10
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Mixer11
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.ReferenceIdeal.Read
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent
public import Idealize.ShloMosaic.Lib.Pipeline.ValueKit

/-
  The claims. Of each of the calls: the two frames of the kernel and the frame of the reference, the (empty) list of
  rewrites, and the equality of the results of the kernel and of the reference over the extended reals.
-/

@[expose] public section

set_option maxRecDepth 16384

noncomputable section

namespace Cert.Proof

open Idealize.ShloMosaic Idealize.SL.Sem

/-- The kernel over bit patterns ends, leaves its arguments unchanged and every counter at zero. -/
theorem frame_p : Cert.quiescent_Kernel := fun m ρ _ => Cert.Kernel.Gen.frame m ρ

/-- The kernel over extended reals ends, leaves its arguments unchanged and every counter at zero. -/
theorem frame_pi : Cert.quiescent_KernelIdeal := fun m ρ _ => Cert.KernelIdeal.Gen.frame m ρ

/-- The reference ends, leaves its arguments unchanged and every counter at zero. -/
theorem frame_ri : Cert.quiescent_ReferenceIdeal := fun m ρ _ =>
  (θ_run Cert.ReferenceIdeal.defs _ _).mono (fun r h => ⟨fun c => (h c).2.2.2.2.2.2.2.2,
      Idealize.ShloMosaic.sem_eq_zero_of_no_sems (by decide) r.2⟩)
    (Cert.ReferenceIdeal.Value.run (F := Ideal) m ρ)

section
open Cert.ReferenceIdeal Cert.ReferenceIdeal.Read

/-- Token `s` of sequence `b` at the reference's memory. -/
def rtk (m' : (ℓ : Loc nD τ sig) → Buf (Elt Ideal) ℓ) (c : Dev nD) (b : Fin 2) (s : Fin 4096) : Cert.RowMath.Tok :=
  RefRead.tok (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) b s

/-- Every execution of the reference ends with each result the arithmetic of one token, or its sum over the tokens. -/
theorem run_ref (m' : (ℓ : Loc nD τ sig) → Buf (Elt Ideal) ℓ) (ρ : Dev nD → PrngReg) :
    θ_run (defs (F := Ideal)) (onTc (τ := τ) (main (F := Ideal))) ⟨m', fun _ => 0, ρ⟩ fun r => ∀ c : Dev nD,
      r.2.mem ((c.tc : Thread nD τ).loc main_v131) = (fun i => (rtk m' c (i 0) (i 1)).dx1 (i 2))
      ∧ r.2.mem ((c.tc : Thread nD τ).loc main_v153) = (fun i => (rtk m' c (i 0) (i 1)).h2 (i 2))
      ∧ r.2.mem ((c.tc : Thread nD τ).loc main_v154) = (fun i => (rtk m' c (i 0) (i 1)).dy2 (i 2))
      ∧ r.2.mem ((c.tc : Thread nD τ).loc main_v155) = (fun i => (rtk m' c (i 0) (i 1)).u (i 2))
      ∧ r.2.mem ((c.tc : Thread nD τ).loc main_v156) = (fun i => (rtk m' c (i 0) (i 1)).dz (i 2))
      ∧ r.2.mem ((c.tc : Thread nD τ).loc main_v144) = (fun i => ∑ s : Fin 4096, (rtk m' c (i 0) s).dmod (i 1) (i 2))
      ∧ r.2.mem ((c.tc : Thread nD τ).loc main_v152) = (fun i => ∑ b : Fin 2, ∑ s : Fin 4096, (rtk m' c b s).head (i 0) (i 1))
      ∧ r.2.mem ((c.tc : Thread nD τ).loc main_v157) = (fun i => (rtk m' c (i 0) (i 1)).dy1 (i 2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6) := by
  refine (θ_run defs _ _).mono (fun r h c => ?_) (Cert.ReferenceIdeal.Value.run (F := Ideal) m' ρ)
  obtain ⟨h131, h153, h154, h155, h156, h144, h152, h157, hargs⟩ := h c
  refine ⟨?_, ?_, ?_, ?_, ?_, ?_, ?_, ?_, hargs⟩
  · rw [h131, val_main_v131_eq]; funext i; exact RefRead.v131 _ _ _ _ _ _ _ i
  · rw [h153, val_main_v153_eq]; funext i; exact RefRead.v153 _ _ _ _ _ _ _ i
  · rw [h154, val_main_v154_eq]; funext i; exact RefRead.v154 _ _ _ _ _ _ _ i
  · rw [h155, val_main_v155_eq]; funext i; exact RefRead.v155 _ _ _ _ _ _ _ i
  · rw [h156, val_main_v156_eq]; funext i; exact RefRead.v156 _ _ _ _ _ _ _ i
  · rw [h144, val_main_v144_eq]; funext i; exact RefRead.v144 _ _ _ _ _ _ _ i
  · rw [h152, val_main_v152_eq]; funext i; exact RefRead.v152 _ _ _ _ _ _ _ i
  · rw [h157, val_main_v157_eq]; funext i; exact RefRead.v157 _ _ _ _ _ _ _ i

end

/-- The two programs leave equal results: each side's array is the same arithmetic of the tokens. -/
theorem algebraic : Cert.algebraic_KernelIdeal_ReferenceIdeal := by
  intro m g m' g' _ hagree
  have htk : ∀ c b s, rtk m' c b s = Arrays.tk m c b s := by
    intro c b s
    obtain ⟨h0, h1, h2, h3, h4, h5, h6⟩ := hagree c
    unfold rtk Arrays.tk
    rw [h0, h1, h2, h3, h4, h5, h6]
  refine ⟨fun c => fun i => (Arrays.tk m c (i 0) (i 1)).dx1 (i 2),
    fun c => fun i => (Arrays.tk m c (i 0) (i 1)).h2 (i 2),
    fun c => fun i => (Arrays.tk m c (i 0) (i 1)).dy2 (i 2),
    fun c => fun i => (Arrays.tk m c (i 0) (i 1)).u (i 2),
    fun c => fun i => (Arrays.tk m c (i 0) (i 1)).dz (i 2),
    fun c => fun i => (∑ s : Fin 4096, (Arrays.tk m c (i 0) s).dmod (i 1) (i 2) : EReal),
    fun c => fun i => (∑ b : Fin 2, ∑ s : Fin 4096, (Arrays.tk m c b s).head (i 0) (i 1) : EReal),
    fun c => fun i => (Arrays.tk m c (i 0) (i 1)).dy1 (i 2), ?_, ?_⟩
  · refine (θ_run Cert.KernelIdeal.defs _ _).mono (fun r h c => ?_) (Cert.KernelIdeal.Value.run_blocks (F := Ideal) m g)
    obtain ⟨k0, k1, k2, k3, k4, k5, k6, k7, hargs⟩ := h c
    exact ⟨k0.trans (Arrays.arr7 m c), k1.trans (Arrays.arr8 m c), k2.trans (Arrays.arr9 m c), k3.trans (Arrays.arr10 m c), k4.trans (Arrays.arr11 m c), k5.trans (Arrays.arr12 m c), k6.trans (Arrays.arr13 m c), k7.trans (Arrays.arr14 m c), hargs⟩
  · refine (θ_run Cert.ReferenceIdeal.defs _ _).mono (fun r h c => ?_) (run_ref m' g')
    obtain ⟨k0, k1, k2, k3, k4, k5, k6, k7, hargs⟩ := h c
    exact ⟨k0.trans (funext fun i => congrArg (fun t : Cert.RowMath.Tok => t.dx1 (i 2)) (htk c (i 0) (i 1))),
      k1.trans (funext fun i => congrArg (fun t : Cert.RowMath.Tok => t.h2 (i 2)) (htk c (i 0) (i 1))),
      k2.trans (funext fun i => congrArg (fun t : Cert.RowMath.Tok => t.dy2 (i 2)) (htk c (i 0) (i 1))),
      k3.trans (funext fun i => congrArg (fun t : Cert.RowMath.Tok => t.u (i 2)) (htk c (i 0) (i 1))),
      k4.trans (funext fun i => congrArg (fun t : Cert.RowMath.Tok => t.dz (i 2)) (htk c (i 0) (i 1))),
      k5.trans (funext fun i => Finset.sum_congr rfl fun s _ =>
        congrArg (fun t : Cert.RowMath.Tok => t.dmod (i 1) (i 2)) (htk c (i 0) s)),
      k6.trans (funext fun i => Finset.sum_congr rfl fun b _ => Finset.sum_congr rfl fun s _ =>
        congrArg (fun t : Cert.RowMath.Tok => t.head (i 0) (i 1)) (htk c b s)),
      k7.trans (funext fun i => congrArg (fun t : Cert.RowMath.Tok => t.dy1 (i 2)) (htk c (i 0) (i 1))), hargs⟩

/-- The output projection's gradient over bit patterns ends, leaves its arguments unchanged and every counter at zero. -/
theorem frame_p2 : Cert.quiescent_Kernel2 := fun m ρ _ => Cert.Kernel2.Gen.frame m ρ

/-- The output projection's gradient over extended reals ends, leaves its arguments unchanged and every counter at zero. -/
theorem frame_pi2 : Cert.quiescent_Kernel2Ideal := fun m ρ _ => Cert.Kernel2Ideal.Gen.frame m ρ

/-- Its reference ends, leaves its arguments unchanged and every counter at zero. -/
theorem frame_ri2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- Kernel and reference leave the same array: the sum over the tokens of the products of the two arguments' columns. -/
theorem algebraic2 : Cert.algebraic_Kernel2Ideal_Reference2Ideal := by
  intro m g m' g' _ hagree
  refine ⟨fun c i => Cert.Wgrad2.total m c (i 0) (i 1),
    (θ_run Cert.Kernel2Ideal.defs _ _).mono (fun r h c => ?_) (Cert.Kernel2Ideal.Value.run_blocks (F := Ideal) m g),
    (θ_run Cert.Reference2Ideal.defs _ _).mono (fun r h c => ?_) (Cert.Reference2Ideal.Value.run (F := Ideal) m' g')⟩
  · exact ⟨(h c).1.trans (Cert.Wgrad2.result m c), (h c).2⟩
  · refine ⟨(h c).1.trans ?_, (h c).2⟩
    obtain ⟨h0, h1⟩ := hagree c
    rw [h0, h1]
    funext i
    pointwise
    exact Finset.sum_congr rfl fun b _ => Finset.sum_congr rfl fun s _ => mul_comm (_ : EReal) _

/-- The first MLP weight's gradient over bit patterns ends, leaves its arguments unchanged and every counter at zero. -/
theorem frame_p3 : Cert.quiescent_Kernel3 := fun m ρ _ => Cert.Kernel3.Gen.frame m ρ

/-- The first MLP weight's gradient over extended reals ends, leaves its arguments unchanged and every counter at zero. -/
theorem frame_pi3 : Cert.quiescent_Kernel3Ideal := fun m ρ _ => Cert.Kernel3Ideal.Gen.frame m ρ

/-- Its reference ends, leaves its arguments unchanged and every counter at zero. -/
theorem frame_ri3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- Kernel and reference leave the same array: the sum over the tokens of the products of the two arguments' columns. -/
theorem algebraic3 : Cert.algebraic_Kernel3Ideal_Reference3Ideal := by
  intro m g m' g' _ hagree
  refine ⟨fun c i => Cert.Wgrad3.total m c (i 0) (i 1),
    (θ_run Cert.Kernel3Ideal.defs _ _).mono (fun r h c => ?_) (Cert.Kernel3Ideal.Value.run_blocks (F := Ideal) m g),
    (θ_run Cert.Reference3Ideal.defs _ _).mono (fun r h c => ?_) (Cert.Reference3Ideal.Value.run (F := Ideal) m' g')⟩
  · exact ⟨(h c).1.trans (Cert.Wgrad3.result m c), (h c).2⟩
  · refine ⟨(h c).1.trans ?_, (h c).2⟩
    obtain ⟨h0, h1⟩ := hagree c
    rw [h0, h1]
    funext i
    pointwise
    rfl

/-- The step on the conditioning's projection over bit patterns ends, leaves its arguments unchanged and every counter at zero. -/
theorem frame_p4 : Cert.quiescent_Kernel4 := fun m ρ _ => Cert.Kernel4.Gen.frame m ρ

/-- The step on the conditioning's projection over extended reals ends, leaves its arguments unchanged and every counter at zero. -/
theorem frame_pi4 : Cert.quiescent_Kernel4Ideal := fun m ρ _ => Cert.Kernel4Ideal.Gen.frame m ρ

/-- Its reference ends, leaves its arguments unchanged and every counter at zero. -/
theorem frame_ri4 : Cert.quiescent_Reference4Ideal := fun m ρ _ =>
  (θ_run Cert.Reference4Ideal.defs _ _).mono (fun r h => ⟨fun c => (h c).2.2.2.2,
      Idealize.ShloMosaic.sem_eq_zero_of_no_sems (by decide) r.2⟩)
    (Cert.Reference4Ideal.Value.run (F := Ideal) m ρ)

/-- The step on the input projection over bit patterns ends, leaves its arguments unchanged and every counter at zero. -/
theorem frame_p5 : Cert.quiescent_Kernel5 := fun m ρ _ => Cert.Kernel5.Gen.frame m ρ

/-- The step on the input projection over extended reals ends, leaves its arguments unchanged and every counter at zero. -/
theorem frame_pi5 : Cert.quiescent_Kernel5Ideal := fun m ρ _ => Cert.Kernel5Ideal.Gen.frame m ρ

/-- Its reference ends, leaves its arguments unchanged and every counter at zero. -/
theorem frame_ri5 : Cert.quiescent_Reference5Ideal := fun m ρ _ =>
  (θ_run Cert.Reference5Ideal.defs _ _).mono (fun r h => ⟨fun c => (h c).2.2.2.2,
      Idealize.ShloMosaic.sem_eq_zero_of_no_sems (by decide) r.2⟩)
    (Cert.Reference5Ideal.Value.run (F := Ideal) m ρ)

/-- The step on the output projection over bit patterns ends, leaves its arguments unchanged and every counter at zero. -/
theorem frame_p6 : Cert.quiescent_Kernel6 := fun m ρ _ => Cert.Kernel6.Gen.frame m ρ

/-- The step on the output projection over extended reals ends, leaves its arguments unchanged and every counter at zero. -/
theorem frame_pi6 : Cert.quiescent_Kernel6Ideal := fun m ρ _ => Cert.Kernel6Ideal.Gen.frame m ρ

/-- Its reference ends, leaves its arguments unchanged and every counter at zero. -/
theorem frame_ri6 : Cert.quiescent_Reference6Ideal := fun m ρ _ =>
  (θ_run Cert.Reference6Ideal.defs _ _).mono (fun r h => ⟨fun c => (h c).2.2.2.2,
      Idealize.ShloMosaic.sem_eq_zero_of_no_sems (by decide) r.2⟩)
    (Cert.Reference6Ideal.Value.run (F := Ideal) m ρ)

/-- The step on the first MLP weight over bit patterns ends, leaves its arguments unchanged and every counter at zero. -/
theorem frame_p7 : Cert.quiescent_Kernel7 := fun m ρ _ => Cert.Kernel7.Gen.frame m ρ

/-- The step on the first MLP weight over extended reals ends, leaves its arguments unchanged and every counter at zero. -/
theorem frame_pi7 : Cert.quiescent_Kernel7Ideal := fun m ρ _ => Cert.Kernel7Ideal.Gen.frame m ρ

/-- Its reference ends, leaves its arguments unchanged and every counter at zero. -/
theorem frame_ri7 : Cert.quiescent_Reference7Ideal := fun m ρ _ =>
  (θ_run Cert.Reference7Ideal.defs _ _).mono (fun r h => ⟨fun c => (h c).2.2.2.2,
      Idealize.ShloMosaic.sem_eq_zero_of_no_sems (by decide) r.2⟩)
    (Cert.Reference7Ideal.Value.run (F := Ideal) m ρ)

/-- The step on the second MLP weight over bit patterns ends, leaves its arguments unchanged and every counter at zero. -/
theorem frame_p8 : Cert.quiescent_Kernel8 := fun m ρ _ => Cert.Kernel8.Gen.frame m ρ

/-- The step on the second MLP weight over extended reals ends, leaves its arguments unchanged and every counter at zero. -/
theorem frame_pi8 : Cert.quiescent_Kernel8Ideal := fun m ρ _ => Cert.Kernel8Ideal.Gen.frame m ρ

/-- Its reference ends, leaves its arguments unchanged and every counter at zero. -/
theorem frame_ri8 : Cert.quiescent_Reference8Ideal := fun m ρ _ =>
  (θ_run Cert.Reference8Ideal.defs _ _).mono (fun r h => ⟨fun c => (h c).2.2.2.2,
      Idealize.ShloMosaic.sem_eq_zero_of_no_sems (by decide) r.2⟩)
    (Cert.Reference8Ideal.Value.run (F := Ideal) m ρ)

/-- The step on the first four small parameters over bit patterns ends, leaves its arguments unchanged and every counter at zero. -/
theorem frame_p9 : Cert.quiescent_Kernel9 := fun m ρ _ => Cert.Kernel9.Gen.frame m ρ

/-- The step on the first four small parameters over extended reals ends, leaves its arguments unchanged and every counter at zero. -/
theorem frame_pi9 : Cert.quiescent_Kernel9Ideal := fun m ρ _ => Cert.Kernel9Ideal.Gen.frame m ρ

/-- Its reference ends, leaves its arguments unchanged and every counter at zero. -/
theorem frame_ri9 : Cert.quiescent_Reference9Ideal := fun m ρ _ =>
  (θ_run Cert.Reference9Ideal.defs _ _).mono (fun r h => ⟨fun c => (h c).2.2.2.2.2.2.2.2.2.2.2.2,
      Idealize.ShloMosaic.sem_eq_zero_of_no_sems (by decide) r.2⟩)
    (Cert.Reference9Ideal.Value.run (F := Ideal) m ρ)

/-- The step on the last three small parameters over bit patterns ends, leaves its arguments unchanged and every counter at zero. -/
theorem frame_p10 : Cert.quiescent_Kernel10 := fun m ρ _ => Cert.Kernel10.Gen.frame m ρ

/-- The step on the last three small parameters over extended reals ends, leaves its arguments unchanged and every counter at zero. -/
theorem frame_pi10 : Cert.quiescent_Kernel10Ideal := fun m ρ _ => Cert.Kernel10Ideal.Gen.frame m ρ

/-- Its reference ends, leaves its arguments unchanged and every counter at zero. -/
theorem frame_ri10 : Cert.quiescent_Reference10Ideal := fun m ρ _ =>
  (θ_run Cert.Reference10Ideal.defs _ _).mono (fun r h => ⟨fun c => (h c).2.2.2.2.2.2.2.2.2,
      Idealize.ShloMosaic.sem_eq_zero_of_no_sems (by decide) r.2⟩)
    (Cert.Reference10Ideal.Value.run (F := Ideal) m ρ)

/-- The mixer's backward call over bit patterns ends, leaves its arguments unchanged and every counter at zero. -/
theorem frame_p11 : Cert.quiescent_Kernel11 := fun m ρ _ => Cert.Kernel11.Gen.frame m ρ

/-- The mixer's backward call over extended reals ends, leaves its arguments unchanged and every counter at zero. -/
theorem frame_pi11 : Cert.quiescent_Kernel11Ideal := fun m ρ _ => Cert.Kernel11Ideal.Gen.frame m ρ

/-- Its reference ends, leaves its arguments unchanged and every counter at zero. -/
theorem frame_ri11 : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run (F := Ideal) m ρ)

/-- The proof of every claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  frame_p, frame_pi, frame_ri,
  frame_p2, frame_pi2, frame_ri2,
  frame_p3, frame_pi3, frame_ri3,
  frame_p4, frame_pi4, frame_ri4,
  frame_p5, frame_pi5, frame_ri5,
  frame_p6, frame_pi6, frame_ri6,
  frame_p7, frame_pi7, frame_ri7,
  frame_p8, frame_pi8, frame_ri8,
  frame_p9, frame_pi9, frame_ri9,
  frame_p10, frame_pi10, frame_ri10,
  frame_p11, frame_pi11, frame_ri11,
  trivial, algebraic, trivial, algebraic2, trivial, algebraic3, trivial, Cert.Adam4.algebraic, trivial, Cert.Adam5.algebraic, trivial, Cert.Adam6.algebraic, trivial, Cert.Adam7.algebraic, trivial, Cert.Adam8.algebraic, trivial, Cert.Adam9.algebraic, trivial, Cert.Adam10.algebraic, trivial, Cert.Mixer11.algebraic⟩

end Cert.Proof

end
